-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_Receive (m : (ℓ : Loc Cert.Receive.nD Cert.Receive.τ Cert.Receive.sig) → Buf (Elt Bits) ℓ) : Prop :=
  True

def Pre_ReceiveIdeal (m : (ℓ : Loc Cert.ReceiveIdeal.nD Cert.ReceiveIdeal.τ Cert.ReceiveIdeal.sig) → Buf (Elt Ideal) ℓ) : Prop :=
  True

def Pre_ReceiveReferenceIdeal (m : (ℓ : Loc Cert.ReceiveReferenceIdeal.nD Cert.ReceiveReferenceIdeal.τ Cert.ReceiveReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2)
      ∧ r.2.mem ((c.tc : Thread Cert.DownReferenceIdeal.nD Cert.DownReferenceIdeal.τ).loc Cert.DownReferenceIdeal.main_arg3) = m ((c.tc : Thread Cert.DownReferenceIdeal.nD Cert.DownReferenceIdeal.τ).loc Cert.DownReferenceIdeal.main_arg3))
      ∧ r.2.sem = fun _ => 0)

def quiescent_Receive [hReceive : Cert.Receive.Facts] : Prop :=
  ∀ (m : (ℓ : Loc Cert.Receive.nD Cert.Receive.τ Cert.Receive.sig) → Buf (Elt Bits) ℓ) (g : Dev Cert.Receive.nD → PrngReg), Pre_Receive m →
    θ_run (Cert.Receive.defs (F := Bits)) (onTc (τ := Cert.Receive.τ) (Cert.Receive.main (F := Bits))) ⟨m, fun _ => 0, g⟩ (fun r => (∀ c : Dev Cert.Receive.nD,
      r.2.mem ((c.tc : Thread Cert.Receive.nD Cert.Receive.τ).loc Cert.Receive.main_arg0) = m ((c.tc : Thread Cert.Receive.nD Cert.Receive.τ).loc Cert.Receive.main_arg0)
      ∧ r.2.mem ((c.tc : Thread Cert.Receive.nD Cert.Receive.τ).loc Cert.Receive.main_arg1) = m ((c.tc : Thread Cert.Receive.nD Cert.Receive.τ).loc Cert.Receive.main_arg1)
      ∧ r.2.mem ((c.tc : Thread Cert.Receive.nD Cert.Receive.τ).loc Cert.Receive.main_arg2) = m ((c.tc : Thread Cert.Receive.nD Cert.Receive.τ).loc Cert.Receive.main_arg2)
      ∧ r.2.mem ((c.tc : Thread Cert.Receive.nD Cert.Receive.τ).loc Cert.Receive.main_arg3) = m ((c.tc : Thread Cert.Receive.nD Cert.Receive.τ).loc Cert.Receive.main_arg3))
      ∧ r.2.sem = fun _ => 0)

def quiescent_ReceiveIdeal [hReceiveIdeal : Cert.ReceiveIdeal.Facts] : Prop :=
  ∀ (m : (ℓ : Loc Cert.ReceiveIdeal.nD Cert.ReceiveIdeal.τ Cert.ReceiveIdeal.sig) → Buf (Elt Ideal) ℓ) (g : Dev Cert.ReceiveIdeal.nD → PrngReg), Pre_ReceiveIdeal m →
    θ_run (Cert.ReceiveIdeal.defs (F := Ideal)) (onTc (τ := Cert.ReceiveIdeal.τ) (Cert.ReceiveIdeal.main (F := Ideal))) ⟨m, fun _ => 0, g⟩ (fun r => (∀ c : Dev Cert.ReceiveIdeal.nD,
      r.2.mem ((c.tc : Thread Cert.ReceiveIdeal.nD Cert.ReceiveIdeal.τ).loc Cert.ReceiveIdeal.main_arg0) = m ((c.tc : Thread Cert.ReceiveIdeal.nD Cert.ReceiveIdeal.τ).loc Cert.ReceiveIdeal.main_arg0)
      ∧ r.2.mem ((c.tc : Thread Cert.ReceiveIdeal.nD Cert.ReceiveIdeal.τ).loc Cert.ReceiveIdeal.main_arg1) = m ((c.tc : Thread Cert.ReceiveIdeal.nD Cert.ReceiveIdeal.τ).loc Cert.ReceiveIdeal.main_arg1)
      ∧ r.2.mem ((c.tc : Thread Cert.ReceiveIdeal.nD Cert.ReceiveIdeal.τ).loc Cert.ReceiveIdeal.main_arg2) = m ((c.tc : Thread Cert.ReceiveIdeal.nD Cert.ReceiveIdeal.τ).loc Cert.ReceiveIdeal.main_arg2)
      ∧ r.2.mem ((c.tc : Thread Cert.ReceiveIdeal.nD Cert.ReceiveIdeal.τ).loc Cert.ReceiveIdeal.main_arg3) = m ((c.tc : Thread Cert.ReceiveIdeal.nD Cert.ReceiveIdeal.τ).loc Cert.ReceiveIdeal.main_arg3))
      ∧ r.2.sem = fun _ => 0)

def quiescent_ReceiveReferenceIdeal [hReceiveReferenceIdeal : Cert.ReceiveReferenceIdeal.Facts] : Prop :=
  ∀ (m : (ℓ : Loc Cert.ReceiveReferenceIdeal.nD Cert.ReceiveReferenceIdeal.τ Cert.ReceiveReferenceIdeal.sig) → Buf (Elt Ideal) ℓ) (g : Dev Cert.ReceiveReferenceIdeal.nD → PrngReg), Pre_ReceiveReferenceIdeal m →
    θ_run (Cert.ReceiveReferenceIdeal.defs (F := Ideal)) (onTc (τ := Cert.ReceiveReferenceIdeal.τ) (Cert.ReceiveReferenceIdeal.main (F := Ideal))) ⟨m, fun _ => 0, g⟩ (fun r => (∀ c : Dev Cert.ReceiveReferenceIdeal.nD,
      r.2.mem ((c.tc : Thread Cert.ReceiveReferenceIdeal.nD Cert.ReceiveReferenceIdeal.τ).loc Cert.ReceiveReferenceIdeal.main_arg0) = m ((c.tc : Thread Cert.ReceiveReferenceIdeal.nD Cert.ReceiveReferenceIdeal.τ).loc Cert.ReceiveReferenceIdeal.main_arg0)
      ∧ r.2.mem ((c.tc : Thread Cert.ReceiveReferenceIdeal.nD Cert.ReceiveReferenceIdeal.τ).loc Cert.ReceiveReferenceIdeal.main_arg1) = m ((c.tc : Thread Cert.ReceiveReferenceIdeal.nD Cert.ReceiveReferenceIdeal.τ).loc Cert.ReceiveReferenceIdeal.main_arg1)
      ∧ r.2.mem ((c.tc : Thread Cert.ReceiveReferenceIdeal.nD Cert.ReceiveReferenceIdeal.τ).loc Cert.ReceiveReferenceIdeal.main_arg2) = m ((c.tc : Thread Cert.ReceiveReferenceIdeal.nD Cert.ReceiveReferenceIdeal.τ).loc Cert.ReceiveReferenceIdeal.main_arg2)
      ∧ r.2.mem ((c.tc : Thread Cert.ReceiveReferenceIdeal.nD Cert.ReceiveReferenceIdeal.τ).loc Cert.ReceiveReferenceIdeal.main_arg3) = m ((c.tc : Thread Cert.ReceiveReferenceIdeal.nD Cert.ReceiveReferenceIdeal.τ).loc Cert.ReceiveReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)
      ∧ m' ((c.tc : Thread Cert.DownReferenceIdeal.nD Cert.DownReferenceIdeal.τ).loc Cert.DownReferenceIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v1_0)) (v1 : (c : Dev Cert.DownIdeal.nD) → Buf (Elt Ideal) ((c.tc : Thread Cert.DownIdeal.nD Cert.DownIdeal.τ).loc Cert.DownIdeal.main_v1_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1_0) = v0 c
          ∧ r.2.mem ((c.tc : Thread Cert.DownIdeal.nD Cert.DownIdeal.τ).loc Cert.DownIdeal.main_v1_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0_0) = v0 c
          ∧ r.2.mem ((c.tc : Thread Cert.DownReferenceIdeal.nD Cert.DownReferenceIdeal.τ).loc Cert.DownReferenceIdeal.main_v0_1) = v1 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2)
          ∧ r.2.mem ((c.tc : Thread Cert.DownReferenceIdeal.nD Cert.DownReferenceIdeal.τ).loc Cert.DownReferenceIdeal.main_arg3) = m' ((c.tc : Thread Cert.DownReferenceIdeal.nD Cert.DownReferenceIdeal.τ).loc Cert.DownReferenceIdeal.main_arg3))

def preserves_Receive_ReceiveIdeal : Prop :=
  True

def algebraic_ReceiveIdeal_ReceiveReferenceIdeal [hReceiveIdeal : Cert.ReceiveIdeal.Facts] [hReceiveReferenceIdeal : Cert.ReceiveReferenceIdeal.Facts] : Prop :=
  ∀ (m : (ℓ : Loc Cert.ReceiveIdeal.nD Cert.ReceiveIdeal.τ Cert.ReceiveIdeal.sig) → Buf (Elt Ideal) ℓ) (g : Dev Cert.ReceiveIdeal.nD → PrngReg)
    (m' : (ℓ : Loc Cert.ReceiveReferenceIdeal.nD Cert.ReceiveReferenceIdeal.τ Cert.ReceiveReferenceIdeal.sig) → Buf (Elt Ideal) ℓ) (g' : Dev Cert.ReceiveReferenceIdeal.nD → PrngReg), Pre_ReceiveIdeal m →
    (∀ c : Dev Cert.ReceiveIdeal.nD,
      m' ((c.tc : Thread Cert.ReceiveReferenceIdeal.nD Cert.ReceiveReferenceIdeal.τ).loc Cert.ReceiveReferenceIdeal.main_arg0) = m ((c.tc : Thread Cert.ReceiveIdeal.nD Cert.ReceiveIdeal.τ).loc Cert.ReceiveIdeal.main_arg0)
      ∧ m' ((c.tc : Thread Cert.ReceiveReferenceIdeal.nD Cert.ReceiveReferenceIdeal.τ).loc Cert.ReceiveReferenceIdeal.main_arg1) = m ((c.tc : Thread Cert.ReceiveIdeal.nD Cert.ReceiveIdeal.τ).loc Cert.ReceiveIdeal.main_arg1)
      ∧ m' ((c.tc : Thread Cert.ReceiveReferenceIdeal.nD Cert.ReceiveReferenceIdeal.τ).loc Cert.ReceiveReferenceIdeal.main_arg2) = m ((c.tc : Thread Cert.ReceiveIdeal.nD Cert.ReceiveIdeal.τ).loc Cert.ReceiveIdeal.main_arg2)
      ∧ m' ((c.tc : Thread Cert.ReceiveReferenceIdeal.nD Cert.ReceiveReferenceIdeal.τ).loc Cert.ReceiveReferenceIdeal.main_arg3) = m ((c.tc : Thread Cert.ReceiveIdeal.nD Cert.ReceiveIdeal.τ).loc Cert.ReceiveIdeal.main_arg3)) →
    ∃ (v0 : (c : Dev Cert.ReceiveIdeal.nD) → Buf (Elt Ideal) ((c.tc : Thread Cert.ReceiveIdeal.nD Cert.ReceiveIdeal.τ).loc Cert.ReceiveIdeal.main_v1_0)) (v1 : (c : Dev Cert.ReceiveIdeal.nD) → Buf (Elt Ideal) ((c.tc : Thread Cert.ReceiveIdeal.nD Cert.ReceiveIdeal.τ).loc Cert.ReceiveIdeal.main_v1_1)) (v2 : (c : Dev Cert.ReceiveIdeal.nD) → Buf (Elt Ideal) ((c.tc : Thread Cert.ReceiveIdeal.nD Cert.ReceiveIdeal.τ).loc Cert.ReceiveIdeal.main_v1_2)),
      θ_run (Cert.ReceiveIdeal.defs (F := Ideal)) (onTc (τ := Cert.ReceiveIdeal.τ) (Cert.ReceiveIdeal.main (F := Ideal))) ⟨m, fun _ => 0, g⟩ (fun r => ∀ c : Dev Cert.ReceiveIdeal.nD,
          r.2.mem ((c.tc : Thread Cert.ReceiveIdeal.nD Cert.ReceiveIdeal.τ).loc Cert.ReceiveIdeal.main_v1_0) = v0 c
          ∧ r.2.mem ((c.tc : Thread Cert.ReceiveIdeal.nD Cert.ReceiveIdeal.τ).loc Cert.ReceiveIdeal.main_v1_1) = v1 c
          ∧ r.2.mem ((c.tc : Thread Cert.ReceiveIdeal.nD Cert.ReceiveIdeal.τ).loc Cert.ReceiveIdeal.main_v1_2) = v2 c
          ∧ r.2.mem ((c.tc : Thread Cert.ReceiveIdeal.nD Cert.ReceiveIdeal.τ).loc Cert.ReceiveIdeal.main_arg0) = m ((c.tc : Thread Cert.ReceiveIdeal.nD Cert.ReceiveIdeal.τ).loc Cert.ReceiveIdeal.main_arg0)
          ∧ r.2.mem ((c.tc : Thread Cert.ReceiveIdeal.nD Cert.ReceiveIdeal.τ).loc Cert.ReceiveIdeal.main_arg1) = m ((c.tc : Thread Cert.ReceiveIdeal.nD Cert.ReceiveIdeal.τ).loc Cert.ReceiveIdeal.main_arg1)
          ∧ r.2.mem ((c.tc : Thread Cert.ReceiveIdeal.nD Cert.ReceiveIdeal.τ).loc Cert.ReceiveIdeal.main_arg2) = m ((c.tc : Thread Cert.ReceiveIdeal.nD Cert.ReceiveIdeal.τ).loc Cert.ReceiveIdeal.main_arg2)
          ∧ r.2.mem ((c.tc : Thread Cert.ReceiveIdeal.nD Cert.ReceiveIdeal.τ).loc Cert.ReceiveIdeal.main_arg3) = m ((c.tc : Thread Cert.ReceiveIdeal.nD Cert.ReceiveIdeal.τ).loc Cert.ReceiveIdeal.main_arg3))
      ∧ θ_run (Cert.ReceiveReferenceIdeal.defs (F := Ideal)) (onTc (τ := Cert.ReceiveReferenceIdeal.τ) (Cert.ReceiveReferenceIdeal.main (F := Ideal))) ⟨m', fun _ => 0, g'⟩ (fun r => ∀ c : Dev Cert.ReceiveReferenceIdeal.nD,
          r.2.mem ((c.tc : Thread Cert.ReceiveReferenceIdeal.nD Cert.ReceiveReferenceIdeal.τ).loc Cert.ReceiveReferenceIdeal.main_v0_0) = v0 c
          ∧ r.2.mem ((c.tc : Thread Cert.ReceiveReferenceIdeal.nD Cert.ReceiveReferenceIdeal.τ).loc Cert.ReceiveReferenceIdeal.main_v0_1) = v1 c
          ∧ r.2.mem ((c.tc : Thread Cert.ReceiveReferenceIdeal.nD Cert.ReceiveReferenceIdeal.τ).loc Cert.ReceiveReferenceIdeal.main_v0_2) = v2 c
          ∧ r.2.mem ((c.tc : Thread Cert.ReceiveReferenceIdeal.nD Cert.ReceiveReferenceIdeal.τ).loc Cert.ReceiveReferenceIdeal.main_arg0) = m' ((c.tc : Thread Cert.ReceiveReferenceIdeal.nD Cert.ReceiveReferenceIdeal.τ).loc Cert.ReceiveReferenceIdeal.main_arg0)
          ∧ r.2.mem ((c.tc : Thread Cert.ReceiveReferenceIdeal.nD Cert.ReceiveReferenceIdeal.τ).loc Cert.ReceiveReferenceIdeal.main_arg1) = m' ((c.tc : Thread Cert.ReceiveReferenceIdeal.nD Cert.ReceiveReferenceIdeal.τ).loc Cert.ReceiveReferenceIdeal.main_arg1)
          ∧ r.2.mem ((c.tc : Thread Cert.ReceiveReferenceIdeal.nD Cert.ReceiveReferenceIdeal.τ).loc Cert.ReceiveReferenceIdeal.main_arg2) = m' ((c.tc : Thread Cert.ReceiveReferenceIdeal.nD Cert.ReceiveReferenceIdeal.τ).loc Cert.ReceiveReferenceIdeal.main_arg2)
          ∧ r.2.mem ((c.tc : Thread Cert.ReceiveReferenceIdeal.nD Cert.ReceiveReferenceIdeal.τ).loc Cert.ReceiveReferenceIdeal.main_arg3) = m' ((c.tc : Thread Cert.ReceiveReferenceIdeal.nD Cert.ReceiveReferenceIdeal.τ).loc Cert.ReceiveReferenceIdeal.main_arg3))

def Claim : Prop :=
  ∃ (hKernel : Cert.Kernel.Facts) (hKernelIdeal : Cert.KernelIdeal.Facts) (hReferenceIdeal : Cert.ReferenceIdeal.Facts) (hDown : Cert.Down.Facts) (hDownIdeal : Cert.DownIdeal.Facts) (hDownReferenceIdeal : Cert.DownReferenceIdeal.Facts) (hReceive : Cert.Receive.Facts) (hReceiveIdeal : Cert.ReceiveIdeal.Facts) (hReceiveReferenceIdeal : Cert.ReceiveReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Down (hDown := hDown)
    ∧ quiescent_DownIdeal (hDownIdeal := hDownIdeal)
    ∧ quiescent_DownReferenceIdeal (hDownReferenceIdeal := hDownReferenceIdeal)
    ∧ quiescent_Receive (hReceive := hReceive)
    ∧ quiescent_ReceiveIdeal (hReceiveIdeal := hReceiveIdeal)
    ∧ quiescent_ReceiveReferenceIdeal (hReceiveReferenceIdeal := hReceiveReferenceIdeal)
    ∧ preserves_Kernel_KernelIdeal
    ∧ algebraic_KernelIdeal_ReferenceIdeal (hKernelIdeal := hKernelIdeal) (hReferenceIdeal := hReferenceIdeal)
    ∧ preserves_Down_DownIdeal
    ∧ algebraic_DownIdeal_DownReferenceIdeal (hDownIdeal := hDownIdeal) (hDownReferenceIdeal := hDownReferenceIdeal)
    ∧ preserves_Receive_ReceiveIdeal
    ∧ algebraic_ReceiveIdeal_ReceiveReferenceIdeal (hReceiveIdeal := hReceiveIdeal) (hReceiveReferenceIdeal := hReceiveReferenceIdeal)
-- ==== Kernel.lean ====
abbrev S8x480x12288 : Shape := ⟨3, ![8, 480, 12288]⟩
abbrev S8x480x1 : Shape := ⟨3, ![8, 480, 1]⟩
abbrev S12288x3584 : Shape := ⟨2, ![12288, 3584]⟩
abbrev S3584 : Shape := ⟨1, ![3584]⟩
abbrev S1x3584 : Shape := ⟨2, ![1, 3584]⟩
abbrev S8x480x3584 : Shape := ⟨3, ![8, 480, 3584]⟩
abbrev S1x480x12288 : Shape := ⟨3, ![1, 480, 12288]⟩
abbrev S1x480x1 : Shape := ⟨3, ![1, 480, 1]⟩
abbrev S12288x256 : Shape := ⟨2, ![12288, 256]⟩
abbrev S1x256 : Shape := ⟨2, ![1, 256]⟩
abbrev S1x480x3584 : Shape := ⟨3, ![1, 480, 3584]⟩
abbrev S14x480x256 : Shape := ⟨3, ![14, 480, 256]⟩
abbrev S480x1 : Shape := ⟨2, ![480, 1]⟩
abbrev S480x12288 : Shape := ⟨2, ![480, 12288]⟩
abbrev S480x256 : Shape := ⟨2, ![480, 256]⟩
abbrev S1x480x256 : Shape := ⟨3, ![1, 480, 256]⟩
abbrev S480 : Shape := ⟨1, ![480]⟩

abbrev nBuf : Space → Nat
  | .hbm => 10
  | .vmem => 18
  | .smem => 0
  | _ => 0

abbrev bufTy : (tb : Table) → Fin (tcTables nBuf tb) → BufTy
  | .hbm, ⟨0, _⟩ => ⟨S8x480x12288, .fp8e4m3⟩
  | .hbm, ⟨1, _⟩ => ⟨S8x480x1, .f32⟩
  | .hbm, ⟨2, _⟩ => ⟨S12288x3584, .fp8e4m3⟩
  | .hbm, ⟨3, _⟩ => ⟨S12288x3584, .fp8e4m3⟩
  | .hbm, ⟨4, _⟩ => ⟨S3584, .f32⟩
  | .hbm, ⟨5, _⟩ => ⟨S3584, .f32⟩
  | .hbm, ⟨6, _⟩ => ⟨S1x3584, .f32⟩
  | .hbm, ⟨7, _⟩ => ⟨S1x3584, .f32⟩
  | .hbm, ⟨8, _⟩ => ⟨S8x480x3584, .fp8e4m3⟩
  | .hbm, ⟨9, _⟩ => ⟨S8x480x1, .f32⟩
  | .local _ .vmem, ⟨0, _⟩ => ⟨S1x480x12288, .fp8e4m3⟩
  | .local _ .vmem, ⟨1, _⟩ => ⟨S1x480x12288, .fp8e4m3⟩
  | .local _ .vmem, ⟨2, _⟩ => ⟨S1x480x1, .f32⟩
  | .local _ .vmem, ⟨3, _⟩ => ⟨S1x480x1, .f32⟩
  | .local _ .vmem, ⟨4, _⟩ => ⟨S12288x256, .fp8e4m3⟩
  | .local _ .vmem, ⟨5, _⟩ => ⟨S12288x256, .fp8e4m3⟩
  | .local _ .vmem, ⟨6, _⟩ => ⟨S12288x256, .fp8e4m3⟩
  | .local _ .vmem, ⟨7, _⟩ => ⟨S12288x256, .fp8e4m3⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x480x3584, .fp8e4m3⟩
  | .local _ .vmem, ⟨13, _⟩ => ⟨S1x480x3584, .fp8e4m3⟩
  | .local _ .vmem, ⟨14, _⟩ => ⟨S1x480x1, .f32⟩
  | .local _ .vmem, ⟨15, _⟩ => ⟨S1x480x1, .f32⟩
  | .local _ .vmem, ⟨16, _⟩ => ⟨S14x480x256, .f32⟩
  | .local _ .vmem, ⟨17, _⟩ => ⟨S480x1, .f32⟩
  | _, _ => ⟨S8x480x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 14], ![false, false]⟩

def k0_off1 (i : grid0.Coords) : Fin 3 → Nat :=
  let arg1 : BitVec 32 := BitVec.ofNat 32 (i 1).val
  let v23 : Index := Scalar.indexCast arg1
  let c0_14 : Index := 0#32
  let c0_15 : Index := 0#32
  ![v23.toNat, 0, 0]
def k0_cond3 (i : grid0.Coords) : BitVec 1 :=
  let arg1 : BitVec 32 := BitVec.ofNat 32 (i 1).val
  let c13_i32 : BitVec 32 := 13#32
  let v36 : BitVec 1 := Scalar.cmpi .eq arg1 c13_i32
  let v37 : BitVec 32 := Scalar.extui v36
  let c0_i32_20 : BitVec 32 := 0#32
  let v38 : BitVec 1 := Scalar.cmpi .ne v37 c0_i32_20
  v38

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x480x12288 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x480x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S12288x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S12288x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x480x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x480x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8x480x12288 : Shape := ⟨3, ![8, 480, 12288]⟩
abbrev S8x480x1 : Shape := ⟨3, ![8, 480, 1]⟩
abbrev S12288x3584 : Shape := ⟨2, ![12288, 3584]⟩
abbrev S3584 : Shape := ⟨1, ![3584]⟩
abbrev S8x480x3584 : Shape := ⟨3, ![8, 480, 3584]⟩
abbrev S1x1x3584 : Shape := ⟨3, ![1, 1, 3584]⟩
abbrev S8x480 : Shape := ⟨2, ![8, 480]⟩

abbrev nBuf : Space → Nat
  | .hbm => 8
  | .vmem => 8
  | .smem => 0
  | _ => 0

abbrev bufTy : (tb : Table) → Fin (tcTables nBuf tb) → BufTy
  | .hbm, ⟨0, _⟩ => ⟨S8x480x12288, .fp8e4m3⟩
  | .hbm, ⟨1, _⟩ => ⟨S8x480x1, .f32⟩
  | .hbm, ⟨2, _⟩ => ⟨S12288x3584, .fp8e4m3⟩
  | .hbm, ⟨3, _⟩ => ⟨S12288x3584, .fp8e4m3⟩
  | .hbm, ⟨4, _⟩ => ⟨S3584, .f32⟩
  | .hbm, ⟨5, _⟩ => ⟨S3584, .f32⟩
  | .hbm, ⟨6, _⟩ => ⟨S8x480x3584, .fp8e4m3⟩
  | .hbm, ⟨7, _⟩ => ⟨S8x480x1, .f32⟩
  | .local _ .vmem, ⟨0, _⟩ => ⟨S8x480x12288, .fp8e4m3⟩
  | .local _ .vmem, ⟨1, _⟩ => ⟨S8x480x1, .f32⟩
  | .local _ .vmem, ⟨2, _⟩ => ⟨S12288x3584, .fp8e4m3⟩
  | .local _ .vmem, ⟨3, _⟩ => ⟨S12288x3584, .fp8e4m3⟩
  | .local _ .vmem, ⟨4, _⟩ => ⟨S3584, .f32⟩
  | .local _ .vmem, ⟨5, _⟩ => ⟨S3584, .f32⟩
  | .local _ .vmem, ⟨6, _⟩ => ⟨S8x480x3584, .fp8e4m3⟩
  | .local _ .vmem, ⟨7, _⟩ => ⟨S8x480x1, .f32⟩
  | _, _ => ⟨S8x480x12288, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8x480x12288 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x480x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x480x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x480x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Down.lean ====
abbrev S8x480x3584 : Shape := ⟨3, ![8, 480, 3584]⟩
abbrev S8x480x1 : Shape := ⟨3, ![8, 480, 1]⟩
abbrev S3584x12288 : Shape := ⟨2, ![3584, 12288]⟩
abbrev S12288 : Shape := ⟨1, ![12288]⟩
abbrev S1x12288 : Shape := ⟨2, ![1, 12288]⟩
abbrev S8x480x12288 : Shape := ⟨3, ![8, 480, 12288]⟩
abbrev S8x480x96 : Shape := ⟨3, ![8, 480, 96]⟩
abbrev S1x480x3584 : Shape := ⟨3, ![1, 480, 3584]⟩
abbrev S1x480x1 : Shape := ⟨3, ![1, 480, 1]⟩
abbrev S3584x512 : Shape := ⟨2, ![3584, 512]⟩
abbrev S1x512 : Shape := ⟨2, ![1, 512]⟩
abbrev S1x480x512 : Shape := ⟨3, ![1, 480, 512]⟩
abbrev S1x480x96 : Shape := ⟨3, ![1, 480, 96]⟩
abbrev S480x3584 : Shape := ⟨2, ![480, 3584]⟩
abbrev S480x512 : Shape := ⟨2, ![480, 512]⟩
abbrev S480x1 : Shape := ⟨2, ![480, 1]⟩
abbrev S480x96 : Shape := ⟨2, ![480, 96]⟩
abbrev S480x128 : Shape := ⟨2, ![480, 128]⟩
abbrev S480 : Shape := ⟨1, ![480]⟩
abbrev S1x480x128 : Shape := ⟨3, ![1, 480, 128]⟩

abbrev nBuf : Space → Nat
  | .hbm => 7
  | .vmem => 12
  | .smem => 0
  | _ => 0

abbrev bufTy : (tb : Table) → Fin (tcTables nBuf tb) → BufTy
  | .hbm, ⟨0, _⟩ => ⟨S8x480x3584, .fp8e4m3⟩
  | .hbm, ⟨1, _⟩ => ⟨S8x480x1, .f32⟩
  | .hbm, ⟨2, _⟩ => ⟨S3584x12288, .fp8e4m3⟩
  | .hbm, ⟨3, _⟩ => ⟨S12288, .f32⟩
  | .hbm, ⟨4, _⟩ => ⟨S1x12288, .f32⟩
  | .hbm, ⟨5, _⟩ => ⟨S8x480x12288, .fp8e4m3⟩
  | .hbm, ⟨6, _⟩ => ⟨S8x480x96, .f32⟩
  | .local _ .vmem, ⟨0, _⟩ => ⟨S1x480x3584, .fp8e4m3⟩
  | .local _ .vmem, ⟨1, _⟩ => ⟨S1x480x3584, .fp8e4m3⟩
  | .local _ .vmem, ⟨2, _⟩ => ⟨S1x480x1, .f32⟩
  | .local _ .vmem, ⟨3, _⟩ => ⟨S1x480x1, .f32⟩
  | .local _ .vmem, ⟨4, _⟩ => ⟨S3584x512, .fp8e4m3⟩
  | .local _ .vmem, ⟨5, _⟩ => ⟨S3584x512, .fp8e4m3⟩
  | .local _ .vmem, ⟨6, _⟩ => ⟨S1x512, .f32⟩
  | .local _ .vmem, ⟨7, _⟩ => ⟨S1x512, .f32⟩
  | .local _ .vmem, ⟨8, _⟩ => ⟨S1x480x512, .fp8e4m3⟩
  | .local _ .vmem, ⟨9, _⟩ => ⟨S1x480x512, .fp8e4m3⟩
  | .local _ .vmem, ⟨10, _⟩ => ⟨S1x480x96, .f32⟩
  | .local _ .vmem, ⟨11, _⟩ => ⟨S1x480x96, .f32⟩
  | _, _ => ⟨S8x480x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 24], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x480x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x480x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x480x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x480x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DownReferenceIdeal.lean ====
abbrev S8x480x3584 : Shape := ⟨3, ![8, 480, 3584]⟩
abbrev S8x480x1 : Shape := ⟨3, ![8, 480, 1]⟩
abbrev S3584x12288 : Shape := ⟨2, ![3584, 12288]⟩
abbrev S12288 : Shape := ⟨1, ![12288]⟩
abbrev S8x480x12288 : Shape := ⟨3, ![8, 480, 12288]⟩
abbrev S8x480x96 : Shape := ⟨3, ![8, 480, 96]⟩
abbrev S1x1x12288 : Shape := ⟨3, ![1, 1, 12288]⟩
abbrev S8x480x96x128 : Shape := ⟨4, ![8, 480, 96, 128]⟩
abbrev S8x480x96x1 : Shape := ⟨4, ![8, 480, 96, 1]⟩

abbrev nBuf : Space → Nat
  | .hbm => 6
  | .vmem => 6
  | .smem => 0
  | _ => 0

abbrev bufTy : (tb : Table) → Fin (tcTables nBuf tb) → BufTy
  | .hbm, ⟨0, _⟩ => ⟨S8x480x3584, .fp8e4m3⟩
  | .hbm, ⟨1, _⟩ => ⟨S8x480x1, .f32⟩
  | .hbm, ⟨2, _⟩ => ⟨S3584x12288, .fp8e4m3⟩
  | .hbm, ⟨3, _⟩ => ⟨S12288, .f32⟩
  | .hbm, ⟨4, _⟩ => ⟨S8x480x12288, .fp8e4m3⟩
  | .hbm, ⟨5, _⟩ => ⟨S8x480x96, .f32⟩
  | .local _ .vmem, ⟨0, _⟩ => ⟨S8x480x3584, .fp8e4m3⟩
  | .local _ .vmem, ⟨1, _⟩ => ⟨S8x480x1, .f32⟩
  | .local _ .vmem, ⟨2, _⟩ => ⟨S3584x12288, .fp8e4m3⟩
  | .local _ .vmem, ⟨3, _⟩ => ⟨S12288, .f32⟩
  | .local _ .vmem, ⟨4, _⟩ => ⟨S8x480x12288, .fp8e4m3⟩
  | .local _ .vmem, ⟨5, _⟩ => ⟨S8x480x96, .f32⟩
  | _, _ => ⟨S8x480x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x480x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x480x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x480x12288 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x480x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Receive.lean ====
abbrev S480x12288 : Shape := ⟨2, ![480, 12288]⟩
abbrev S8x480x12288 : Shape := ⟨3, ![8, 480, 12288]⟩
abbrev S8x480x96 : Shape := ⟨3, ![8, 480, 96]⟩
abbrev S12288 : Shape := ⟨1, ![12288]⟩
abbrev S1x12288 : Shape := ⟨2, ![1, 12288]⟩
abbrev S480x1 : Shape := ⟨2, ![480, 1]⟩
abbrev S32x12288 : Shape := ⟨2, ![32, 12288]⟩
abbrev S8x32x12288 : Shape := ⟨3, ![8, 32, 12288]⟩
abbrev S8x32x96 : Shape := ⟨3, ![8, 32, 96]⟩
abbrev S32x1 : Shape := ⟨2, ![32, 1]⟩
abbrev S32x128 : Shape := ⟨2, ![32, 128]⟩
abbrev S1x32x128 : Shape := ⟨3, ![1, 32, 128]⟩
abbrev S1x32x1 : Shape := ⟨3, ![1, 32, 1]⟩
abbrev S32 : Shape := ⟨1, ![32]⟩
abbrev S1x128 : Shape := ⟨2, ![1, 128]⟩

abbrev nBuf : Space → Nat
  | .hbm => 8
  | .vmem => 14
  | .smem => 0
  | _ => 0

abbrev bufTy : (tb : Table) → Fin (tcTables nBuf tb) → BufTy
  | .hbm, ⟨0, _⟩ => ⟨S480x12288, .bf16⟩
  | .hbm, ⟨1, _⟩ => ⟨S8x480x12288, .fp8e4m3⟩
  | .hbm, ⟨2, _⟩ => ⟨S8x480x96, .f32⟩
  | .hbm, ⟨3, _⟩ => ⟨S12288, .f32⟩
  | .hbm, ⟨4, _⟩ => ⟨S1x12288, .f32⟩
  | .hbm, ⟨5, _⟩ => ⟨S480x12288, .bf16⟩
  | .hbm, ⟨6, _⟩ => ⟨S480x12288, .fp8e4m3⟩
  | .hbm, ⟨7, _⟩ => ⟨S480x1, .f32⟩
  | .local _ .vmem, ⟨0, _⟩ => ⟨S32x12288, .bf16⟩
  | .local _ .vmem, ⟨1, _⟩ => ⟨S32x12288, .bf16⟩
  | .local _ .vmem, ⟨2, _⟩ => ⟨S8x32x12288, .fp8e4m3⟩
  | .local _ .vmem, ⟨3, _⟩ => ⟨S8x32x12288, .fp8e4m3⟩
  | .local _ .vmem, ⟨4, _⟩ => ⟨S8x32x96, .f32⟩
  | .local _ .vmem, ⟨5, _⟩ => ⟨S8x32x96, .f32⟩
  | .local _ .vmem, ⟨6, _⟩ => ⟨S1x12288, .f32⟩
  | .local _ .vmem, ⟨7, _⟩ => ⟨S32x12288, .bf16⟩
  | .local _ .vmem, ⟨8, _⟩ => ⟨S32x12288, .bf16⟩
  | .local _ .vmem, ⟨9, _⟩ => ⟨S32x12288, .fp8e4m3⟩
  | .local _ .vmem, ⟨10, _⟩ => ⟨S32x12288, .fp8e4m3⟩
  | .local _ .vmem, ⟨11, _⟩ => ⟨S32x1, .f32⟩
  | .local _ .vmem, ⟨12, _⟩ => ⟨S32x1, .f32⟩
  | .local _ .vmem, ⟨13, _⟩ => ⟨S32x12288, .f32⟩
  | _, _ => ⟨S480x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![15], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x12288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x12288 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x12288 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x12288 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReceiveReferenceIdeal.lean ====
abbrev S480x12288 : Shape := ⟨2, ![480, 12288]⟩
abbrev S8x480x12288 : Shape := ⟨3, ![8, 480, 12288]⟩
abbrev S8x480x96 : Shape := ⟨3, ![8, 480, 96]⟩
abbrev S12288 : Shape := ⟨1, ![12288]⟩
abbrev S480x1 : Shape := ⟨2, ![480, 1]⟩
abbrev S1x480x12288 : Shape := ⟨3, ![1, 480, 12288]⟩
abbrev S1x480x96 : Shape := ⟨3, ![1, 480, 96]⟩
abbrev S480x96 : Shape := ⟨2, ![480, 96]⟩
abbrev S480x96x128 : Shape := ⟨3, ![480, 96, 128]⟩
abbrev S480x96x1 : Shape := ⟨3, ![480, 96, 1]⟩
abbrev S480 : Shape := ⟨1, ![480]⟩
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S480x12288, .bf16⟩
  | .hbm, ⟨1, _⟩ => ⟨S8x480x12288, .fp8e4m3⟩
  | .hbm, ⟨2, _⟩ => ⟨S8x480x96, .f32⟩
  | .hbm, ⟨3, _⟩ => ⟨S12288, .f32⟩
  | .hbm, ⟨4, _⟩ => ⟨S480x12288, .bf16⟩
  | .hbm, ⟨5, _⟩ => ⟨S480x12288, .fp8e4m3⟩
  | .hbm, ⟨6, _⟩ => ⟨S480x1, .f32⟩
  | .local _ .vmem, ⟨0, _⟩ => ⟨S480x12288, .bf16⟩
  | .local _ .vmem, ⟨1, _⟩ => ⟨S8x480x12288, .fp8e4m3⟩
  | .local _ .vmem, ⟨2, _⟩ => ⟨S8x480x96, .f32⟩
  | .local _ .vmem, ⟨3, _⟩ => ⟨S12288, .f32⟩
  | .local _ .vmem, ⟨4, _⟩ => ⟨S480x12288, .bf16⟩
  | .local _ .vmem, ⟨5, _⟩ => ⟨S480x12288, .fp8e4m3⟩
  | .local _ .vmem, ⟨6, _⟩ => ⟨S480x1, .f32⟩
  | _, _ => ⟨S480x12288, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S480x12288 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x480x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x480x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S480x12288 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S480x12288 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S480x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.GateUpBits.Runs.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.GateUp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 112 := Nat.lt_of_lt_of_eq t.isLt N_0
    have e0 : (grid0.coords t 0).val = t.val / 14 % 8 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 14 :=
  (by decide +kernel : ∀ t : Fin grid0.N, cond0_1 (grid0.coords t) ↔ 1 ≤ t.val % 14)

/-- The condition of the body's `scf.if` 2 (`k0_h3`), from the grid coordinates (the skeleton's scalar
    chain substituted). -/
abbrev cond0_2 (i : grid0.Coords) : Prop := k0_cond3 i = 1#1
/-- It holds at the points ≡ 13 (mod 14) — by arithmetic of the point. -/
theorem hcond0_2 : ∀ t : Fin cfg0.N, cond0_2 (grid0.coords t) ↔ t.val % 14 = 13 :=
  (fun t => by
    have ht : t.val < 112 := Nat.lt_of_lt_of_eq t.isLt N_0
    have e0 : (grid0.coords t 0).val = t.val / 14 % 8 := Pipeline.Grid.coords_val t 0 (by decide) rfl
    have e1 : (grid0.coords t 1).val = t.val / 1 % 14 := Pipeline.Grid.coords_val t 1 (by decide) rfl
    simp only [cond0_2, k0_cond3, e0, e1]
    word_cmp
   : ∀ t : Fin grid0.N, cond0_2 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cond0_2 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → ¬cond0_2 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → ¬cond0_2 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- At the points of case B the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cond0_2 (grid0.coords t) → cfg0.idle 7 (grid0.coords t) = false := by decide +kernel

/-! ## The kernel body on any staging memrefs: a subtype the run finds -/

/-- One staging buffer of output window 6, through which its contents are stated. -/
abbrev VO0_6 : View sig .tc .vmem S1x480x3584 .fp8e4m3 := (Memref.whole cc0_stg6_0 : Memref sig .tc .vmem S1x480x3584 .fp8e4m3).view
/-- One staging buffer of output window 7, through which its contents are stated. -/
abbrev VO0_7 : View sig .tc .vmem S1x480x1 .f32 := (Memref.whole cc0_stg7_0 : Memref sig .tc .vmem S1x480x1 .f32).view
/-- Each window's current staging memref at point `t`, spelled as the pipeline passes it (`bodyAt0`), and its wholeness. -/
abbrev ms0_0 (t : Fin cfg0.N) : Memref sig .tc .vmem S1x480x12288 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x480x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12288x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12288x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x480x3584 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x480x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S14x480x256 .f32 := Memref.whole cc0_scratch0
abbrev scM0_1 : Memref sig .tc .vmem S480x1 .f32 := Memref.whole cc0_scratch1
/-- The scratch `arg10` the kernel carries between points, as a view: what it holds is stated through it. -/
abbrev VS0_0 : View sig .tc .vmem S14x480x256 .f32 := scM0_0.view
/-- The scratch `arg11` the kernel carries between points, as a view: what it holds is stated through it. -/
abbrev VS0_1 : View sig .tc .vmem S480x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.GateUp

end
-- ==== Proof.GateUpBits.RunA.lean ====
module

public import proofs.«01_k».proof.Proof.GateUpBits.Runs

@[expose] public section

-- membership in a rectangle of production extents (`View.cover_of_tiled`): the elaborator's structural look
-- recurses once per coordinate of the long axes
set_option maxRecDepth 16384

noncomputable section

namespace Cert.Kernel.GateUp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 14, … 98: 8 of 112), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) :
    Σ' (L6 : List (View.Piece (Elt F) S1x480x3584 .fp8e4m3)), Σ' (L7 : List (View.Piece (Elt F) S1x480x1 .f32)), Σ' (LS0 : List (View.Piece (Elt F) S14x480x256 .f32)), { LS1 : List (View.Piece (Elt F) S480x1 .f32) //
      ∀ (xi6 : Vec F S1x480x3584 .fp8e4m3) (xi7 : Vec F S1x480x1 .f32) (xs0 : Vec F S14x480x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0_gate_up_eq_skeleton]; unfold cc0_gate_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.Kernel.GateUp

end
-- ==== Proof.GateUpBits.RunB.lean ====
module

public import proofs.«01_k».proof.Proof.GateUpBits.RunA

@[expose] public section

-- membership in a rectangle of production extents (`View.cover_of_tiled`): the elaborator's structural look
-- recurses once per coordinate of the long axes
set_option maxRecDepth 16384

noncomputable section

namespace Cert.Kernel.GateUp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 110: 96 of 112), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) :
    Σ' (L6 : List (View.Piece (Elt F) S1x480x3584 .fp8e4m3)), Σ' (L7 : List (View.Piece (Elt F) S1x480x1 .f32)), Σ' (LS0 : List (View.Piece (Elt F) S14x480x256 .f32)), { LS1 : List (View.Piece (Elt F) S480x1 .f32) //
      ∀ (xi6 : Vec F S1x480x3584 .fp8e4m3) (xi7 : Vec F S1x480x1 .f32) (xs0 : Vec F S14x480x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0_gate_up_eq_skeleton]; unfold cc0_gate_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.Kernel.GateUp

end
-- ==== Proof.GateUpBits.RunC.lean ====
module

public import proofs.«01_k».proof.Proof.GateUpBits.RunB

@[expose] public section

-- membership in a rectangle of production extents (`View.cover_of_tiled`): the elaborator's structural look
-- recurses once per coordinate of the long axes
set_option maxRecDepth 16384

noncomputable section

namespace Cert.Kernel.GateUp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 13, 27, … 111: 8 of 112), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; a scratch filled one slice per point that the case reads is at ANY contents whose reads at the rectangles of earlier points' slices are the parameters `ps·` (the facts `hps·`); the case's own store into such a scratch is placed by `hl·` (the numbers its offsets are at every point of the case); the pieces are
    the witness that run finds (assigned when `iexact` hands the buffer to the continuation). -/
noncomputable def kernelRun0_C (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    Σ' (L6 : List (View.Piece (Elt F) S1x480x3584 .fp8e4m3)), Σ' (L7 : List (View.Piece (Elt F) S1x480x1 .f32)), Σ' (LS0 : List (View.Piece (Elt F) S14x480x256 .f32)), { LS1 : List (View.Piece (Elt F) S480x1 .f32) //
      ∀ (xs0 : Vec F S14x480x256 .f32) (hps0_0 : View.readAt (Elt F) arg10.view (Rect.unit (s := S14x480x256) ![0, 0, 0] S1x480x256.size inb_S14x480x256_S1x480x256_0_0_0).toLoadRect (harg10.unread xs0) = ps0_0) (hps0_1 : View.readAt (Elt F) arg10.view (Rect.unit (s := S14x480x256) ![1, 0, 0] S1x480x256.size inb_S14x480x256_S1x480x256_1_0_0).toLoadRect (harg10.unread xs0) = ps0_1) (hps0_2 : View.readAt (Elt F) arg10.view (Rect.unit (s := S14x480x256) ![2, 0, 0] S1x480x256.size inb_S14x480x256_S1x480x256_2_0_0).toLoadRect (harg10.unread xs0) = ps0_2) (hps0_3 : View.readAt (Elt F) arg10.view (Rect.unit (s := S14x480x256) ![3, 0, 0] S1x480x256.size inb_S14x480x256_S1x480x256_3_0_0).toLoadRect (harg10.unread xs0) = ps0_3) (hps0_4 : View.readAt (Elt F) arg10.view (Rect.unit (s := S14x480x256) ![4, 0, 0] S1x480x256.size inb_S14x480x256_S1x480x256_4_0_0).toLoadRect (harg10.unread xs0) = ps0_4) (hps0_5 : View.readAt (Elt F) arg10.view (Rect.unit (s := S14x480x256) ![5, 0, 0] S1x480x256.size inb_S14x480x256_S1x480x256_5_0_0).toLoadRect (harg10.unread xs0) = ps0_5) (hps0_6 : View.readAt (Elt F) arg10.view (Rect.unit (s := S14x480x256) ![6, 0, 0] S1x480x256.size inb_S14x480x256_S1x480x256_6_0_0).toLoadRect (harg10.unread xs0) = ps0_6) (hps0_7 : View.readAt (Elt F) arg10.view (Rect.unit (s := S14x480x256) ![7, 0, 0] S1x480x256.size inb_S14x480x256_S1x480x256_7_0_0).toLoadRect (harg10.unread xs0) = ps0_7) (hps0_8 : View.readAt (Elt F) arg10.view (Rect.unit (s := S14x480x256) ![8, 0, 0] S1x480x256.size inb_S14x480x256_S1x480x256_8_0_0).toLoadRect (harg10.unread xs0) = ps0_8) (hps0_9 : View.readAt (Elt F) arg10.view (Rect.unit (s := S14x480x256) ![9, 0, 0] S1x480x256.size inb_S14x480x256_S1x480x256_9_0_0).toLoadRect (harg10.unread xs0) = ps0_9) (hps0_10 : View.readAt (Elt F) arg10.view (Rect.unit (s := S14x480x256) ![10, 0, 0] S1x480x256.size inb_S14x480x256_S1x480x256_10_0_0).toLoadRect (harg10.unread xs0) = ps0_10) (hps0_11 : View.readAt (Elt F) arg10.view (Rect.unit (s := S14x480x256) ![11, 0, 0] S1x480x256.size inb_S14x480x256_S1x480x256_11_0_0).toLoadRect (harg10.unread xs0) = ps0_11) (hps0_12 : View.readAt (Elt F) arg10.view (Rect.unit (s := S14x480x256) ![12, 0, 0] S1x480x256.size inb_S14x480x256_S1x480x256_12_0_0).toLoadRect (harg10.unread xs0) = ps0_12) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, ?_, fun xs0 hps0_0 hps0_1 hps0_2 hps0_3 hps0_4 hps0_5 hps0_6 hps0_7 hps0_8 hps0_9 hps0_10 hps0_11 hps0_12 E K => ?run⟩
  case run =>
    letI : ClosedOff (k0_off1 i) := ⟨![13, 0, 0], hl0⟩
    simp only [cc0_gate_up_eq_skeleton]; unfold cc0_gate_up_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.Kernel.GateUp

end
-- ==== Proof.GateUpBits.Values.lean ====
module

public import proofs.«01_k».proof.Proof.GateUpBits.RunC
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.Kernel.GateUp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the runs leave, named by the blocks they read -/

/-- A load of a whole memref's own extents, the memref held at contents that read `x`, reads `x`. -/
theorem rd {s : Shape} {e : EltTy} (a : Memref sig .tc .vmem s e) (h : a.IsWhole) {off : Fin s.rank → ℕ}
    (inb : ∀ k, off k + s.size k ≤ s.size k) (x : s.Idx → Elt F e) :
    View.readAt (Elt F) a.view (Rect.unit off s.size inb).toLoadRect (h.unread x) = x :=
  (View.readAt_full a.view _ inb).trans (h.read_unread x)

/-- The gated product of one tile of a peer's rows, as it is stored in its slice of the scratch. -/
abbrev hSl (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) : Vec F S1x480x256 .f32 :=
  k0_pay25 x1 x0 x2 x4 x3 x5
/-- The largest magnitude of each row of the tile's gated product. -/
abbrev rMx (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) : Vec F S480x1 .f32 :=
  k0_pay26 x1 x0 x2 x4 x3 x5
/-- The same, as the first tile stores it. -/
abbrev rMx0 (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) : Vec F S480x1 .f32 :=
  k0_pay27 x1 x0 x2 x4 x3 x5

/-- The fourteen stores of quantised tiles into the codes' block: tile `k` at columns `256 k`, `h_k` over the scale of the
    row maxima `a`. -/
def pieces6 (a : Vec F S480x1 .f32) (h0 h1 h2 h3 h4 h5 h6 h7 h8 h9 h10 h11 h12 h13 : Vec F S1x480x256 .f32) : List (View.Piece (Elt F) S1x480x3584 .fp8e4m3) :=
  [⟨Rect.unit (s := S1x480x3584) ![0, 0, 3328] S1x480x256.size inb_S1x480x3584_S1x480x256_0_0_3328, k0_pay6 a h13⟩,
   ⟨Rect.unit (s := S1x480x3584) ![0, 0, 3072] S1x480x256.size inb_S1x480x3584_S1x480x256_0_0_3072, k0_pay6 a h12⟩,
   ⟨Rect.unit (s := S1x480x3584) ![0, 0, 2816] S1x480x256.size inb_S1x480x3584_S1x480x256_0_0_2816, k0_pay6 a h11⟩,
   ⟨Rect.unit (s := S1x480x3584) ![0, 0, 2560] S1x480x256.size inb_S1x480x3584_S1x480x256_0_0_2560, k0_pay6 a h10⟩,
   ⟨Rect.unit (s := S1x480x3584) ![0, 0, 2304] S1x480x256.size inb_S1x480x3584_S1x480x256_0_0_2304, k0_pay6 a h9⟩,
   ⟨Rect.unit (s := S1x480x3584) ![0, 0, 2048] S1x480x256.size inb_S1x480x3584_S1x480x256_0_0_2048, k0_pay6 a h8⟩,
   ⟨Rect.unit (s := S1x480x3584) ![0, 0, 1792] S1x480x256.size inb_S1x480x3584_S1x480x256_0_0_1792, k0_pay6 a h7⟩,
   ⟨Rect.unit (s := S1x480x3584) ![0, 0, 1536] S1x480x256.size inb_S1x480x3584_S1x480x256_0_0_1536, k0_pay6 a h6⟩,
   ⟨Rect.unit (s := S1x480x3584) ![0, 0, 1280] S1x480x256.size inb_S1x480x3584_S1x480x256_0_0_1280, k0_pay6 a h5⟩,
   ⟨Rect.unit (s := S1x480x3584) ![0, 0, 1024] S1x480x256.size inb_S1x480x3584_S1x480x256_0_0_1024, k0_pay6 a h4⟩,
   ⟨Rect.unit (s := S1x480x3584) ![0, 0, 768] S1x480x256.size inb_S1x480x3584_S1x480x256_0_0_768, k0_pay6 a h3⟩,
   ⟨Rect.unit (s := S1x480x3584) ![0, 0, 512] S1x480x256.size inb_S1x480x3584_S1x480x256_0_0_512, k0_pay6 a h2⟩,
   ⟨Rect.unit (s := S1x480x3584) ![0, 0, 256] S1x480x256.size inb_S1x480x3584_S1x480x256_0_0_256, k0_pay6 a h1⟩,
   ⟨Rect.unit (s := S1x480x3584) ![0, 0, 0] S1x480x256.size inb_S1x480x3584_S1x480x256_0_0_0, k0_pay6 a h0⟩]

/-- Case A's one store into the scratch of slices: the tile's gated product at slice `i 1`. -/
theorem slice_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1 = [⟨Rect.unit (s := S14x480x256) (k0_off1 i) S1x480x256.size (k0_off1_inb i), hSl x0 x1 x2 x3 x4 x5⟩] := by
  have e : (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1 = [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case A's one store into the row maxima. -/
theorem amax_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1 = [⟨Rect.unit (s := S480x1) ![0, 0] S480x1.size inb_S480x1_S480x1_0_0, rMx0 x0 x1 x2 x3 x4 x5⟩] := by
  have e : (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1 = [⟨Rect.unit (s := S480x1) ![0, 0] S480x1.size inb_S480x1_S480x1_0_0, k0_pay27 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case B's one store into the scratch of slices: the tile's gated product at slice `i 1`. -/
theorem slice_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) :
    (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.1 = [⟨Rect.unit (s := S14x480x256) (k0_off1 i) S1x480x256.size (k0_off1_inb i), hSl x0 x1 x2 x3 x4 x5⟩] := by
  have e : (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.1 = [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case B's one store into the row maxima. -/
theorem amax_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) :
    (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1 = [⟨Rect.unit (s := S480x1) ![0, 0] S480x1.size inb_S480x1_S480x1_0_0, k0_pay1 (rMx x0 x1 x2 x3 x4 x5) xs1⟩] := by
  have e : (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1 = [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] := rfl
  rw [e, rd arg2 harg2, rd arg3 harg3, rd arg4 harg4, rd arg5 harg5, rd arg6 harg6, rd arg7 harg7, rd arg11 harg11]

/-- Case C's one store into the scratch of slices: the tile's gated product at slice `i 1`. -/
theorem slice_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.1 = [⟨Rect.unit (s := S14x480x256) (k0_off1 i) S1x480x256.size (k0_off1_inb i), hSl x0 x1 x2 x3 x4 x5⟩] := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.1 = [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case C's one store into the row maxima. -/
theorem amax_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.2.1 = [⟨Rect.unit (s := S480x1) ![0, 0] S480x1.size inb_S480x1_S480x1_0_0, k0_pay1 (rMx x0 x1 x2 x3 x4 x5) xs1⟩] := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.2.1 = [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] := rfl
  rw [e, rd arg2 harg2, rd arg3 harg3, rd arg4 harg4, rd arg5 harg5, rd arg6 harg6, rd arg7 harg7, rd arg11 harg11]

/-- A load of slice 13 right after a store at offsets that are slice 13's reads the store's payload. -/
theorem readCov13 (a : View sig .tc .vmem S14x480x256 .f32) {off : Fin 3 → ℕ} (inb : ∀ k, off k + S1x480x256.size k ≤ S14x480x256.size k) (h : off = ![13, 0, 0])
    (w : Vec F S1x480x256 .f32) :
    a.readCov [⟨Rect.unit (s := S14x480x256) off S1x480x256.size inb, w⟩] (Rect.unit (s := S14x480x256) ![13, 0, 0] S1x480x256.size inb_S14x480x256_S1x480x256_13_0_0).toLoadRect = w := by
  funext y
  exact View.read_writes_cons_unit_of_mem (off' := ![13, 0, 0]) a _ inb w [] _ y h
    (fun k => Rect.idx_unit_val (s := S14x480x256) ![13, 0, 0] S1x480x256.size inb_S14x480x256_S1x480x256_13_0_0 y k)

/-- Case C's fourteen stores into the codes' block. -/
theorem codes_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).1 = pieces6 (k0_pay1 (rMx x0 x1 x2 x3 x4 x5) xs1) ps0_0 ps0_1 ps0_2 ps0_3 ps0_4 ps0_5 ps0_6 ps0_7 ps0_8 ps0_9 ps0_10 ps0_11 ps0_12 (hSl x0 x1 x2 x3 x4 x5) := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).1 = pieces6 (arg11.view.readCov [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] (Rect.unit (s := S480x1) ![0, 0] S480x1.size inb_S480x1_S480x1_0_0).toLoadRect) ps0_0 ps0_1 ps0_2 ps0_3 ps0_4 ps0_5 ps0_6 ps0_7 ps0_8 ps0_9 ps0_10 ps0_11 ps0_12 (arg10.view.readCov [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] (Rect.unit (s := S14x480x256) ![13, 0, 0] S1x480x256.size inb_S14x480x256_S1x480x256_13_0_0).toLoadRect) := rfl
  rw [e, View.readCov_full, readCov13 _ _ hl0, rd arg2 harg2, rd arg3 harg3, rd arg4 harg4, rd arg5 harg5, rd arg6 harg6, rd arg7 harg7, rd arg11 harg11]

/-- Case C's one store into the scales' block. -/
theorem scale_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.1 = [⟨Rect.unit (s := S1x480x1) ![0, 0, 0] S1x480x1.size inb_S1x480x1_S1x480x1_0_0_0, k0_pay4 (k0_pay1 (rMx x0 x1 x2 x3 x4 x5) xs1)⟩] := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.1 = [⟨Rect.unit (s := S1x480x1) ![0, 0, 0] S1x480x1.size inb_S1x480x1_S1x480x1_0_0_0, k0_pay4 (arg11.view.readCov [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] (Rect.unit (s := S480x1) ![0, 0] S480x1.size inb_S480x1_S480x1_0_0).toLoadRect)⟩] := rfl
  rw [e, View.readCov_full, rd arg2 harg2, rd arg3 harg3, rd arg4 harg4, rd arg5 harg5, rd arg6 harg6, rd arg7 harg7, rd arg11 harg11]

/-- The scratch of slices after case A. -/
theorem ends0_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (g : arg10.view.ty.Contents (Elt F)) :
    arg10.view.read (Elt F) (arg10.view.writes (Elt F) g (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1) = arg10.view.read (Elt F) (arg10.view.writes (Elt F) g [⟨Rect.unit (s := S14x480x256) (k0_off1 i) S1x480x256.size (k0_off1_inb i), hSl x0 x1 x2 x3 x4 x5⟩]) :=
  congrArg (fun L => arg10.view.read (Elt F) (arg10.view.writes (Elt F) g L)) (slice_A c i arg2 harg2 arg3 harg3 arg4 harg4 arg5 harg5 arg6 harg6 arg7 harg7 arg8 harg8 arg9 harg9 arg10 harg10 arg11 harg11 hc0 hc1 hc2 x0 x1 x2 x3 x4 x5)
/-- The row maxima after case A. -/
theorem ends1_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (g : arg11.view.ty.Contents (Elt F)) :
    arg11.view.read (Elt F) (arg11.view.writes (Elt F) g (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1) = rMx0 x0 x1 x2 x3 x4 x5 :=
  (congrArg (fun L => arg11.view.read (Elt F) (arg11.view.writes (Elt F) g L)) (amax_A c i arg2 harg2 arg3 harg3 arg4 harg4 arg5 harg5 arg6 harg6 arg7 harg7 arg8 harg8 arg9 harg9 arg10 harg10 arg11 harg11 hc0 hc1 hc2 x0 x1 x2 x3 x4 x5)).trans (View.read_writes_full _ _ _ _ _)

/-- The scratch of slices after case B. -/
theorem ends0_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (g : arg10.view.ty.Contents (Elt F)) :
    arg10.view.read (Elt F) (arg10.view.writes (Elt F) g (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.1) = arg10.view.read (Elt F) (arg10.view.writes (Elt F) g [⟨Rect.unit (s := S14x480x256) (k0_off1 i) S1x480x256.size (k0_off1_inb i), hSl x0 x1 x2 x3 x4 x5⟩]) :=
  congrArg (fun L => arg10.view.read (Elt F) (arg10.view.writes (Elt F) g L)) (slice_B c i arg2 harg2 arg3 harg3 arg4 harg4 arg5 harg5 arg6 harg6 arg7 harg7 arg8 harg8 arg9 harg9 arg10 harg10 arg11 harg11 hc0 hc1 hc2 x0 x1 x2 x3 x4 x5 xs1)
/-- The row maxima after case B. -/
theorem ends1_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (g : arg11.view.ty.Contents (Elt F)) :
    arg11.view.read (Elt F) (arg11.view.writes (Elt F) g (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1) = k0_pay1 (rMx x0 x1 x2 x3 x4 x5) xs1 :=
  (congrArg (fun L => arg11.view.read (Elt F) (arg11.view.writes (Elt F) g L)) (amax_B c i arg2 harg2 arg3 harg3 arg4 harg4 arg5 harg5 arg6 harg6 arg7 harg7 arg8 harg8 arg9 harg9 arg10 harg10 arg11 harg11 hc0 hc1 hc2 x0 x1 x2 x3 x4 x5 xs1)).trans (View.read_writes_full _ _ _ _ _)

/-- The scratch of slices after case C. -/
theorem ends0_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg10.view.ty.Contents (Elt F)) :
    arg10.view.read (Elt F) (arg10.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.1) = arg10.view.read (Elt F) (arg10.view.writes (Elt F) g [⟨Rect.unit (s := S14x480x256) (k0_off1 i) S1x480x256.size (k0_off1_inb i), hSl x0 x1 x2 x3 x4 x5⟩]) :=
  congrArg (fun L => arg10.view.read (Elt F) (arg10.view.writes (Elt F) g L)) (slice_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)
/-- The row maxima after case C. -/
theorem ends1_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg11.view.ty.Contents (Elt F)) :
    arg11.view.read (Elt F) (arg11.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.2.1) = k0_pay1 (rMx x0 x1 x2 x3 x4 x5) xs1 :=
  (congrArg (fun L => arg11.view.read (Elt F) (arg11.view.writes (Elt F) g L)) (amax_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)).trans (View.read_writes_full _ _ _ _ _)

/-- The fourteen stores tile the codes' block. -/
theorem pieces6_cover (a : Vec F S480x1 .f32) (h0 h1 h2 h3 h4 h5 h6 h7 h8 h9 h10 h11 h12 h13 : Vec F S1x480x256 .f32) (y : S1x480x3584.Idx) :
    ∃ pc ∈ pieces6 a h0 h1 h2 h3 h4 h5 h6 h7 h8 h9 h10 h11 h12 h13, y ∈ pc.1.set :=
  View.cover_of_tiledL (pieces6 a h0 h1 h2 h3 h4 h5 h6 h7 h8 h9 h10 h11 h12 h13) S1x480x256.size (by sl_kernel_rfl) y
/-- The codes' block after case C. -/
theorem ends6_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg8.view.ty.Contents (Elt F)) :
    arg8.view.read (Elt F) (arg8.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).1) = View.canon (pieces6 (k0_pay1 (rMx x0 x1 x2 x3 x4 x5) xs1) ps0_0 ps0_1 ps0_2 ps0_3 ps0_4 ps0_5 ps0_6 ps0_7 ps0_8 ps0_9 ps0_10 ps0_11 ps0_12 (hSl x0 x1 x2 x3 x4 x5)) :=
  (congrArg (fun L => arg8.view.read (Elt F) (arg8.view.writes (Elt F) g L)) (codes_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)).trans (View.read_writes_eq_canon _ _ _ (pieces6_cover (k0_pay1 (rMx x0 x1 x2 x3 x4 x5) xs1) ps0_0 ps0_1 ps0_2 ps0_3 ps0_4 ps0_5 ps0_6 ps0_7 ps0_8 ps0_9 ps0_10 ps0_11 ps0_12 (hSl x0 x1 x2 x3 x4 x5)))
/-- The scales' block after case C. -/
theorem ends7_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg9.view.ty.Contents (Elt F)) :
    arg9.view.read (Elt F) (arg9.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.1) = k0_pay4 (k0_pay1 (rMx x0 x1 x2 x3 x4 x5) xs1) :=
  (congrArg (fun L => arg9.view.read (Elt F) (arg9.view.writes (Elt F) g L)) (scale_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)).trans (View.read_writes_full _ _ _ _ _)

end Cert.Kernel.GateUp

end
-- ==== Proof.GateUpBits.Inv.lean ====
module

public import proofs.«01_k».proof.Proof.GateUpBits.Values
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.Kernel.GateUp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the scratch holds between the points -/

/-- Point `n` of the grid. -/
def pt (n : ℕ) : Fin cfg0.N := ⟨n % 112, lt_of_lt_of_eq (Nat.mod_lt _ (by decide)) (show 112 = cfg0.N from N_0.symm)⟩
theorem pt_val (t : Fin cfg0.N) : pt t.val = t := Fin.ext (Nat.mod_eq_of_lt (lt_of_lt_of_eq t.isLt (show cfg0.N = 112 from N_0)))

/-- The gated product of point `n`'s tile. -/
def hsl (c : Dev nD) (n : ℕ) : Vec F S1x480x256 .f32 := hSl (iblk V c 0 (pt n)) (iblk V c 1 (pt n)) (iblk V c 2 (pt n)) (iblk V c 3 (pt n)) (iblk V c 4 (pt n)) (iblk V c 5 (pt n))
/-- The running row maxima after point `n`: restarted at every peer's first tile. -/
def amx (c : Dev nD) : ℕ → Vec F S480x1 .f32
  | 0 => rMx0 (iblk V c 0 (pt 0)) (iblk V c 1 (pt 0)) (iblk V c 2 (pt 0)) (iblk V c 3 (pt 0)) (iblk V c 4 (pt 0)) (iblk V c 5 (pt 0))
  | n + 1 => if (n + 1) % 14 = 0 then rMx0 (iblk V c 0 (pt (n + 1))) (iblk V c 1 (pt (n + 1))) (iblk V c 2 (pt (n + 1))) (iblk V c 3 (pt (n + 1))) (iblk V c 4 (pt (n + 1))) (iblk V c 5 (pt (n + 1))) else k0_pay1 (rMx (iblk V c 0 (pt (n + 1))) (iblk V c 1 (pt (n + 1))) (iblk V c 2 (pt (n + 1))) (iblk V c 3 (pt (n + 1))) (iblk V c 4 (pt (n + 1))) (iblk V c 5 (pt (n + 1)))) (amx c n)
theorem amx_first (c : Dev nD) (n : ℕ) (h : n % 14 = 0) : amx V c n = rMx0 (iblk V c 0 (pt n)) (iblk V c 1 (pt n)) (iblk V c 2 (pt n)) (iblk V c 3 (pt n)) (iblk V c 4 (pt n)) (iblk V c 5 (pt n)) := by
  cases n with
  | zero => rfl
  | succ n => rw [amx, if_pos h]
theorem amx_next (c : Dev nD) (n : ℕ) (h : ¬n % 14 = 0) : amx V c n = k0_pay1 (rMx (iblk V c 0 (pt n)) (iblk V c 1 (pt n)) (iblk V c 2 (pt n)) (iblk V c 3 (pt n)) (iblk V c 4 (pt n)) (iblk V c 5 (pt n))) (amx V c (n - 1)) := by
  cases n with
  | zero => exact absurd rfl h
  | succ n => rw [amx, if_neg h]; rfl

/-- The block of codes the last point of `n`'s peer writes. -/
def blk6 (c : Dev nD) (n : ℕ) : Vec F S1x480x3584 .fp8e4m3 :=
  View.canon (pieces6 (amx V c (14 * (n / 14) + 13)) (hsl V c (14 * (n / 14) + 0)) (hsl V c (14 * (n / 14) + 1)) (hsl V c (14 * (n / 14) + 2)) (hsl V c (14 * (n / 14) + 3)) (hsl V c (14 * (n / 14) + 4)) (hsl V c (14 * (n / 14) + 5)) (hsl V c (14 * (n / 14) + 6)) (hsl V c (14 * (n / 14) + 7)) (hsl V c (14 * (n / 14) + 8)) (hsl V c (14 * (n / 14) + 9)) (hsl V c (14 * (n / 14) + 10)) (hsl V c (14 * (n / 14) + 11)) (hsl V c (14 * (n / 14) + 12)) (hsl V c (14 * (n / 14) + 13)))
/-- The block of scales the last point of `n`'s peer writes. -/
def blk7 (c : Dev nD) (n : ℕ) : Vec F S1x480x1 .f32 := k0_pay4 (amx V c (14 * (n / 14) + 13))

/-- Before point `n`, inside a peer's run of tiles: the maxima so far, and every slice already stored. -/
def Inv (c : Dev nD) (n : ℕ) (X0 : Vec F S14x480x256 .f32) (X1 : Vec F S480x1 .f32) : Prop :=
  n % 14 ≠ 0 → X1 = amx V c (n - 1) ∧ ∀ (k : ℕ) (hk : k < 14), k < n % 14 → ∀ (r : Fin 480) (q : Fin 256), X0 (ix3 ⟨k, hk⟩ r q) = hsl V c (14 * (n / 14) + k) (ix3 0 r q)

theorem slice_new (a : Memref sig .tc .vmem S14x480x256 .f32) (ha : a.IsWhole) (X : Vec F S14x480x256 .f32) {off : Fin 3 → ℕ} (j : ℕ) (hj : j < 14) (inb : ∀ k, off k + S1x480x256.size k ≤ S14x480x256.size k)
    (h : off = ![j, 0, 0]) (w : Vec F S1x480x256 .f32) (r : Fin 480) (q : Fin 256) :
    a.view.read (Elt F) (a.view.writes (Elt F) (ha.unread X) [⟨Rect.unit (s := S14x480x256) off S1x480x256.size inb, w⟩]) (ix3 ⟨j, hj⟩ r q) = w (ix3 0 r q) :=
  View.read_writes_cons_unit_of_mem (off' := ![j, 0, 0]) a.view _ inb w [] _ (ix3 0 r q) h (fun k => by
    match k with
    | ⟨0, _⟩ => simp
    | ⟨1, _⟩ => simp
    | ⟨2, _⟩ => simp)
theorem slice_old (a : Memref sig .tc .vmem S14x480x256 .f32) (ha : a.IsWhole) (X : Vec F S14x480x256 .f32) {off : Fin 3 → ℕ} (j : ℕ) (inb : ∀ k, off k + S1x480x256.size k ≤ S14x480x256.size k)
    (h : off = ![j, 0, 0]) (w : Vec F S1x480x256 .f32) (k : Fin 14) (hk : k.val < j) (r : Fin 480) (q : Fin 256) :
    a.view.read (Elt F) (a.view.writes (Elt F) (ha.unread X) [⟨Rect.unit (s := S14x480x256) off S1x480x256.size inb, w⟩]) (ix3 k r q) = X (ix3 k r q) := by
  rw [View.read_writes_cons_unit_of_not_mem (off' := ![j, 0, 0]) a.view _ inb w [] _ h 0 (.inl hk), View.writes_nil, ha.read_unread]
theorem slice_read (a : Memref sig .tc .vmem S14x480x256 .f32) (ha : a.IsWhole) (X : Vec F S14x480x256 .f32) (k : ℕ) (hk : k < 14) (inb : ∀ b, (![k, 0, 0] : Fin 3 → ℕ) b + S1x480x256.size b ≤ S14x480x256.size b)
    (w : Vec F S1x480x256 .f32) (h : ∀ (r : Fin 480) (q : Fin 256), X (ix3 ⟨k, hk⟩ r q) = w (ix3 0 r q)) :
    View.readAt (Elt F) a.view (Rect.unit (s := S14x480x256) ![k, 0, 0] S1x480x256.size inb).toLoadRect (ha.unread X) = w := by
  funext y
  rw [Memref.IsWhole.readAt_unread]
  have hy : y = ix3 (n0 := 1) (n1 := 480) (n2 := 256) 0 (y 1) (y 2) := by
    funext b
    match b with
    | ⟨0, _⟩ => exact Fin.ext (by have : (y 0).val < 1 := (y 0).isLt; show (y 0).val = 0; omega)
    | ⟨1, _⟩ => rfl
    | ⟨2, _⟩ => rfl
  refine Eq.trans (congrArg X ?_) ((h (y 1) (y 2)).trans (congrArg w hy.symm))
  funext b
  refine Fin.ext ((Rect.idx_unit_val (s := S14x480x256) ![k, 0, 0] S1x480x256.size inb y b).trans ?_)
  match b with
  | ⟨0, _⟩ => have : (y 0).val < 1 := (y 0).isLt; show k + (y 0).val = k; omega
  | ⟨1, _⟩ => show 0 + (y 1).val = (y 1).val; omega
  | ⟨2, _⟩ => show 0 + (y 2).val = (y 2).val; omega

/-- Point `t` stores its tile in slice `t mod 14`. -/
theorem off_eq : ∀ t : Fin cfg0.N, k0_off1 (grid0.coords t) = ![t.val % 14, 0, 0] :=
  (by decide +kernel : ∀ t : Fin grid0.N, k0_off1 (grid0.coords t) = ![t.val % 14, 0, 0])

theorem Inv_first (c : Dev nD) (t : Fin cfg0.N) (h0 : t.val % 14 = 0) (a : Memref sig .tc .vmem S14x480x256 .f32) (ha : a.IsWhole) (X : Vec F S14x480x256 .f32) :
    Inv V c (t.val + 1) (a.view.read (Elt F) (a.view.writes (Elt F) (ha.unread X) [⟨Rect.unit (s := S14x480x256) (k0_off1 (grid0.coords t)) S1x480x256.size (k0_off1_inb _), hSl (iblk V c 0 t) (iblk V c 1 t) (iblk V c 2 t) (iblk V c 3 t) (iblk V c 4 t) (iblk V c 5 t)⟩])) (rMx0 (iblk V c 0 t) (iblk V c 1 t) (iblk V c 2 t) (iblk V c 3 t) (iblk V c 4 t) (iblk V c 5 t)) := by
  intro _
  refine ⟨?_, fun k hk hlt r q => ?_⟩
  · rw [Nat.add_sub_cancel, amx_first V c _ h0, pt_val]
  · obtain rfl : k = 0 := by omega
    rw [slice_new a ha X 0 hk _ ((off_eq t).trans (by rw [h0]))]
    rw [show 14 * ((t.val + 1) / 14) + 0 = t.val from by omega, hsl, pt_val]
theorem Inv_next (c : Dev nD) (t : Fin cfg0.N) (h0 : ¬t.val % 14 = 0) (a : Memref sig .tc .vmem S14x480x256 .f32) (ha : a.IsWhole) (X : Vec F S14x480x256 .f32) (X1 : Vec F S480x1 .f32) (hI : Inv V c t.val X X1) :
    Inv V c (t.val + 1) (a.view.read (Elt F) (a.view.writes (Elt F) (ha.unread X) [⟨Rect.unit (s := S14x480x256) (k0_off1 (grid0.coords t)) S1x480x256.size (k0_off1_inb _), hSl (iblk V c 0 t) (iblk V c 1 t) (iblk V c 2 t) (iblk V c 3 t) (iblk V c 4 t) (iblk V c 5 t)⟩])) (k0_pay1 (rMx (iblk V c 0 t) (iblk V c 1 t) (iblk V c 2 t) (iblk V c 3 t) (iblk V c 4 t) (iblk V c 5 t)) X1) := by
  intro hn
  obtain ⟨e1, e2⟩ := hI h0
  refine ⟨?_, fun k hk hlt r q => ?_⟩
  · rw [Nat.add_sub_cancel, amx_next V c _ h0, pt_val, e1]
  · have hd : (t.val + 1) / 14 = t.val / 14 := by omega
    rw [hd]
    by_cases hkt : k = t.val % 14
    · subst hkt
      rw [slice_new a ha X _ hk _ (off_eq t)]
      rw [show 14 * (t.val / 14) + t.val % 14 = t.val from by omega, hsl, pt_val]
    · rw [slice_old a ha X _ _ (off_eq t) _ ⟨k, hk⟩ (show k < t.val % 14 by omega), e2 k hk (by omega)]

theorem hoff13 (t : Fin cfg0.N) (h2 : t.val % 14 = 13) : k0_off1 (grid0.coords t) = ![13, 0, 0] := (off_eq t).trans (by rw [h2])

theorem blk6_last (c : Dev nD) (t : Fin cfg0.N) (h2 : t.val % 14 = 13) (X1 : Vec F S480x1 .f32) (e1 : X1 = amx V c (t.val - 1)) :
    View.canon (pieces6 (k0_pay1 (rMx (iblk V c 0 t) (iblk V c 1 t) (iblk V c 2 t) (iblk V c 3 t) (iblk V c 4 t) (iblk V c 5 t)) X1) (hsl V c (14 * (t.val / 14) + 0)) (hsl V c (14 * (t.val / 14) + 1)) (hsl V c (14 * (t.val / 14) + 2)) (hsl V c (14 * (t.val / 14) + 3)) (hsl V c (14 * (t.val / 14) + 4)) (hsl V c (14 * (t.val / 14) + 5)) (hsl V c (14 * (t.val / 14) + 6)) (hsl V c (14 * (t.val / 14) + 7)) (hsl V c (14 * (t.val / 14) + 8)) (hsl V c (14 * (t.val / 14) + 9)) (hsl V c (14 * (t.val / 14) + 10)) (hsl V c (14 * (t.val / 14) + 11)) (hsl V c (14 * (t.val / 14) + 12)) (hSl (iblk V c 0 t) (iblk V c 1 t) (iblk V c 2 t) (iblk V c 3 t) (iblk V c 4 t) (iblk V c 5 t))) = blk6 V c t.val := by
  have hd : 14 * (t.val / 14) + 13 = t.val := by omega
  unfold blk6
  rw [hd, amx_next V c t.val (by omega), ← e1, pt_val]
  unfold hsl
  rw [pt_val]
theorem blk7_last (c : Dev nD) (t : Fin cfg0.N) (h2 : t.val % 14 = 13) (X1 : Vec F S480x1 .f32) (e1 : X1 = amx V c (t.val - 1)) :
    k0_pay4 (k0_pay1 (rMx (iblk V c 0 t) (iblk V c 1 t) (iblk V c 2 t) (iblk V c 3 t) (iblk V c 4 t) (iblk V c 5 t)) X1) = blk7 V c t.val := by
  have hd : 14 * (t.val / 14) + 13 = t.val := by omega
  unfold blk7
  rw [hd, amx_next V c t.val (by omega), ← e1, pt_val]

end Cert.Kernel.GateUp

end
-- ==== Proof.GateUpBits.Region.lean ====
module

public import proofs.«01_k».proof.Proof.GateUpBits.Inv
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.Kernel.GateUp

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region invariant before position `n`: the two scratch buffers at contents `Inv` describes, and the generator register
    at some state. -/
def PhiS (c : Dev nD) (n : ℕ) (_ : n ≤ cfg0.N) : sProp 𝕄 :=
  iprop(∃ X0 X1, ⌜Inv V c n X0 X1⌝ ∗ iprop(owns (c : Thread nD τ) scM0_0 fullShare X0 ∗ owns (c : Thread nD τ) scM0_1 fullShare X1) ∗ (∃ r, prngReg c r))

/-! ## The pipeline's proof data -/

/-- The region's proof data on core `c`: the arrays as the region finds them (`V`); after the body each input's buffer at its
    block, and the outputs' at the blocks the peer's last point writes. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => blk6 V c t.val
    | ⟨7, _⟩ => blk7 V c t.val
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; exact Pipeline.Dat.Φ_castSucc (PhiS V c) t
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = blk6 V c t.val := by dsimp only [dat]
theorem after0_7 (c : Dev nD) (t : Fin cfg0.N) : (dat V c).after 7 t = blk7 V c t.val := by dsimp only [dat]
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))
/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body's triple at every point: a peer's first tile, a middle tile, its last tile. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl]
  rw [show (dat V c).Φ t.succ = PhiS V c (t.val + 1) t.isLt from rfl, PhiS_castSucc V c t]
  unfold PhiS
  have hN : t.val < 112 := lt_of_lt_of_eq t.isLt (show cfg0.N = 112 from N_0)
  rw [show (dat V c).leavesExact 0 t = owns (c : Thread nD τ) (ms0_0 t) fullShare ((dat V c).after 0 t) from by unfold Dat.leavesExact; rw [liveAt0_0 t], after0_0]
  rw [show (dat V c).leavesExact 1 t = owns (c : Thread nD τ) (ms0_1 t) fullShare ((dat V c).after 1 t) from by unfold Dat.leavesExact; rw [liveAt0_1 t], after0_1]
  rw [show (dat V c).leavesExact 2 t = owns (c : Thread nD τ) (ms0_2 t) fullShare ((dat V c).after 2 t) from by unfold Dat.leavesExact; rw [liveAt0_2 t], after0_2]
  rw [show (dat V c).leavesExact 3 t = owns (c : Thread nD τ) (ms0_3 t) fullShare ((dat V c).after 3 t) from by unfold Dat.leavesExact; rw [liveAt0_3 t], after0_3]
  rw [show (dat V c).leavesExact 4 t = owns (c : Thread nD τ) (ms0_4 t) fullShare ((dat V c).after 4 t) from by unfold Dat.leavesExact; rw [liveAt0_4 t], after0_4]
  rw [show (dat V c).leavesExact 5 t = owns (c : Thread nD τ) (ms0_5 t) fullShare ((dat V c).after 5 t) from by unfold Dat.leavesExact; rw [liveAt0_5 t], after0_5]
  by_cases h0 : t.val % 14 = 0
  · have h1 : ¬1 ≤ t.val % 14 := by omega
    have h2 : ¬t.val % 14 = 13 := by omega
    rw [Dat.leavesExact_idle (dat V c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
    rw [Dat.leavesExact_idle (dat V c) 7 t (idleAt0_7_A t ((hcond0_0 t).mpr h0) (fun h => h1 ((hcond0_1 t).mp h)) (fun h => h2 ((hcond0_2 t).mp h))) (noFlush0_7_A t ((hcond0_0 t).mpr h0) (fun h => h1 ((hcond0_1 t).mp h)) (fun h => h2 ((hcond0_2 t).mp h)))]
    iintro ⟨⟨%X0, %X1, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t) (iblk V c 4 t) (iblk V c 5 t) ).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists _; iexact HS1
    iintro ⟨H0, H1, H2, H3, H4, H5, H6, H7, HS0, ⟨%es1, HS1⟩⟩
    isplitl [HS0 HS1 Hg]
    · iexists _, _
      isplitr; · ipureintro; exact Inv_first V c t h0 scM0_0 (Memref.isWhole_whole _) X0
      isplitl [HS0 HS1]
      · isplitl [HS0]
        · unfold owns; iexists _; isplitr
          swap; · iexact HS0
          ipureintro; exact ends0_A c _ _ _ _ _ _ _ _ _ _ _ _ _ _ _ _ _ _ _ _ _ _ _ _ _ _ _ _ _ _ _
        unfold owns; iexists _; isplitr
        swap; · iexact HS1
        ipureintro; exact ends1_A c _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have h1 : 1 ≤ t.val % 14 := by omega
    by_cases h2 : t.val % 14 = 13
    · have hd : 14 * (t.val / 14) + 13 = t.val := by omega
      rw [show (dat V c).leavesExact 6 t = owns (c : Thread nD τ) (ms0_6 t) fullShare ((dat V c).after 6 t) from by unfold Dat.leavesExact; rw [liveAt0_6_C t (fun h => h0 ((hcond0_0 t).mp h)) ((hcond0_1 t).mpr h1) ((hcond0_2 t).mpr h2)], after0_6]
      rw [show (dat V c).leavesExact 7 t = owns (c : Thread nD τ) (ms0_7 t) fullShare ((dat V c).after 7 t) from by unfold Dat.leavesExact; rw [liveAt0_7_C t (fun h => h0 ((hcond0_0 t).mp h)) ((hcond0_1 t).mpr h1) ((hcond0_2 t).mpr h2)], after0_7]
      iintro ⟨⟨%X0, %X1, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨e1, e2⟩ := hI h0
      iapply ((kernelRun0_C c (grid0.coords t) _ _ _ _ _ _ _ _ _ _ _ _ _ _ _ _ _ _ _ _ (fun h => h0 ((hcond0_0 t).mp h)) ((hcond0_1 t).mpr h1) ((hcond0_2 t).mpr h2) (hoff13 t h2) (iblk V c 0 t) (iblk V c 1 t) (iblk V c 2 t) (iblk V c 3 t) (iblk V c 4 t) (iblk V c 5 t) X1 (hsl V c (14 * (t.val / 14) + 0)) (hsl V c (14 * (t.val / 14) + 1)) (hsl V c (14 * (t.val / 14) + 2)) (hsl V c (14 * (t.val / 14) + 3)) (hsl V c (14 * (t.val / 14) + 4)) (hsl V c (14 * (t.val / 14) + 5)) (hsl V c (14 * (t.val / 14) + 6)) (hsl V c (14 * (t.val / 14) + 7)) (hsl V c (14 * (t.val / 14) + 8)) (hsl V c (14 * (t.val / 14) + 9)) (hsl V c (14 * (t.val / 14) + 10)) (hsl V c (14 * (t.val / 14) + 11)) (hsl V c (14 * (t.val / 14) + 12))).2.2.2.2 X0 (slice_read scM0_0 (Memref.isWhole_whole _) X0 0 (by decide) _ _ (e2 0 (by decide) (by omega))) (slice_read scM0_0 (Memref.isWhole_whole _) X0 1 (by decide) _ _ (e2 1 (by decide) (by omega))) (slice_read scM0_0 (Memref.isWhole_whole _) X0 2 (by decide) _ _ (e2 2 (by decide) (by omega))) (slice_read scM0_0 (Memref.isWhole_whole _) X0 3 (by decide) _ _ (e2 3 (by decide) (by omega))) (slice_read scM0_0 (Memref.isWhole_whole _) X0 4 (by decide) _ _ (e2 4 (by decide) (by omega))) (slice_read scM0_0 (Memref.isWhole_whole _) X0 5 (by decide) _ _ (e2 5 (by decide) (by omega))) (slice_read scM0_0 (Memref.isWhole_whole _) X0 6 (by decide) _ _ (e2 6 (by decide) (by omega))) (slice_read scM0_0 (Memref.isWhole_whole _) X0 7 (by decide) _ _ (e2 7 (by decide) (by omega))) (slice_read scM0_0 (Memref.isWhole_whole _) X0 8 (by decide) _ _ (e2 8 (by decide) (by omega))) (slice_read scM0_0 (Memref.isWhole_whole _) X0 9 (by decide) _ _ (e2 9 (by decide) (by omega))) (slice_read scM0_0 (Memref.isWhole_whole _) X0 10 (by decide) _ _ (e2 10 (by decide) (by omega))) (slice_read scM0_0 (Memref.isWhole_whole _) X0 11 (by decide) _ _ (e2 11 (by decide) (by omega))) (slice_read scM0_0 (Memref.isWhole_whole _) X0 12 (by decide) _ _ (e2 12 (by decide) (by omega))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, HS0, ⟨%es1, HS1⟩⟩
      isplitl [HS0 HS1 Hg]
      · iexists _, _
        isplitr; · ipureintro; exact Inv_next V c t h0 scM0_0 (Memref.isWhole_whole _) X0 X1 hI
        isplitl [HS0 HS1]
        · isplitl [HS0]
          · unfold owns; iexists _; isplitr
            swap; · iexact HS0
            ipureintro; exact ends0_C c _ _ _ _ _ _ _ _ _ _ _ _ _ _ _ _ _ _ _ _ _ _ _ _ _ _ _ _ _ _ _ _ _ _ _ _ _ _ _ _ _ _ _ _ _ _
          unfold owns; iexists _; isplitr
          swap; · iexact HS1
          ipureintro; exact ends1_C c _ _ _ _ _ _ _ _ _ _ _ _ _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (ends6_C c _ _ _ _ _ _ _ _ _ _ _ _ _ _ _ _ _ _ _ _ _ _ _ _ _ _ _ _ _ _ _ _ _ _ _ _ _ _ _ _ _ _ _ _ _ _ ).trans (blk6_last V c t h2 X1 e1)
      unfold owns; iexists _; isplitr
      swap; · iexact H7
      ipureintro; exact (ends7_C c _ _ _ _ _ _ _ _ _ _ _ _ _ _ _ _ _ _ _ _ _ _ _ _ _ _ _ _ _ _ _ _ _ _ _ _ _ _ _ _ _ _ _ _ _ _ ).trans (blk7_last V c t h2 X1 e1)
    ·
      rw [Dat.leavesExact_idle (dat V c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
      rw [Dat.leavesExact_idle (dat V c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
      iintro ⟨⟨%X0, %X1, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) X1).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, ⟨%es1, HS1⟩⟩
      isplitl [HS0 HS1 Hg]
      · iexists _, _
        isplitr; · ipureintro; exact Inv_next V c t h0 scM0_0 (Memref.isWhole_whole _) X0 X1 hI
        isplitl [HS0 HS1]
        · isplitl [HS0]
          · unfold owns; iexists _; isplitr
            swap; · iexact HS0
            ipureintro; exact ends0_B c _ _ _ _ _ _ _ _ _ _ _ _ _ _ _ _ _ _ _ _ _ _ _ _ _ _ _ _ _ _ _ _
          unfold owns; iexists _; isplitr
          swap; · iexact HS1
          ipureintro; exact ends1_B c _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

set_option maxHeartbeats 9600000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : Pipeline.ΦA spec0 c ⊢ (dat V c).Φ 0 := by
  rw [show (dat V c).Φ 0 = PhiS V c 0 (Nat.zero_le _) from rfl, PhiA0_eq]
  unfold PhiS
  iintro ⟨⟨⟨%X0, HS0⟩, ⟨%X1, HS1⟩⟩, Hg⟩
  iexists X0, X1
  isplitr; · ipureintro; exact fun h => absurd rfl h
  isplitl [HS0 HS1]
  · isplitl [HS0]; · iexact HS0
    iexact HS1
  iexact Hg

/-- After the last point the invariant gives the launch's resources back. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl, PhiA0_eq]
  unfold PhiS
  iintro ⟨%X0, %X1, %hI, ⟨HS0, HS1⟩, Hg⟩
  isplitl [HS0 HS1]
  · isplitl [HS0]
    · iexists _; iexact HS0
    iexists _; iexact HS1
  iexact Hg

end Cert.Kernel.GateUp

end
-- ==== Proof.GateUpBits.Launch.lean ====
module

public import proofs.«01_k».proof.Proof.GateUpBits.Region
public import proofs.«01_k».proof.Proof.Gen.Kernel.Frame
public import Idealize.ShloMosaic.Lib.Pipeline.Value

@[expose] public section

noncomputable section

namespace Cert.Kernel.GateUp

open Cert.Kernel Cert.Kernel.Gen Idealize.ShloMosaic Idealize.ShloMosaic.TcCoe Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The proof data of the launch's one region: its arrays as the host operations before it leave them. -/
def dats (_ : Fin 1) (c : Dev nD) : Dat τ (Elt F) Unit ℕ (UR sig nD τ) ℕ cfg0 c := dat (Gen.V m) c

set_option backward.isDefEq.respectTransparency.types false in
/-- The launch runs to the region's proof data's post, every semaphore back at zero. -/
theorem run_quiescent : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) launch0 defs₀ Variants.none m ρ main
    (hbody := fun c => (body_obligation (Gen.V m) c).loose)
    (hshare := fun c => (dats m 0 c).share_full fun _ => rfl)
    (howed := fun _ _ => rfl)
    (V := Gen.V m)
    (hmain := hmain m Variants.none) (hA := A_eq (Gen.V m)) (hin := hin (Gen.V m)) (hout := hout (Gen.V m))

/-- The run with each result named, and the arguments unchanged. -/
theorem run : θ_run defs (onTc (τ := τ) (main (F := F))) ⟨m, fun _ => 0, ρ⟩ fun r => ∀ c : Dev nD,
      r.2.mem ((c.tc : Thread nD τ).loc main_v2_0) = (dat (Gen.V m) c).arrAt 6 cfg0.N
      ∧ r.2.mem ((c.tc : Thread nD τ).loc main_v2_1) = (dat (Gen.V m) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 6, (h.1 c).1 7,
      ((h.1 c).1 0).trans (((dats m 0 c).arrAt_in 0 rfl _).trans ((A_eq (Gen.V m) c 0).trans (V_main_arg0 m c))),
      ((h.1 c).1 1).trans (((dats m 0 c).arrAt_in 1 rfl _).trans ((A_eq (Gen.V m) c 1).trans (V_main_arg1 m c))),
      ((h.1 c).1 2).trans (((dats m 0 c).arrAt_in 2 rfl _).trans ((A_eq (Gen.V m) c 2).trans (V_main_arg2 m c))),
      ((h.1 c).1 3).trans (((dats m 0 c).arrAt_in 3 rfl _).trans ((A_eq (Gen.V m) c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run_quiescent m ρ)

/-- The frame: the arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2.2) (run m ρ)) ((θ_run defs _ _).mono (fun _ h => h.2) (run_quiescent m ρ))

end Cert.Kernel.GateUp

end
-- ==== Proof.GateUp.Spec.lean ====
module

public import Idealize.ShloMosaic.Lib.Pointwise

@[expose] public section

noncomputable section

namespace Cert.Rows

open Idealize.ShloMosaic

/-! The mathematics of one row of the feed-forward layer over the extended reals, shared by the two programs. -/

/-- One entry of the gated product: the row `x` of codes against the columns `g` and `u` of the two weight matrices,
    scaled by the row's scale `s` and the columns' scales, the first one through `y · σ(y)`, and multiplied. -/
def gated {n : ℕ} (x g u : Fin n → EReal) (s sg su : EReal) : EReal :=
  (∑ k, x k * g k) * (s * sg) * Ideal.logistic ((∑ k, x k * g k) * (s * sg)) * ((∑ k, x k * u k) * (s * su))

/-- Equal rows, columns and scales have equal gated products. -/
theorem gated_congr {n : ℕ} {x x' g g' u u' : Fin n → EReal} {s s' sg sg' su su' : EReal} (hx : x = x') (hg : g = g') (hu : u = u')
    (hs : s = s') (hsg : sg = sg') (hsu : su = su') : gated x g u s sg su = gated x' g' u' s' sg' su' := by
  subst hx hg hu hs hsg hsu; rfl

/-- The largest magnitude in the row `f`. -/
def rowMax {n : ℕ} (f : Fin n → EReal) : EReal :=
  Finset.fold max (Ideal.ofBits .f32 0xFF800000#32) (fun k => FloatOps.absf (F := Ideal) (φ := .f32) (f k)) Finset.univ

/-- The scale of a row whose largest magnitude is `a`: `a / 448`, and one for a row of zeros. -/
def rowScale (a : EReal) : EReal := if a = 0 then 1 else Ideal.div a (Ideal.ofBits .f32 0x43E00000#32)

/-- The code of the value `v` at the scale `s`: the quotient, held between −448 and 448. -/
def code (v s : EReal) : EReal :=
  min (Ideal.ofBits .f32 0x43E00000#32) (max (Ideal.ofBits .f32 0xC3E00000#32) (Ideal.div v s))

theorem ofBits_448 : Ideal.ofBits .f32 0x43E00000#32 = ((448 : ℝ) : EReal) := by
  simp [Ideal.ofBits, Ideal.ieee]
  rw [← EReal.coe_mul]
  norm_num

/-- A row's scale is never zero. -/
theorem rowScale_ne (a : EReal) : rowScale a ≠ 0 := by
  unfold rowScale
  split
  · exact one_ne_zero
  · rename_i h
    rw [ofBits_448, Ideal.div_coe (by norm_num)]
    refine mul_ne_zero h ?_
    exact_mod_cast (by norm_num : (1 / 448 : ℝ) ≠ 0)

/-- Multiplying by a scale's reciprocal is dividing by the scale. -/
theorem mul_recip (v a : EReal) : v * Ideal.div 1 (rowScale a) = Ideal.div v (rowScale a) := by
  have h := rowScale_ne a
  unfold Ideal.div
  rw [if_neg h, if_neg h, one_mul]

/-- A row's largest magnitude is at most `y` exactly when the fold's start is and every entry's magnitude is. -/
theorem rowMax_le {n : ℕ} (f : Fin n → EReal) (y : EReal) :
    rowMax f ≤ y ↔ Ideal.ofBits .f32 0xFF800000#32 ≤ y ∧ ∀ k, FloatOps.absf (F := Ideal) (φ := .f32) (f k) ≤ y := by
  unfold rowMax
  rw [Finset.fold_max_le]
  simp

end Cert.Rows
-- ==== Proof.GateUp.Runs.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 112 := Nat.lt_of_lt_of_eq t.isLt N_0
    have e0 : (grid0.coords t 0).val = t.val / 14 % 8 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates (the skeleton's scalar
    chain substituted). -/
abbrev cond0_1 (i : grid0.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond0_1 : ∀ t : Fin cfg0.N, cond0_1 (grid0.coords t) ↔ 1 ≤ t.val % 14 :=
  (by decide +kernel : ∀ t : Fin grid0.N, cond0_1 (grid0.coords t) ↔ 1 ≤ t.val % 14)

/-- The condition of the body's `scf.if` 2 (`k0_h3`), from the grid coordinates (the skeleton's scalar
    chain substituted). -/
abbrev cond0_2 (i : grid0.Coords) : Prop := k0_cond3 i = 1#1
/-- It holds at the points ≡ 13 (mod 14) — by arithmetic of the point. -/
theorem hcond0_2 : ∀ t : Fin cfg0.N, cond0_2 (grid0.coords t) ↔ t.val % 14 = 13 :=
  (fun t => by
    have ht : t.val < 112 := Nat.lt_of_lt_of_eq t.isLt N_0
    have e0 : (grid0.coords t 0).val = t.val / 14 % 8 := Pipeline.Grid.coords_val t 0 (by decide) rfl
    have e1 : (grid0.coords t 1).val = t.val / 1 % 14 := Pipeline.Grid.coords_val t 1 (by decide) rfl
    simp only [cond0_2, k0_cond3, e0, e1]
    word_cmp
   : ∀ t : Fin grid0.N, cond0_2 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → ¬cond0_2 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → ¬cond0_2 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → cond0_1 (grid0.coords t) → ¬cond0_2 (grid0.coords t) → cfg0.idle 6 (grid0.coords t) = true := by decide +kernel
/-- At the points of case B the pipeline does not write output 6's block back. -/
theorem noFlush0_6_B : ∀ t : Fin cfg0.N, ¬cond0_0 (grid0.coords t) → cond0_1 (grid0.coords t) → ¬cond0_2 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cond0_2 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → ¬cond0_2 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → ¬cond0_2 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → cond0_1 (grid0.coords t) → ¬cond0_2 (grid0.coords t) → cfg0.idle 7 (grid0.coords t) = true := by decide +kernel
/-- At the points of case B the pipeline does not write output 7's block back. -/
theorem noFlush0_7_B : ∀ t : Fin cfg0.N, ¬cond0_0 (grid0.coords t) → cond0_1 (grid0.coords t) → ¬cond0_2 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cond0_2 (grid0.coords t) → cfg0.idle 7 (grid0.coords t) = false := by decide +kernel

/-! ## The kernel body on any staging memrefs: a subtype the run finds -/

/-- One staging buffer of output window 6, through which its contents are stated. -/
abbrev VO0_6 : View sig .tc .vmem S1x480x3584 .fp8e4m3 := (Memref.whole cc0_stg6_0 : Memref sig .tc .vmem S1x480x3584 .fp8e4m3).view
/-- One staging buffer of output window 7, through which its contents are stated. -/
abbrev VO0_7 : View sig .tc .vmem S1x480x1 .f32 := (Memref.whole cc0_stg7_0 : Memref sig .tc .vmem S1x480x1 .f32).view
/-- Each window's current staging memref at point `t`, spelled as the pipeline passes it (`bodyAt0`), and its wholeness. -/
abbrev ms0_0 (t : Fin cfg0.N) : Memref sig .tc .vmem S1x480x12288 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x480x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S12288x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12288x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x480x3584 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x480x1 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S14x480x256 .f32 := Memref.whole cc0_scratch0
abbrev scM0_1 : Memref sig .tc .vmem S480x1 .f32 := Memref.whole cc0_scratch1
/-- The scratch `arg10` the kernel carries between points, as a view: what it holds is stated through it. -/
abbrev VS0_0 : View sig .tc .vmem S14x480x256 .f32 := scM0_0.view
/-- The scratch `arg11` the kernel carries between points, as a view: what it holds is stated through it. -/
abbrev VS0_1 : View sig .tc .vmem S480x1 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.GateUp

end
-- ==== Proof.GateUp.RunA.lean ====
module

public import proofs.«01_k».proof.Proof.GateUp.Runs

@[expose] public section

-- membership in a rectangle of production extents (`View.cover_of_tiled`): the elaborator's structural look
-- recurses once per coordinate of the long axes
set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 14, … 98: 8 of 112), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) :
    Σ' (L6 : List (View.Piece (Elt F) S1x480x3584 .fp8e4m3)), Σ' (L7 : List (View.Piece (Elt F) S1x480x1 .f32)), Σ' (LS0 : List (View.Piece (Elt F) S14x480x256 .f32)), { LS1 : List (View.Piece (Elt F) S480x1 .f32) //
      ∀ (xi6 : Vec F S1x480x3584 .fp8e4m3) (xi7 : Vec F S1x480x1 .f32) (xs0 : Vec F S14x480x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0_gate_up_eq_skeleton]; unfold cc0_gate_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.KernelIdeal.GateUp

end
-- ==== Proof.GateUp.RunB.lean ====
module

public import proofs.«01_k».proof.Proof.GateUp.RunA

@[expose] public section

-- membership in a rectangle of production extents (`View.cover_of_tiled`): the elaborator's structural look
-- recurses once per coordinate of the long axes
set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 110: 96 of 112), WITH the
    proof that on whole staging memrefs — the inputs' at their contents, the outputs it leaves idle (6, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) :
    Σ' (L6 : List (View.Piece (Elt F) S1x480x3584 .fp8e4m3)), Σ' (L7 : List (View.Piece (Elt F) S1x480x1 .f32)), Σ' (LS0 : List (View.Piece (Elt F) S14x480x256 .f32)), { LS1 : List (View.Piece (Elt F) S480x1 .f32) //
      ∀ (xi6 : Vec F S1x480x3584 .fp8e4m3) (xi7 : Vec F S1x480x1 .f32) (xs0 : Vec F S14x480x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨[], [], ?_, ?_, fun xi6 xi7 xs0 E K => ?run⟩
  case run =>
    simp only [cc0_gate_up_eq_skeleton]; unfold cc0_gate_up_skel
    simp only [k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexact HS0
    iexists _; iexact HS1

end Cert.KernelIdeal.GateUp

end
-- ==== Proof.GateUp.RunC.lean ====
module

public import proofs.«01_k».proof.Proof.GateUp.RunB

@[expose] public section

-- membership in a rectangle of production extents (`View.cover_of_tiled`): the elaborator's structural look
-- recurses once per coordinate of the long axes
set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 13, 27, … 111: 8 of 112), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; a scratch filled one slice per point that the case reads is at ANY contents whose reads at the rectangles of earlier points' slices are the parameters `ps·` (the facts `hps·`); the case's own store into such a scratch is placed by `hl·` (the numbers its offsets are at every point of the case); the pieces are
    the witness that run finds (assigned when `iexact` hands the buffer to the continuation). -/
noncomputable def kernelRun0_C (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    Σ' (L6 : List (View.Piece (Elt F) S1x480x3584 .fp8e4m3)), Σ' (L7 : List (View.Piece (Elt F) S1x480x1 .f32)), Σ' (LS0 : List (View.Piece (Elt F) S14x480x256 .f32)), { LS1 : List (View.Piece (Elt F) S480x1 .f32) //
      ∀ (xs0 : Vec F S14x480x256 .f32) (hps0_0 : View.readAt (Elt F) arg10.view (Rect.unit (s := S14x480x256) ![0, 0, 0] S1x480x256.size inb_S14x480x256_S1x480x256_0_0_0).toLoadRect (harg10.unread xs0) = ps0_0) (hps0_1 : View.readAt (Elt F) arg10.view (Rect.unit (s := S14x480x256) ![1, 0, 0] S1x480x256.size inb_S14x480x256_S1x480x256_1_0_0).toLoadRect (harg10.unread xs0) = ps0_1) (hps0_2 : View.readAt (Elt F) arg10.view (Rect.unit (s := S14x480x256) ![2, 0, 0] S1x480x256.size inb_S14x480x256_S1x480x256_2_0_0).toLoadRect (harg10.unread xs0) = ps0_2) (hps0_3 : View.readAt (Elt F) arg10.view (Rect.unit (s := S14x480x256) ![3, 0, 0] S1x480x256.size inb_S14x480x256_S1x480x256_3_0_0).toLoadRect (harg10.unread xs0) = ps0_3) (hps0_4 : View.readAt (Elt F) arg10.view (Rect.unit (s := S14x480x256) ![4, 0, 0] S1x480x256.size inb_S14x480x256_S1x480x256_4_0_0).toLoadRect (harg10.unread xs0) = ps0_4) (hps0_5 : View.readAt (Elt F) arg10.view (Rect.unit (s := S14x480x256) ![5, 0, 0] S1x480x256.size inb_S14x480x256_S1x480x256_5_0_0).toLoadRect (harg10.unread xs0) = ps0_5) (hps0_6 : View.readAt (Elt F) arg10.view (Rect.unit (s := S14x480x256) ![6, 0, 0] S1x480x256.size inb_S14x480x256_S1x480x256_6_0_0).toLoadRect (harg10.unread xs0) = ps0_6) (hps0_7 : View.readAt (Elt F) arg10.view (Rect.unit (s := S14x480x256) ![7, 0, 0] S1x480x256.size inb_S14x480x256_S1x480x256_7_0_0).toLoadRect (harg10.unread xs0) = ps0_7) (hps0_8 : View.readAt (Elt F) arg10.view (Rect.unit (s := S14x480x256) ![8, 0, 0] S1x480x256.size inb_S14x480x256_S1x480x256_8_0_0).toLoadRect (harg10.unread xs0) = ps0_8) (hps0_9 : View.readAt (Elt F) arg10.view (Rect.unit (s := S14x480x256) ![9, 0, 0] S1x480x256.size inb_S14x480x256_S1x480x256_9_0_0).toLoadRect (harg10.unread xs0) = ps0_9) (hps0_10 : View.readAt (Elt F) arg10.view (Rect.unit (s := S14x480x256) ![10, 0, 0] S1x480x256.size inb_S14x480x256_S1x480x256_10_0_0).toLoadRect (harg10.unread xs0) = ps0_10) (hps0_11 : View.readAt (Elt F) arg10.view (Rect.unit (s := S14x480x256) ![11, 0, 0] S1x480x256.size inb_S14x480x256_S1x480x256_11_0_0).toLoadRect (harg10.unread xs0) = ps0_11) (hps0_12 : View.readAt (Elt F) arg10.view (Rect.unit (s := S14x480x256) ![12, 0, 0] S1x480x256.size inb_S14x480x256_S1x480x256_12_0_0).toLoadRect (harg10.unread xs0) = ps0_12) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (arg10.view.loc (c : Thread nD τ) ↦[arg10.view.set]{fullShare} arg10.view.writes (Elt F) (harg10.unread xs0) LS0) ∗ (∃ f, arg11.view.loc (c : Thread nD τ) ↦[arg11.view.set]{fullShare} arg11.view.writes (Elt F) f LS1)) -∗ K ⟨⟩))
          ⊢ wp frame (wpE (defs₀ (F := F)) Variants.none c none) E (cc0_gate_up i arg2 harg2 arg3 harg3 arg4 harg4 arg5 harg5 arg6 harg6 arg7 harg7 arg8 harg8 arg9 harg9 arg10 harg10 arg11 harg11) K } := by
  refine ⟨?_, ?_, ?_, ?_, fun xs0 hps0_0 hps0_1 hps0_2 hps0_3 hps0_4 hps0_5 hps0_6 hps0_7 hps0_8 hps0_9 hps0_10 hps0_11 hps0_12 E K => ?run⟩
  case run =>
    letI : ClosedOff (k0_off1 i) := ⟨![13, 0, 0], hl0⟩
    simp only [cc0_gate_up_eq_skeleton]; unfold cc0_gate_up_skel
    simp only [k0_part6_eq_skeleton, k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg10.eq_unread hfs0; obtain rfl := harg11.eq_unread hfs1
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexact HS0
    iexists _; iexact HS1

end Cert.KernelIdeal.GateUp

end
-- ==== Proof.GateUp.Values.lean ====
module

public import proofs.«01_k».proof.Proof.GateUp.RunC
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the runs leave, named by the blocks they read -/

/-- A load of a whole memref's own extents, the memref held at contents that read `x`, reads `x`. -/
theorem rd {s : Shape} {e : EltTy} (a : Memref sig .tc .vmem s e) (h : a.IsWhole) {off : Fin s.rank → ℕ}
    (inb : ∀ k, off k + s.size k ≤ s.size k) (x : s.Idx → Elt F e) :
    View.readAt (Elt F) a.view (Rect.unit off s.size inb).toLoadRect (h.unread x) = x :=
  (View.readAt_full a.view _ inb).trans (h.read_unread x)

/-- The gated product of one tile of a peer's rows, as it is stored in its slice of the scratch. -/
abbrev hSl (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) : Vec F S1x480x256 .f32 :=
  k0_pay25 x1 x0 x2 x4 x3 x5
/-- The largest magnitude of each row of the tile's gated product. -/
abbrev rMx (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) : Vec F S480x1 .f32 :=
  k0_pay26 x1 x0 x2 x4 x3 x5
/-- The same, as the first tile stores it. -/
abbrev rMx0 (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) : Vec F S480x1 .f32 :=
  k0_pay27 x1 x0 x2 x4 x3 x5

/-- The fourteen stores of quantised tiles into the codes' block: tile `k` at columns `256 k`, `h_k` over the scale of the
    row maxima `a`. -/
def pieces6 (a : Vec F S480x1 .f32) (h0 h1 h2 h3 h4 h5 h6 h7 h8 h9 h10 h11 h12 h13 : Vec F S1x480x256 .f32) : List (View.Piece (Elt F) S1x480x3584 .fp8e4m3) :=
  [⟨Rect.unit (s := S1x480x3584) ![0, 0, 3328] S1x480x256.size inb_S1x480x3584_S1x480x256_0_0_3328, k0_pay6 a h13⟩,
   ⟨Rect.unit (s := S1x480x3584) ![0, 0, 3072] S1x480x256.size inb_S1x480x3584_S1x480x256_0_0_3072, k0_pay6 a h12⟩,
   ⟨Rect.unit (s := S1x480x3584) ![0, 0, 2816] S1x480x256.size inb_S1x480x3584_S1x480x256_0_0_2816, k0_pay6 a h11⟩,
   ⟨Rect.unit (s := S1x480x3584) ![0, 0, 2560] S1x480x256.size inb_S1x480x3584_S1x480x256_0_0_2560, k0_pay6 a h10⟩,
   ⟨Rect.unit (s := S1x480x3584) ![0, 0, 2304] S1x480x256.size inb_S1x480x3584_S1x480x256_0_0_2304, k0_pay6 a h9⟩,
   ⟨Rect.unit (s := S1x480x3584) ![0, 0, 2048] S1x480x256.size inb_S1x480x3584_S1x480x256_0_0_2048, k0_pay6 a h8⟩,
   ⟨Rect.unit (s := S1x480x3584) ![0, 0, 1792] S1x480x256.size inb_S1x480x3584_S1x480x256_0_0_1792, k0_pay6 a h7⟩,
   ⟨Rect.unit (s := S1x480x3584) ![0, 0, 1536] S1x480x256.size inb_S1x480x3584_S1x480x256_0_0_1536, k0_pay6 a h6⟩,
   ⟨Rect.unit (s := S1x480x3584) ![0, 0, 1280] S1x480x256.size inb_S1x480x3584_S1x480x256_0_0_1280, k0_pay6 a h5⟩,
   ⟨Rect.unit (s := S1x480x3584) ![0, 0, 1024] S1x480x256.size inb_S1x480x3584_S1x480x256_0_0_1024, k0_pay6 a h4⟩,
   ⟨Rect.unit (s := S1x480x3584) ![0, 0, 768] S1x480x256.size inb_S1x480x3584_S1x480x256_0_0_768, k0_pay6 a h3⟩,
   ⟨Rect.unit (s := S1x480x3584) ![0, 0, 512] S1x480x256.size inb_S1x480x3584_S1x480x256_0_0_512, k0_pay6 a h2⟩,
   ⟨Rect.unit (s := S1x480x3584) ![0, 0, 256] S1x480x256.size inb_S1x480x3584_S1x480x256_0_0_256, k0_pay6 a h1⟩,
   ⟨Rect.unit (s := S1x480x3584) ![0, 0, 0] S1x480x256.size inb_S1x480x3584_S1x480x256_0_0_0, k0_pay6 a h0⟩]

/-- Case A's one store into the scratch of slices: the tile's gated product at slice `i 1`. -/
theorem slice_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1 = [⟨Rect.unit (s := S14x480x256) (k0_off1 i) S1x480x256.size (k0_off1_inb i), hSl x0 x1 x2 x3 x4 x5⟩] := by
  have e : (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1 = [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case A's one store into the row maxima. -/
theorem amax_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) :
    (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1 = [⟨Rect.unit (s := S480x1) ![0, 0] S480x1.size inb_S480x1_S480x1_0_0, rMx0 x0 x1 x2 x3 x4 x5⟩] := by
  have e : (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1 = [⟨Rect.unit (s := S480x1) ![0, 0] S480x1.size inb_S480x1_S480x1_0_0, k0_pay27 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case B's one store into the scratch of slices: the tile's gated product at slice `i 1`. -/
theorem slice_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) :
    (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.1 = [⟨Rect.unit (s := S14x480x256) (k0_off1 i) S1x480x256.size (k0_off1_inb i), hSl x0 x1 x2 x3 x4 x5⟩] := by
  have e : (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.1 = [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case B's one store into the row maxima. -/
theorem amax_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) :
    (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1 = [⟨Rect.unit (s := S480x1) ![0, 0] S480x1.size inb_S480x1_S480x1_0_0, k0_pay1 (rMx x0 x1 x2 x3 x4 x5) xs1⟩] := by
  have e : (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1 = [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] := rfl
  rw [e, rd arg2 harg2, rd arg3 harg3, rd arg4 harg4, rd arg5 harg5, rd arg6 harg6, rd arg7 harg7, rd arg11 harg11]

/-- Case C's one store into the scratch of slices: the tile's gated product at slice `i 1`. -/
theorem slice_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.1 = [⟨Rect.unit (s := S14x480x256) (k0_off1 i) S1x480x256.size (k0_off1_inb i), hSl x0 x1 x2 x3 x4 x5⟩] := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.1 = [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] := rfl
  rw [e, rd arg2 harg2, rd arg3 harg3, rd arg4 harg4, rd arg5 harg5, rd arg6 harg6, rd arg7 harg7]

/-- Case C's one store into the row maxima. -/
theorem amax_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.2.1 = [⟨Rect.unit (s := S480x1) ![0, 0] S480x1.size inb_S480x1_S480x1_0_0, k0_pay1 (rMx x0 x1 x2 x3 x4 x5) xs1⟩] := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.2.1 = [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] := rfl
  rw [e, rd arg2 harg2, rd arg3 harg3, rd arg4 harg4, rd arg5 harg5, rd arg6 harg6, rd arg7 harg7, rd arg11 harg11]

/-- A load of slice 13 right after a store at offsets that are slice 13's reads the store's payload. -/
theorem readCov13 (a : View sig .tc .vmem S14x480x256 .f32) {off : Fin 3 → ℕ} (inb : ∀ k, off k + S1x480x256.size k ≤ S14x480x256.size k) (h : off = ![13, 0, 0])
    (w : Vec F S1x480x256 .f32) :
    a.readCov [⟨Rect.unit (s := S14x480x256) off S1x480x256.size inb, w⟩] (Rect.unit (s := S14x480x256) ![13, 0, 0] S1x480x256.size inb_S14x480x256_S1x480x256_13_0_0).toLoadRect = w := by
  funext y
  exact View.read_writes_cons_unit_of_mem (off' := ![13, 0, 0]) a _ inb w [] _ y h
    (fun k => Rect.idx_unit_val (s := S14x480x256) ![13, 0, 0] S1x480x256.size inb_S14x480x256_S1x480x256_13_0_0 y k)

/-- Case C's fourteen stores into the codes' block. -/
theorem codes_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).1 = pieces6 (k0_pay1 (rMx x0 x1 x2 x3 x4 x5) xs1) ps0_0 ps0_1 ps0_2 ps0_3 ps0_4 ps0_5 ps0_6 ps0_7 ps0_8 ps0_9 ps0_10 ps0_11 ps0_12 (hSl x0 x1 x2 x3 x4 x5) := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).1 = pieces6 (arg11.view.readCov [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] (Rect.unit (s := S480x1) ![0, 0] S480x1.size inb_S480x1_S480x1_0_0).toLoadRect) ps0_0 ps0_1 ps0_2 ps0_3 ps0_4 ps0_5 ps0_6 ps0_7 ps0_8 ps0_9 ps0_10 ps0_11 ps0_12 (arg10.view.readCov [⟨Rect.unit (s := S14x480x256) (k0_off1 i) S1x480x256.size (k0_off1_inb i), k0_pay25 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))⟩] (Rect.unit (s := S14x480x256) ![13, 0, 0] S1x480x256.size inb_S14x480x256_S1x480x256_13_0_0).toLoadRect) := rfl
  rw [e, View.readCov_full, readCov13 _ _ hl0, rd arg2 harg2, rd arg3 harg3, rd arg4 harg4, rd arg5 harg5, rd arg6 harg6, rd arg7 harg7, rd arg11 harg11]

/-- Case C's one store into the scales' block. -/
theorem scale_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) :
    (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.1 = [⟨Rect.unit (s := S1x480x1) ![0, 0, 0] S1x480x1.size inb_S1x480x1_S1x480x1_0_0_0, k0_pay4 (k0_pay1 (rMx x0 x1 x2 x3 x4 x5) xs1)⟩] := by
  have e : (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.1 = [⟨Rect.unit (s := S1x480x1) ![0, 0, 0] S1x480x1.size inb_S1x480x1_S1x480x1_0_0_0, k0_pay4 (arg11.view.readCov [⟨Rect.unit (s := S480x1) ![0, 0] S480x1.size inb_S480x1_S480x1_0_0, k0_pay1 (k0_pay26 (View.readAt (Elt F) arg3.view (Rect.unit (s := S1x480x1) ![0, 0, 0] S1x480x1.size inb_S1x480x1_S1x480x1_0_0_0).toLoadRect (harg3.unread x1)) (View.readAt (Elt F) arg2.view (Rect.unit (s := S1x480x12288) ![0, 0, 0] S1x480x12288.size inb_S1x480x12288_S1x480x12288_0_0_0).toLoadRect (harg2.unread x0)) (View.readAt (Elt F) arg4.view (Rect.unit (s := S12288x256) ![0, 0] S12288x256.size inb_S12288x256_S12288x256_0_0).toLoadRect (harg4.unread x2)) (View.readAt (Elt F) arg6.view (Rect.unit (s := S1x256) ![0, 0] S1x256.size inb_S1x256_S1x256_0_0).toLoadRect (harg6.unread x4)) (View.readAt (Elt F) arg5.view (Rect.unit (s := S12288x256) ![0, 0] S12288x256.size inb_S12288x256_S12288x256_0_0).toLoadRect (harg5.unread x3)) (View.readAt (Elt F) arg7.view (Rect.unit (s := S1x256) ![0, 0] S1x256.size inb_S1x256_S1x256_0_0).toLoadRect (harg7.unread x5))) (View.readAt (Elt F) arg11.view (Rect.unit (s := S480x1) ![0, 0] S480x1.size inb_S480x1_S480x1_0_0).toLoadRect (harg11.unread xs1))⟩] (Rect.unit (s := S480x1) ![0, 0] S480x1.size inb_S480x1_S480x1_0_0).toLoadRect)⟩] := rfl
  rw [e, View.readCov_full, rd arg2 harg2, rd arg3 harg3, rd arg4 harg4, rd arg5 harg5, rd arg6 harg6, rd arg7 harg7, rd arg11 harg11]

/-- The scratch of slices after case A. -/
theorem ends0_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (g : arg10.view.ty.Contents (Elt F)) :
    arg10.view.read (Elt F) (arg10.view.writes (Elt F) g (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.1) = arg10.view.read (Elt F) (arg10.view.writes (Elt F) g [⟨Rect.unit (s := S14x480x256) (k0_off1 i) S1x480x256.size (k0_off1_inb i), hSl x0 x1 x2 x3 x4 x5⟩]) :=
  congrArg (fun L => arg10.view.read (Elt F) (arg10.view.writes (Elt F) g L)) (slice_A c i arg2 harg2 arg3 harg3 arg4 harg4 arg5 harg5 arg6 harg6 arg7 harg7 arg8 harg8 arg9 harg9 arg10 harg10 arg11 harg11 hc0 hc1 hc2 x0 x1 x2 x3 x4 x5)
/-- The row maxima after case A. -/
theorem ends1_A  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : cond0_0 i) (hc1 : ¬cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (g : arg11.view.ty.Contents (Elt F)) :
    arg11.view.read (Elt F) (arg11.view.writes (Elt F) g (kernelRun0_A c i arg2 harg2 arg3 harg3 arg4 harg4 arg5 harg5 arg6 harg6 arg7 harg7 arg8 harg8 arg9 harg9 arg10 harg10 arg11 harg11 hc0 hc1 hc2 x0 x1 x2 x3 x4 x5).2.2.2.1) = rMx0 x0 x1 x2 x3 x4 x5 :=
  (congrArg (fun L => arg11.view.read (Elt F) (arg11.view.writes (Elt F) g L)) (amax_A c i arg2 harg2 arg3 harg3 arg4 harg4 arg5 harg5 arg6 harg6 arg7 harg7 arg8 harg8 arg9 harg9 arg10 harg10 arg11 harg11 hc0 hc1 hc2 x0 x1 x2 x3 x4 x5)).trans (View.read_writes_full _ _ _ _ _)

/-- The scratch of slices after case B. -/
theorem ends0_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (g : arg10.view.ty.Contents (Elt F)) :
    arg10.view.read (Elt F) (arg10.view.writes (Elt F) g (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.1) = arg10.view.read (Elt F) (arg10.view.writes (Elt F) g [⟨Rect.unit (s := S14x480x256) (k0_off1 i) S1x480x256.size (k0_off1_inb i), hSl x0 x1 x2 x3 x4 x5⟩]) :=
  congrArg (fun L => arg10.view.read (Elt F) (arg10.view.writes (Elt F) g L)) (slice_B c i arg2 harg2 arg3 harg3 arg4 harg4 arg5 harg5 arg6 harg6 arg7 harg7 arg8 harg8 arg9 harg9 arg10 harg10 arg11 harg11 hc0 hc1 hc2 x0 x1 x2 x3 x4 x5 xs1)
/-- The row maxima after case B. -/
theorem ends1_B  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : ¬cond0_2 i)
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (g : arg11.view.ty.Contents (Elt F)) :
    arg11.view.read (Elt F) (arg11.view.writes (Elt F) g (kernelRun0_B c i arg2 harg2 arg3 harg3 arg4 harg4 arg5 harg5 arg6 harg6 arg7 harg7 arg8 harg8 arg9 harg9 arg10 harg10 arg11 harg11 hc0 hc1 hc2 x0 x1 x2 x3 x4 x5 xs1).2.2.2.1) = k0_pay1 (rMx x0 x1 x2 x3 x4 x5) xs1 :=
  (congrArg (fun L => arg11.view.read (Elt F) (arg11.view.writes (Elt F) g L)) (amax_B c i arg2 harg2 arg3 harg3 arg4 harg4 arg5 harg5 arg6 harg6 arg7 harg7 arg8 harg8 arg9 harg9 arg10 harg10 arg11 harg11 hc0 hc1 hc2 x0 x1 x2 x3 x4 x5 xs1)).trans (View.read_writes_full _ _ _ _ _)

/-- The scratch of slices after case C. -/
theorem ends0_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg10.view.ty.Contents (Elt F)) :
    arg10.view.read (Elt F) (arg10.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.1) = arg10.view.read (Elt F) (arg10.view.writes (Elt F) g [⟨Rect.unit (s := S14x480x256) (k0_off1 i) S1x480x256.size (k0_off1_inb i), hSl x0 x1 x2 x3 x4 x5⟩]) :=
  congrArg (fun L => arg10.view.read (Elt F) (arg10.view.writes (Elt F) g L)) (slice_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)
/-- The row maxima after case C. -/
theorem ends1_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg11.view.ty.Contents (Elt F)) :
    arg11.view.read (Elt F) (arg11.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.2.2.1) = k0_pay1 (rMx x0 x1 x2 x3 x4 x5) xs1 :=
  (congrArg (fun L => arg11.view.read (Elt F) (arg11.view.writes (Elt F) g L)) (amax_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)).trans (View.read_writes_full _ _ _ _ _)

/-- The fourteen stores tile the codes' block. -/
theorem pieces6_cover (a : Vec F S480x1 .f32) (h0 h1 h2 h3 h4 h5 h6 h7 h8 h9 h10 h11 h12 h13 : Vec F S1x480x256 .f32) (y : S1x480x3584.Idx) :
    ∃ pc ∈ pieces6 a h0 h1 h2 h3 h4 h5 h6 h7 h8 h9 h10 h11 h12 h13, y ∈ pc.1.set :=
  View.cover_of_tiledL (pieces6 a h0 h1 h2 h3 h4 h5 h6 h7 h8 h9 h10 h11 h12 h13) S1x480x256.size (by sl_kernel_rfl) y
/-- The codes' block after case C. -/
theorem ends6_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg8.view.ty.Contents (Elt F)) :
    arg8.view.read (Elt F) (arg8.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).1) = View.canon (pieces6 (k0_pay1 (rMx x0 x1 x2 x3 x4 x5) xs1) ps0_0 ps0_1 ps0_2 ps0_3 ps0_4 ps0_5 ps0_6 ps0_7 ps0_8 ps0_9 ps0_10 ps0_11 ps0_12 (hSl x0 x1 x2 x3 x4 x5)) :=
  (congrArg (fun L => arg8.view.read (Elt F) (arg8.view.writes (Elt F) g L)) (codes_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)).trans (View.read_writes_eq_canon _ _ _ (pieces6_cover (k0_pay1 (rMx x0 x1 x2 x3 x4 x5) xs1) ps0_0 ps0_1 ps0_2 ps0_3 ps0_4 ps0_5 ps0_6 ps0_7 ps0_8 ps0_9 ps0_10 ps0_11 ps0_12 (hSl x0 x1 x2 x3 x4 x5)))
/-- The scales' block after case C. -/
theorem ends7_C  (c : Dev nD) (i : grid0.Coords) (arg2 : Memref sig .tc .vmem S1x480x12288 .fp8e4m3) (harg2 : arg2.IsWhole) (arg3 : Memref sig .tc .vmem S1x480x1 .f32) (harg3 : arg3.IsWhole) (arg4 : Memref sig .tc .vmem S12288x256 .fp8e4m3) (harg4 : arg4.IsWhole) (arg5 : Memref sig .tc .vmem S12288x256 .fp8e4m3) (harg5 : arg5.IsWhole) (arg6 : Memref sig .tc .vmem S1x256 .f32) (harg6 : arg6.IsWhole) (arg7 : Memref sig .tc .vmem S1x256 .f32) (harg7 : arg7.IsWhole) (arg8 : Memref sig .tc .vmem S1x480x3584 .fp8e4m3) (harg8 : arg8.IsWhole) (arg9 : Memref sig .tc .vmem S1x480x1 .f32) (harg9 : arg9.IsWhole) (arg10 : Memref sig .tc .vmem S14x480x256 .f32) (harg10 : arg10.IsWhole) (arg11 : Memref sig .tc .vmem S480x1 .f32) (harg11 : arg11.IsWhole) (hc0 : ¬cond0_0 i) (hc1 : cond0_1 i) (hc2 : cond0_2 i) (hl0 : k0_off1 i = ![13, 0, 0])
    (x0 : Vec F S1x480x12288 .fp8e4m3) (x1 : Vec F S1x480x1 .f32) (x2 : Vec F S12288x256 .fp8e4m3) (x3 : Vec F S12288x256 .fp8e4m3) (x4 : Vec F S1x256 .f32) (x5 : Vec F S1x256 .f32) (xs1 : Vec F S480x1 .f32) (ps0_0 : Vec F S1x480x256 .f32) (ps0_1 : Vec F S1x480x256 .f32) (ps0_2 : Vec F S1x480x256 .f32) (ps0_3 : Vec F S1x480x256 .f32) (ps0_4 : Vec F S1x480x256 .f32) (ps0_5 : Vec F S1x480x256 .f32) (ps0_6 : Vec F S1x480x256 .f32) (ps0_7 : Vec F S1x480x256 .f32) (ps0_8 : Vec F S1x480x256 .f32) (ps0_9 : Vec F S1x480x256 .f32) (ps0_10 : Vec F S1x480x256 .f32) (ps0_11 : Vec F S1x480x256 .f32) (ps0_12 : Vec F S1x480x256 .f32) (g : arg9.view.ty.Contents (Elt F)) :
    arg9.view.read (Elt F) (arg9.view.writes (Elt F) g (kernelRun0_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12).2.1) = k0_pay4 (k0_pay1 (rMx x0 x1 x2 x3 x4 x5) xs1) :=
  (congrArg (fun L => arg9.view.read (Elt F) (arg9.view.writes (Elt F) g L)) (scale_C c i arg2 harg2 arg3 harg3 arg4 harg4 arg5 harg5 arg6 harg6 arg7 harg7 arg8 harg8 arg9 harg9 arg10 harg10 arg11 harg11 hc0 hc1 hc2 hl0 x0 x1 x2 x3 x4 x5 xs1 ps0_0 ps0_1 ps0_2 ps0_3 ps0_4 ps0_5 ps0_6 ps0_7 ps0_8 ps0_9 ps0_10 ps0_11 ps0_12)).trans (View.read_writes_full _ _ _ _ _)

end Cert.KernelIdeal.GateUp

end
-- ==== Proof.GateUp.Inv.lean ====
module

public import proofs.«01_k».proof.Proof.GateUp.Values
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the scratch holds between the points -/

/-- Point `n` of the grid. -/
def pt (n : ℕ) : Fin cfg0.N := ⟨n % 112, lt_of_lt_of_eq (Nat.mod_lt _ (by decide)) (show 112 = cfg0.N from N_0.symm)⟩
theorem pt_val (t : Fin cfg0.N) : pt t.val = t := Fin.ext (Nat.mod_eq_of_lt (lt_of_lt_of_eq t.isLt (show cfg0.N = 112 from N_0)))

/-- The gated product of point `n`'s tile. -/
def hsl (c : Dev nD) (n : ℕ) : Vec F S1x480x256 .f32 := hSl (iblk V c 0 (pt n)) (iblk V c 1 (pt n)) (iblk V c 2 (pt n)) (iblk V c 3 (pt n)) (iblk V c 4 (pt n)) (iblk V c 5 (pt n))
/-- The running row maxima after point `n`: restarted at every peer's first tile. -/
def amx (c : Dev nD) : ℕ → Vec F S480x1 .f32
  | 0 => rMx0 (iblk V c 0 (pt 0)) (iblk V c 1 (pt 0)) (iblk V c 2 (pt 0)) (iblk V c 3 (pt 0)) (iblk V c 4 (pt 0)) (iblk V c 5 (pt 0))
  | n + 1 => if (n + 1) % 14 = 0 then rMx0 (iblk V c 0 (pt (n + 1))) (iblk V c 1 (pt (n + 1))) (iblk V c 2 (pt (n + 1))) (iblk V c 3 (pt (n + 1))) (iblk V c 4 (pt (n + 1))) (iblk V c 5 (pt (n + 1))) else k0_pay1 (rMx (iblk V c 0 (pt (n + 1))) (iblk V c 1 (pt (n + 1))) (iblk V c 2 (pt (n + 1))) (iblk V c 3 (pt (n + 1))) (iblk V c 4 (pt (n + 1))) (iblk V c 5 (pt (n + 1)))) (amx c n)
theorem amx_first (c : Dev nD) (n : ℕ) (h : n % 14 = 0) : amx V c n = rMx0 (iblk V c 0 (pt n)) (iblk V c 1 (pt n)) (iblk V c 2 (pt n)) (iblk V c 3 (pt n)) (iblk V c 4 (pt n)) (iblk V c 5 (pt n)) := by
  cases n with
  | zero => rfl
  | succ n => rw [amx, if_pos h]
theorem amx_next (c : Dev nD) (n : ℕ) (h : ¬n % 14 = 0) : amx V c n = k0_pay1 (rMx (iblk V c 0 (pt n)) (iblk V c 1 (pt n)) (iblk V c 2 (pt n)) (iblk V c 3 (pt n)) (iblk V c 4 (pt n)) (iblk V c 5 (pt n))) (amx V c (n - 1)) := by
  cases n with
  | zero => exact absurd rfl h
  | succ n => rw [amx, if_neg h]; rfl

/-- The block of codes the last point of `n`'s peer writes. -/
def blk6 (c : Dev nD) (n : ℕ) : Vec F S1x480x3584 .fp8e4m3 :=
  View.canon (pieces6 (amx V c (14 * (n / 14) + 13)) (hsl V c (14 * (n / 14) + 0)) (hsl V c (14 * (n / 14) + 1)) (hsl V c (14 * (n / 14) + 2)) (hsl V c (14 * (n / 14) + 3)) (hsl V c (14 * (n / 14) + 4)) (hsl V c (14 * (n / 14) + 5)) (hsl V c (14 * (n / 14) + 6)) (hsl V c (14 * (n / 14) + 7)) (hsl V c (14 * (n / 14) + 8)) (hsl V c (14 * (n / 14) + 9)) (hsl V c (14 * (n / 14) + 10)) (hsl V c (14 * (n / 14) + 11)) (hsl V c (14 * (n / 14) + 12)) (hsl V c (14 * (n / 14) + 13)))
/-- The block of scales the last point of `n`'s peer writes. -/
def blk7 (c : Dev nD) (n : ℕ) : Vec F S1x480x1 .f32 := k0_pay4 (amx V c (14 * (n / 14) + 13))

/-- Before point `n`, inside a peer's run of tiles: the maxima so far, and every slice already stored. -/
def Inv (c : Dev nD) (n : ℕ) (X0 : Vec F S14x480x256 .f32) (X1 : Vec F S480x1 .f32) : Prop :=
  n % 14 ≠ 0 → X1 = amx V c (n - 1) ∧ ∀ (k : ℕ) (hk : k < 14), k < n % 14 → ∀ (r : Fin 480) (q : Fin 256), X0 (ix3 ⟨k, hk⟩ r q) = hsl V c (14 * (n / 14) + k) (ix3 0 r q)

theorem slice_new (a : Memref sig .tc .vmem S14x480x256 .f32) (ha : a.IsWhole) (X : Vec F S14x480x256 .f32) {off : Fin 3 → ℕ} (j : ℕ) (hj : j < 14) (inb : ∀ k, off k + S1x480x256.size k ≤ S14x480x256.size k)
    (h : off = ![j, 0, 0]) (w : Vec F S1x480x256 .f32) (r : Fin 480) (q : Fin 256) :
    a.view.read (Elt F) (a.view.writes (Elt F) (ha.unread X) [⟨Rect.unit (s := S14x480x256) off S1x480x256.size inb, w⟩]) (ix3 ⟨j, hj⟩ r q) = w (ix3 0 r q) :=
  View.read_writes_cons_unit_of_mem (off' := ![j, 0, 0]) a.view _ inb w [] _ (ix3 0 r q) h (fun k => by
    match k with
    | ⟨0, _⟩ => simp
    | ⟨1, _⟩ => simp
    | ⟨2, _⟩ => simp)
theorem slice_old (a : Memref sig .tc .vmem S14x480x256 .f32) (ha : a.IsWhole) (X : Vec F S14x480x256 .f32) {off : Fin 3 → ℕ} (j : ℕ) (inb : ∀ k, off k + S1x480x256.size k ≤ S14x480x256.size k)
    (h : off = ![j, 0, 0]) (w : Vec F S1x480x256 .f32) (k : Fin 14) (hk : k.val < j) (r : Fin 480) (q : Fin 256) :
    a.view.read (Elt F) (a.view.writes (Elt F) (ha.unread X) [⟨Rect.unit (s := S14x480x256) off S1x480x256.size inb, w⟩]) (ix3 k r q) = X (ix3 k r q) := by
  rw [View.read_writes_cons_unit_of_not_mem (off' := ![j, 0, 0]) a.view _ inb w [] _ h 0 (.inl hk), View.writes_nil, ha.read_unread]
theorem slice_read (a : Memref sig .tc .vmem S14x480x256 .f32) (ha : a.IsWhole) (X : Vec F S14x480x256 .f32) (k : ℕ) (hk : k < 14) (inb : ∀ b, (![k, 0, 0] : Fin 3 → ℕ) b + S1x480x256.size b ≤ S14x480x256.size b)
    (w : Vec F S1x480x256 .f32) (h : ∀ (r : Fin 480) (q : Fin 256), X (ix3 ⟨k, hk⟩ r q) = w (ix3 0 r q)) :
    View.readAt (Elt F) a.view (Rect.unit (s := S14x480x256) ![k, 0, 0] S1x480x256.size inb).toLoadRect (ha.unread X) = w := by
  funext y
  rw [Memref.IsWhole.readAt_unread]
  have hy : y = ix3 (n0 := 1) (n1 := 480) (n2 := 256) 0 (y 1) (y 2) := by
    funext b
    match b with
    | ⟨0, _⟩ => exact Fin.ext (by have : (y 0).val < 1 := (y 0).isLt; show (y 0).val = 0; omega)
    | ⟨1, _⟩ => rfl
    | ⟨2, _⟩ => rfl
  refine Eq.trans (congrArg X ?_) ((h (y 1) (y 2)).trans (congrArg w hy.symm))
  funext b
  refine Fin.ext ((Rect.idx_unit_val (s := S14x480x256) ![k, 0, 0] S1x480x256.size inb y b).trans ?_)
  match b with
  | ⟨0, _⟩ => have : (y 0).val < 1 := (y 0).isLt; show k + (y 0).val = k; omega
  | ⟨1, _⟩ => show 0 + (y 1).val = (y 1).val; omega
  | ⟨2, _⟩ => show 0 + (y 2).val = (y 2).val; omega

/-- Point `t` stores its tile in slice `t mod 14`. -/
theorem off_eq : ∀ t : Fin cfg0.N, k0_off1 (grid0.coords t) = ![t.val % 14, 0, 0] :=
  (by decide +kernel : ∀ t : Fin grid0.N, k0_off1 (grid0.coords t) = ![t.val % 14, 0, 0])

theorem Inv_first (c : Dev nD) (t : Fin cfg0.N) (h0 : t.val % 14 = 0) (a : Memref sig .tc .vmem S14x480x256 .f32) (ha : a.IsWhole) (X : Vec F S14x480x256 .f32) :
    Inv V c (t.val + 1) (a.view.read (Elt F) (a.view.writes (Elt F) (ha.unread X) [⟨Rect.unit (s := S14x480x256) (k0_off1 (grid0.coords t)) S1x480x256.size (k0_off1_inb _), hSl (iblk V c 0 t) (iblk V c 1 t) (iblk V c 2 t) (iblk V c 3 t) (iblk V c 4 t) (iblk V c 5 t)⟩])) (rMx0 (iblk V c 0 t) (iblk V c 1 t) (iblk V c 2 t) (iblk V c 3 t) (iblk V c 4 t) (iblk V c 5 t)) := by
  intro _
  refine ⟨?_, fun k hk hlt r q => ?_⟩
  · rw [Nat.add_sub_cancel, amx_first V c _ h0, pt_val]
  · obtain rfl : k = 0 := by omega
    rw [slice_new a ha X 0 hk _ ((off_eq t).trans (by rw [h0]))]
    rw [show 14 * ((t.val + 1) / 14) + 0 = t.val from by omega, hsl, pt_val]
theorem Inv_next (c : Dev nD) (t : Fin cfg0.N) (h0 : ¬t.val % 14 = 0) (a : Memref sig .tc .vmem S14x480x256 .f32) (ha : a.IsWhole) (X : Vec F S14x480x256 .f32) (X1 : Vec F S480x1 .f32) (hI : Inv V c t.val X X1) :
    Inv V c (t.val + 1) (a.view.read (Elt F) (a.view.writes (Elt F) (ha.unread X) [⟨Rect.unit (s := S14x480x256) (k0_off1 (grid0.coords t)) S1x480x256.size (k0_off1_inb _), hSl (iblk V c 0 t) (iblk V c 1 t) (iblk V c 2 t) (iblk V c 3 t) (iblk V c 4 t) (iblk V c 5 t)⟩])) (k0_pay1 (rMx (iblk V c 0 t) (iblk V c 1 t) (iblk V c 2 t) (iblk V c 3 t) (iblk V c 4 t) (iblk V c 5 t)) X1) := by
  intro hn
  obtain ⟨e1, e2⟩ := hI h0
  refine ⟨?_, fun k hk hlt r q => ?_⟩
  · rw [Nat.add_sub_cancel, amx_next V c _ h0, pt_val, e1]
  · have hd : (t.val + 1) / 14 = t.val / 14 := by omega
    rw [hd]
    by_cases hkt : k = t.val % 14
    · subst hkt
      rw [slice_new a ha X _ hk _ (off_eq t)]
      rw [show 14 * (t.val / 14) + t.val % 14 = t.val from by omega, hsl, pt_val]
    · rw [slice_old a ha X _ _ (off_eq t) _ ⟨k, hk⟩ (show k < t.val % 14 by omega), e2 k hk (by omega)]

theorem hoff13 (t : Fin cfg0.N) (h2 : t.val % 14 = 13) : k0_off1 (grid0.coords t) = ![13, 0, 0] := (off_eq t).trans (by rw [h2])

theorem blk6_last (c : Dev nD) (t : Fin cfg0.N) (h2 : t.val % 14 = 13) (X1 : Vec F S480x1 .f32) (e1 : X1 = amx V c (t.val - 1)) :
    View.canon (pieces6 (k0_pay1 (rMx (iblk V c 0 t) (iblk V c 1 t) (iblk V c 2 t) (iblk V c 3 t) (iblk V c 4 t) (iblk V c 5 t)) X1) (hsl V c (14 * (t.val / 14) + 0)) (hsl V c (14 * (t.val / 14) + 1)) (hsl V c (14 * (t.val / 14) + 2)) (hsl V c (14 * (t.val / 14) + 3)) (hsl V c (14 * (t.val / 14) + 4)) (hsl V c (14 * (t.val / 14) + 5)) (hsl V c (14 * (t.val / 14) + 6)) (hsl V c (14 * (t.val / 14) + 7)) (hsl V c (14 * (t.val / 14) + 8)) (hsl V c (14 * (t.val / 14) + 9)) (hsl V c (14 * (t.val / 14) + 10)) (hsl V c (14 * (t.val / 14) + 11)) (hsl V c (14 * (t.val / 14) + 12)) (hSl (iblk V c 0 t) (iblk V c 1 t) (iblk V c 2 t) (iblk V c 3 t) (iblk V c 4 t) (iblk V c 5 t))) = blk6 V c t.val := by
  have hd : 14 * (t.val / 14) + 13 = t.val := by omega
  unfold blk6
  rw [hd, amx_next V c t.val (by omega), ← e1, pt_val]
  unfold hsl
  rw [pt_val]
theorem blk7_last (c : Dev nD) (t : Fin cfg0.N) (h2 : t.val % 14 = 13) (X1 : Vec F S480x1 .f32) (e1 : X1 = amx V c (t.val - 1)) :
    k0_pay4 (k0_pay1 (rMx (iblk V c 0 t) (iblk V c 1 t) (iblk V c 2 t) (iblk V c 3 t) (iblk V c 4 t) (iblk V c 5 t)) X1) = blk7 V c t.val := by
  have hd : 14 * (t.val / 14) + 13 = t.val := by omega
  unfold blk7
  rw [hd, amx_next V c t.val (by omega), ← e1, pt_val]

end Cert.KernelIdeal.GateUp

end
-- ==== Proof.GateUp.Region.lean ====
module

public import proofs.«01_k».proof.Proof.GateUp.Inv
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit

@[expose] public section

-- membership in a rectangle of production extents (`View.cover_of_tiled`): the elaborator's structural look
-- recurses once per coordinate of the long axes
set_option maxRecDepth 16384

noncomputable section

namespace Cert.KernelIdeal.GateUp

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The region invariant before position `n`: the two scratch buffers at contents `Inv` describes, and the generator register
    at some state. -/
def PhiS (c : Dev nD) (n : ℕ) (_ : n ≤ cfg0.N) : sProp 𝕄 :=
  iprop(∃ X0 X1, ⌜Inv V c n X0 X1⌝ ∗ iprop(owns (c : Thread nD τ) scM0_0 fullShare X0 ∗ owns (c : Thread nD τ) scM0_1 fullShare X1) ∗ (∃ r, prngReg c r))

/-! ## The pipeline's proof data -/

/-- The region's proof data on core `c`: the arrays as the region finds them (`V`); after the body each input's buffer at its
    block, and the outputs' at the blocks the peer's last point writes. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => blk6 V c t.val
    | ⟨7, _⟩ => blk7 V c t.val
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; exact Pipeline.Dat.Φ_castSucc (PhiS V c) t
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = iblk V c 4 t := by dsimp only [dat]
theorem after0_5 (c : Dev nD) (t : Fin cfg0.N) : (dat V c).after 5 t = iblk V c 5 t := by dsimp only [dat]
theorem after0_6 (c : Dev nD) (t : Fin cfg0.N) : (dat V c).after 6 t = blk6 V c t.val := by dsimp only [dat]
theorem after0_7 (c : Dev nD) (t : Fin cfg0.N) : (dat V c).after 7 t = blk7 V c t.val := by dsimp only [dat]
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d
theorem before0_4 (c : Dev nD) (t : Fin cfg0.N) (d) : (dat V c).before 4 t d = iblk V c 4 t :=
  before0_4_of V (dat V c) (A_eq V c 4) (after0_4 V c) t d
theorem before0_5 (c : Dev nD) (t : Fin cfg0.N) (d) : (dat V c).before 5 t d = iblk V c 5 t :=
  before0_5_of V (dat V c) (A_eq V c 5) (after0_5 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d))
    ∗ (∃ d, owns (c : Thread nD τ) (ms0_5 t) fullShare ((dat V c).before 5 t d))
    ∗ (∃ d, owns (c : Thread nD τ) (ms0_6 t) fullShare ((dat V c).before 6 t d))
    ∗ (∃ d, owns (c : Thread nD τ) (ms0_7 t) fullShare ((dat V c).before 7 t d)))
/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t
    ∗ (dat V c).leavesExact 7 t)

set_option maxHeartbeats 4000000 in
/-- The body's triple at every point: a peer's first tile, a middle tile, its last tile. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3, before0_4, before0_5]
  rw [show (dat V c).owesAt () t.succ = (dat V c).owesAt () t.castSucc from rfl]
  rw [show (dat V c).Φ t.succ = PhiS V c (t.val + 1) t.isLt from rfl, PhiS_castSucc V c t]
  unfold PhiS
  have hN : t.val < 112 := lt_of_lt_of_eq t.isLt (show cfg0.N = 112 from N_0)
  rw [show (dat V c).leavesExact 0 t = owns (c : Thread nD τ) (ms0_0 t) fullShare ((dat V c).after 0 t) from by unfold Dat.leavesExact; rw [liveAt0_0 t], after0_0]
  rw [show (dat V c).leavesExact 1 t = owns (c : Thread nD τ) (ms0_1 t) fullShare ((dat V c).after 1 t) from by unfold Dat.leavesExact; rw [liveAt0_1 t], after0_1]
  rw [show (dat V c).leavesExact 2 t = owns (c : Thread nD τ) (ms0_2 t) fullShare ((dat V c).after 2 t) from by unfold Dat.leavesExact; rw [liveAt0_2 t], after0_2]
  rw [show (dat V c).leavesExact 3 t = owns (c : Thread nD τ) (ms0_3 t) fullShare ((dat V c).after 3 t) from by unfold Dat.leavesExact; rw [liveAt0_3 t], after0_3]
  rw [show (dat V c).leavesExact 4 t = owns (c : Thread nD τ) (ms0_4 t) fullShare ((dat V c).after 4 t) from by unfold Dat.leavesExact; rw [liveAt0_4 t], after0_4]
  rw [show (dat V c).leavesExact 5 t = owns (c : Thread nD τ) (ms0_5 t) fullShare ((dat V c).after 5 t) from by unfold Dat.leavesExact; rw [liveAt0_5 t], after0_5]
  by_cases h0 : t.val % 14 = 0
  · have h1 : ¬1 ≤ t.val % 14 := by omega
    have h2 : ¬t.val % 14 = 13 := by omega
    rw [Dat.leavesExact_idle (dat V c) 6 t (idleAt0_6_A t ((hcond0_0 t).mpr h0) (fun h => h1 ((hcond0_1 t).mp h)) (fun h => h2 ((hcond0_2 t).mp h))) (noFlush0_6_A t ((hcond0_0 t).mpr h0) (fun h => h1 ((hcond0_1 t).mp h)) (fun h => h2 ((hcond0_2 t).mp h)))]
    rw [Dat.leavesExact_idle (dat V c) 7 t (idleAt0_7_A t ((hcond0_0 t).mpr h0) (fun h => h1 ((hcond0_1 t).mp h)) (fun h => h2 ((hcond0_2 t).mp h))) (noFlush0_7_A t ((hcond0_0 t).mpr h0) (fun h => h1 ((hcond0_1 t).mp h)) (fun h => h2 ((hcond0_2 t).mp h)))]
    iintro ⟨⟨%X0, %X1, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (fun h => h1 ((hcond0_1 t).mp h)) (fun h => h2 ((hcond0_2 t).mp h)) (iblk V c 0 t) (iblk V c 1 t) (iblk V c 2 t) (iblk V c 3 t) (iblk V c 4 t) (iblk V c 5 t) ).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HS1]; · iexists _; iexact HS1
    iintro ⟨H0, H1, H2, H3, H4, H5, H6, H7, HS0, ⟨%es1, HS1⟩⟩
    isplitl [HS0 HS1 Hg]
    · iexists _, _
      isplitr; · ipureintro; exact Inv_first V c t h0 scM0_0 (Memref.isWhole_whole _) X0
      isplitl [HS0 HS1]
      · isplitl [HS0]
        · unfold owns; iexists _; isplitr
          swap; · iexact HS0
          ipureintro; exact ends0_A c _ _ _ _ _ _ _ _ _ _ _ _ _ _ _ _ _ _ _ _ _ _ _ _ _ _ _ _ _ _ _
        unfold owns; iexists _; isplitr
        swap; · iexact HS1
        ipureintro; exact ends1_A c _ _ _ _ _ _ _ _ _ _ _ _ _ _ _ _ _ _ _ _ _ _ _ _ _ _ _ _ _ _ _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  · have h1 : 1 ≤ t.val % 14 := by omega
    by_cases h2 : t.val % 14 = 13
    · have hd : 14 * (t.val / 14) + 13 = t.val := by omega
      rw [show (dat V c).leavesExact 6 t = owns (c : Thread nD τ) (ms0_6 t) fullShare ((dat V c).after 6 t) from by unfold Dat.leavesExact; rw [liveAt0_6_C t (fun h => h0 ((hcond0_0 t).mp h)) ((hcond0_1 t).mpr h1) ((hcond0_2 t).mpr h2)], after0_6]
      rw [show (dat V c).leavesExact 7 t = owns (c : Thread nD τ) (ms0_7 t) fullShare ((dat V c).after 7 t) from by unfold Dat.leavesExact; rw [liveAt0_7_C t (fun h => h0 ((hcond0_0 t).mp h)) ((hcond0_1 t).mpr h1) ((hcond0_2 t).mpr h2)], after0_7]
      iintro ⟨⟨%X0, %X1, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      obtain ⟨e1, e2⟩ := hI h0
      iapply ((kernelRun0_C c (grid0.coords t) _ _ _ _ _ _ _ _ _ _ _ _ _ _ _ _ _ _ _ _ (fun h => h0 ((hcond0_0 t).mp h)) ((hcond0_1 t).mpr h1) ((hcond0_2 t).mpr h2) (hoff13 t h2) (iblk V c 0 t) (iblk V c 1 t) (iblk V c 2 t) (iblk V c 3 t) (iblk V c 4 t) (iblk V c 5 t) X1 (hsl V c (14 * (t.val / 14) + 0)) (hsl V c (14 * (t.val / 14) + 1)) (hsl V c (14 * (t.val / 14) + 2)) (hsl V c (14 * (t.val / 14) + 3)) (hsl V c (14 * (t.val / 14) + 4)) (hsl V c (14 * (t.val / 14) + 5)) (hsl V c (14 * (t.val / 14) + 6)) (hsl V c (14 * (t.val / 14) + 7)) (hsl V c (14 * (t.val / 14) + 8)) (hsl V c (14 * (t.val / 14) + 9)) (hsl V c (14 * (t.val / 14) + 10)) (hsl V c (14 * (t.val / 14) + 11)) (hsl V c (14 * (t.val / 14) + 12))).2.2.2.2 X0 (slice_read scM0_0 (Memref.isWhole_whole _) X0 0 (by decide) _ _ (e2 0 (by decide) (by omega))) (slice_read scM0_0 (Memref.isWhole_whole _) X0 1 (by decide) _ _ (e2 1 (by decide) (by omega))) (slice_read scM0_0 (Memref.isWhole_whole _) X0 2 (by decide) _ _ (e2 2 (by decide) (by omega))) (slice_read scM0_0 (Memref.isWhole_whole _) X0 3 (by decide) _ _ (e2 3 (by decide) (by omega))) (slice_read scM0_0 (Memref.isWhole_whole _) X0 4 (by decide) _ _ (e2 4 (by decide) (by omega))) (slice_read scM0_0 (Memref.isWhole_whole _) X0 5 (by decide) _ _ (e2 5 (by decide) (by omega))) (slice_read scM0_0 (Memref.isWhole_whole _) X0 6 (by decide) _ _ (e2 6 (by decide) (by omega))) (slice_read scM0_0 (Memref.isWhole_whole _) X0 7 (by decide) _ _ (e2 7 (by decide) (by omega))) (slice_read scM0_0 (Memref.isWhole_whole _) X0 8 (by decide) _ _ (e2 8 (by decide) (by omega))) (slice_read scM0_0 (Memref.isWhole_whole _) X0 9 (by decide) _ _ (e2 9 (by decide) (by omega))) (slice_read scM0_0 (Memref.isWhole_whole _) X0 10 (by decide) _ _ (e2 10 (by decide) (by omega))) (slice_read scM0_0 (Memref.isWhole_whole _) X0 11 (by decide) _ _ (e2 11 (by decide) (by omega))) (slice_read scM0_0 (Memref.isWhole_whole _) X0 12 (by decide) _ _ (e2 12 (by decide) (by omega))) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, ⟨%e6, H6⟩, ⟨%e7, H7⟩, HS0, ⟨%es1, HS1⟩⟩
      isplitl [HS0 HS1 Hg]
      · iexists _, _
        isplitr; · ipureintro; exact Inv_next V c t h0 scM0_0 (Memref.isWhole_whole _) X0 X1 hI
        isplitl [HS0 HS1]
        · isplitl [HS0]
          · unfold owns; iexists _; isplitr
            swap; · iexact HS0
            ipureintro; exact ends0_C c _ _ _ _ _ _ _ _ _ _ _ _ _ _ _ _ _ _ _ _ _ _ _ _ _ _ _ _ _ _ _ _ _ _ _ _ _ _ _ _ _ _ _ _ _ _
          unfold owns; iexists _; isplitr
          swap; · iexact HS1
          ipureintro; exact ends1_C c _ _ _ _ _ _ _ _ _ _ _ _ _ _ _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (ends6_C c _ _ _ _ _ _ _ _ _ _ _ _ _ _ _ _ _ _ _ _ _ _ _ _ _ _ _ _ _ _ _ _ _ _ _ _ _ _ _ _ _ _ _ _ _ _ ).trans (blk6_last V c t h2 X1 e1)
      unfold owns; iexists _; isplitr
      swap; · iexact H7
      ipureintro; exact (ends7_C c _ _ _ _ _ _ _ _ _ _ _ _ _ _ _ _ _ _ _ _ _ _ _ _ _ _ _ _ _ _ _ _ _ _ _ _ _ _ _ _ _ _ _ _ _ _ ).trans (blk7_last V c t h2 X1 e1)
    ·
      rw [Dat.leavesExact_idle (dat V c) 6 t (idleAt0_6_B t (fun h => h0 ((hcond0_0 t).mp h)) ((hcond0_1 t).mpr h1) (fun h => h2 ((hcond0_2 t).mp h))) (noFlush0_6_B t (fun h => h0 ((hcond0_0 t).mp h)) ((hcond0_1 t).mpr h1) (fun h => h2 ((hcond0_2 t).mp h)))]
      rw [Dat.leavesExact_idle (dat V c) 7 t (idleAt0_7_B t (fun h => h0 ((hcond0_0 t).mp h)) ((hcond0_1 t).mpr h1) (fun h => h2 ((hcond0_2 t).mp h))) (noFlush0_7_B t (fun h => h0 ((hcond0_0 t).mp h)) ((hcond0_1 t).mpr h1) (fun h => h2 ((hcond0_2 t).mp h)))]
      iintro ⟨⟨%X0, %X1, %hI, ⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) ((hcond0_1 t).mpr h1) (fun h => h2 ((hcond0_2 t).mp h)) (iblk V c 0 t) (iblk V c 1 t) (iblk V c 2 t) (iblk V c 3 t) (iblk V c 4 t) (iblk V c 5 t) X1).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, ⟨%es1, HS1⟩⟩
      isplitl [HS0 HS1 Hg]
      · iexists _, _
        isplitr; · ipureintro; exact Inv_next V c t h0 scM0_0 (Memref.isWhole_whole _) X0 X1 hI
        isplitl [HS0 HS1]
        · isplitl [HS0]
          · unfold owns; iexists _; isplitr
            swap; · iexact HS0
            ipureintro; exact ends0_B c _ _ _ _ _ _ _ _ _ _ _ _ _ _ _ _ _ _ _ _ _ _ _ _ _ _ _ _ _ _ _ _
          unfold owns; iexists _; isplitr
          swap; · iexact HS1
          ipureintro; exact ends1_B c _ _ _ _ _ _ _ _ _ _ _ _ _ _ _ _ _ _ _ _ _ _ _ _ _ _ _ _ _ _ _ _
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      iexists _; iexact H7

set_option maxHeartbeats 9600000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region is the invariant before the first point. -/
theorem hin (c : Dev nD) : Pipeline.ΦA spec0 c ⊢ (dat V c).Φ 0 := by
  rw [show (dat V c).Φ 0 = PhiS V c 0 (Nat.zero_le _) from rfl, PhiA0_eq]
  unfold PhiS
  iintro ⟨⟨⟨%X0, HS0⟩, ⟨%X1, HS1⟩⟩, Hg⟩
  iexists X0, X1
  isplitr; · ipureintro; exact fun h => absurd rfl h
  isplitl [HS0 HS1]
  · isplitl [HS0]; · iexact HS0
    iexact HS1
  iexact Hg

/-- After the last point the invariant gives the launch's resources back. -/
theorem hout (c : Dev nD) : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl, PhiA0_eq]
  unfold PhiS
  iintro ⟨%X0, %X1, %hI, ⟨HS0, HS1⟩, Hg⟩
  isplitl [HS0 HS1]
  · isplitl [HS0]
    · iexists _; iexact HS0
    iexists _; iexact HS1
  iexact Hg

end Cert.KernelIdeal.GateUp

end
-- ==== Proof.GateUp.Math.lean ====
module

public import proofs.«01_k».proof.Proof.GateUp.Spec
public import proofs.«01_k».proof.Proof.GateUp.Region
public import Idealize.ShloMosaic.Lib.Pipeline.Value

@[expose] public section

set_option maxRecDepth 16384

noncomputable section

namespace Cert.KernelIdeal.GateUp

open Cert.KernelIdeal Cert.KernelIdeal.Gen Idealize.ShloMosaic Idealize.ShloMosaic.TcCoe
open Idealize.ShloMosaic.Pipeline (Dat Cfg Window)
open Cert.Rows

/-! ## The payloads at an index, over the extended reals -/

section Payloads

variable (x0 : Vec Ideal S1x480x12288 .fp8e4m3) (x1 : Vec Ideal S1x480x1 .f32) (x2 : Vec Ideal S12288x256 .fp8e4m3)
  (x3 : Vec Ideal S12288x256 .fp8e4m3) (x4 : Vec Ideal S1x256 .f32) (x5 : Vec Ideal S1x256 .f32)

/-- One entry of a tile's gated product. -/
def tileAt (r : Fin 480) (q : Fin 256) : EReal :=
  gated (fun x : Fin 12288 => x0 (ix3 0 r x)) (fun x => x2 (ix2 x q)) (fun x => x3 (ix2 x q)) (x1 (ix3 0 r 0)) (x4 (ix2 0 q)) (x5 (ix2 0 q))

/-- The tile the body computes, at an index. -/
theorem tile_apply (r : Fin 480) (q : Fin 256) :
    k0_pay24 x1 x0 x2 x4 x3 x5 (ix2 r q) = tileAt x0 x1 x2 x3 x4 x5 r q := by
  unfold tileAt gated
  pointwise [k0_pay24, dot_S480x12288_S12288x256_S480x256_1_0_0_1_n_n]

/-- The slice the body stores is the tile. -/
theorem hSl_apply (r : Fin 480) (q : Fin 256) :
    hSl x0 x1 x2 x3 x4 x5 (ix3 0 r q) = tileAt x0 x1 x2 x3 x4 x5 r q := by
  rw [← tile_apply]
  unfold hSl k0_pay25
  generalize k0_pay24 x1 x0 x2 x4 x3 x5 = X
  pointwise

/-- The largest magnitude of a tile's row. -/
theorem tileMax_apply (r : Fin 480) :
    k0_pay26 x1 x0 x2 x4 x3 x5 (ix2 r 0) = rowMax (tileAt x0 x1 x2 x3 x4 x5 r) := by
  rw [show tileAt x0 x1 x2 x3 x4 x5 r = fun q => k0_pay24 x1 x0 x2 x4 x3 x5 (ix2 r q) from funext fun q => (tile_apply x0 x1 x2 x3 x4 x5 r q).symm]
  unfold rowMax
  pointwise [k0_pay26]

theorem rMx0_apply (r : Fin 480) : rMx0 x0 x1 x2 x3 x4 x5 (ix2 r 0) = rowMax (tileAt x0 x1 x2 x3 x4 x5 r) := by
  rw [← tileMax_apply]
  unfold rMx0 k0_pay27
  generalize k0_pay26 x1 x0 x2 x4 x3 x5 = X
  pointwise

theorem rMx_apply (r : Fin 480) : rMx x0 x1 x2 x3 x4 x5 (ix2 r 0) = rowMax (tileAt x0 x1 x2 x3 x4 x5 r) := by
  rw [← tileMax_apply]

/-- The running maximum takes the larger. -/
theorem max_apply (a b : Vec Ideal S480x1 .f32) (r : Fin 480) : k0_pay1 a b (ix2 r 0) = max (b (ix2 r 0)) (a (ix2 r 0)) := by
  pointwise [k0_pay1]

/-- One code the last tile writes. -/
theorem code_apply (a : Vec Ideal S480x1 .f32) (h : Vec Ideal S1x480x256 .f32) (r : Fin 480) (q : Fin 256) :
    k0_pay6 a h (ix3 0 r q) = code (h (ix3 0 r q)) (rowScale (a (ix2 r 0))) := by
  unfold code
  rw [← mul_recip]
  unfold rowScale
  pointwise [k0_pay6, k0_pay5, k0_pay3]

/-- One scale the last tile writes. -/
theorem scale_apply (a : Vec Ideal S480x1 .f32) (r : Fin 480) (z : Fin 1) : k0_pay4 a (ix3 0 r z) = rowScale (a (ix2 r 0)) := by
  unfold rowScale
  pointwise [k0_pay4, k0_pay3]

end Payloads

/-! ## The blocks at an index -/

section Blocks

variable {F : FTy → Type} [FloatOps F]
variable (V : (c : Dev nD) → (b : Ref sig .tc) → Buf (Elt F) ((c : Thread nD τ).loc b)) (c : Dev nD)

theorem idx0 : ∀ t : Fin cfg0.N, win0_0.index t (0 : Fin 3) = t.val / 14 ∧ win0_0.index t (1 : Fin 3) = 0 ∧ win0_0.index t (2 : Fin 3) = 0 :=
  (by decide +kernel : ∀ t : Fin grid0.N, _)
theorem iblk0_apply (t : Fin cfg0.N) (i : Fin 8) (hi : i.val = t.val / 14) (r : Fin 480) (x : Fin 12288) :
    (iblk V c 0 t : Vec F S1x480x12288 .fp8e4m3) (ix3 0 r x) = (V c (Pipeline.arrRef spec0 0) : Vec F S8x480x12288 .fp8e4m3) (ix3 i r x) := by
  obtain ⟨e0, e1, e2⟩ := idx0 t
  show (V c (Pipeline.arrRef spec0 0) : Vec F S8x480x12288 .fp8e4m3) (((cfg0.win 0).blk t).view.emb (ix3 (n0 := 1) (n1 := 480) (n2 := 12288) 0 r x)) = _
  refine congrArg (V c (Pipeline.arrRef spec0 0) : Vec F S8x480x12288 .fp8e4m3) (funext fun a => Fin.ext ?_)
  match a with
  | ⟨0, _⟩ => show win0_0.index t (0 : Fin 3) * 1 + 1 * 0 = i.val; omega
  | ⟨1, _⟩ => show win0_0.index t (1 : Fin 3) * 480 + 1 * r.val = r.val; omega
  | ⟨2, _⟩ => show win0_0.index t (2 : Fin 3) * 12288 + 1 * x.val = x.val; omega
theorem idx1 : ∀ t : Fin cfg0.N, win0_1.index t (0 : Fin 3) = t.val / 14 ∧ win0_1.index t (1 : Fin 3) = 0 ∧ win0_1.index t (2 : Fin 3) = 0 :=
  (by decide +kernel : ∀ t : Fin grid0.N, _)
theorem iblk1_apply (t : Fin cfg0.N) (i : Fin 8) (hi : i.val = t.val / 14) (r : Fin 480) (x : Fin 1) :
    (iblk V c 1 t : Vec F S1x480x1 .f32) (ix3 0 r x) = (V c (Pipeline.arrRef spec0 1) : Vec F S8x480x1 .f32) (ix3 i r x) := by
  obtain ⟨e0, e1, e2⟩ := idx1 t
  show (V c (Pipeline.arrRef spec0 1) : Vec F S8x480x1 .f32) (((cfg0.win 1).blk t).view.emb (ix3 (n0 := 1) (n1 := 480) (n2 := 1) 0 r x)) = _
  refine congrArg (V c (Pipeline.arrRef spec0 1) : Vec F S8x480x1 .f32) (funext fun a => Fin.ext ?_)
  match a with
  | ⟨0, _⟩ => show win0_1.index t (0 : Fin 3) * 1 + 1 * 0 = i.val; omega
  | ⟨1, _⟩ => show win0_1.index t (1 : Fin 3) * 480 + 1 * r.val = r.val; omega
  | ⟨2, _⟩ => show win0_1.index t (2 : Fin 3) * 1 + 1 * x.val = x.val; omega
theorem idx2 : ∀ t : Fin cfg0.N, win0_2.index t (0 : Fin 2) = 0 ∧ win0_2.index t (1 : Fin 2) = t.val % 14 :=
  (by decide +kernel : ∀ t : Fin grid0.N, _)
theorem iblk2_apply (t : Fin cfg0.N) (x : Fin 12288) (q : Fin 256) (n : Fin 3584) (hn : n.val = 256 * (t.val % 14) + q.val) :
    (iblk V c 2 t : Vec F S12288x256 .fp8e4m3) (ix2 x q) = (V c (Pipeline.arrRef spec0 2) : Vec F S12288x3584 .fp8e4m3) (ix2 x n) := by
  obtain ⟨e0, e1⟩ := idx2 t
  show (V c (Pipeline.arrRef spec0 2) : Vec F S12288x3584 .fp8e4m3) (((cfg0.win 2).blk t).view.emb (ix2 (n0 := 12288) (n1 := 256) x q)) = _
  refine congrArg (V c (Pipeline.arrRef spec0 2) : Vec F S12288x3584 .fp8e4m3) (funext fun a => Fin.ext ?_)
  match a with
  | ⟨0, _⟩ => show win0_2.index t (0 : Fin 2) * 12288 + 1 * x.val = x.val; omega
  | ⟨1, _⟩ => show win0_2.index t (1 : Fin 2) * 256 + 1 * q.val = n.val; omega
theorem idx3 : ∀ t : Fin cfg0.N, win0_3.index t (0 : Fin 2) = 0 ∧ win0_3.index t (1 : Fin 2) = t.val % 14 :=
  (by decide +kernel : ∀ t : Fin grid0.N, _)
theorem iblk3_apply (t : Fin cfg0.N) (x : Fin 12288) (q : Fin 256) (n : Fin 3584) (hn : n.val = 256 * (t.val % 14) + q.val) :
    (iblk V c 3 t : Vec F S12288x256 .fp8e4m3) (ix2 x q) = (V c (Pipeline.arrRef spec0 3) : Vec F S12288x3584 .fp8e4m3) (ix2 x n) := by
  obtain ⟨e0, e1⟩ := idx3 t
  show (V c (Pipeline.arrRef spec0 3) : Vec F S12288x3584 .fp8e4m3) (((cfg0.win 3).blk t).view.emb (ix2 (n0 := 12288) (n1 := 256) x q)) = _
  refine congrArg (V c (Pipeline.arrRef spec0 3) : Vec F S12288x3584 .fp8e4m3) (funext fun a => Fin.ext ?_)
  match a with
  | ⟨0, _⟩ => show win0_3.index t (0 : Fin 2) * 12288 + 1 * x.val = x.val; omega
  | ⟨1, _⟩ => show win0_3.index t (1 : Fin 2) * 256 + 1 * q.val = n.val; omega
theorem idx4 : ∀ t : Fin cfg0.N, win0_4.index t (0 : Fin 2) = 0 ∧ win0_4.index t (1 : Fin 2) = t.val % 14 :=
  (by decide +kernel : ∀ t : Fin grid0.N, _)
theorem iblk4_apply (t : Fin cfg0.N) (x : Fin 1) (q : Fin 256) (n : Fin 3584) (hn : n.val = 256 * (t.val % 14) + q.val) :
    (iblk V c 4 t : Vec F S1x256 .f32) (ix2 x q) = (V c (Pipeline.arrRef spec0 4) : Vec F S1x3584 .f32) (ix2 x n) := by
  obtain ⟨e0, e1⟩ := idx4 t
  show (V c (Pipeline.arrRef spec0 4) : Vec F S1x3584 .f32) (((cfg0.win 4).blk t).view.emb (ix2 (n0 := 1) (n1 := 256) x q)) = _
  refine congrArg (V c (Pipeline.arrRef spec0 4) : Vec F S1x3584 .f32) (funext fun a => Fin.ext ?_)
  match a with
  | ⟨0, _⟩ => show win0_4.index t (0 : Fin 2) * 1 + 1 * x.val = x.val; omega
  | ⟨1, _⟩ => show win0_4.index t (1 : Fin 2) * 256 + 1 * q.val = n.val; omega
theorem idx5 : ∀ t : Fin cfg0.N, win0_5.index t (0 : Fin 2) = 0 ∧ win0_5.index t (1 : Fin 2) = t.val % 14 :=
  (by decide +kernel : ∀ t : Fin grid0.N, _)
theorem iblk5_apply (t : Fin cfg0.N) (x : Fin 1) (q : Fin 256) (n : Fin 3584) (hn : n.val = 256 * (t.val % 14) + q.val) :
    (iblk V c 5 t : Vec F S1x256 .f32) (ix2 x q) = (V c (Pipeline.arrRef spec0 5) : Vec F S1x3584 .f32) (ix2 x n) := by
  obtain ⟨e0, e1⟩ := idx5 t
  show (V c (Pipeline.arrRef spec0 5) : Vec F S1x3584 .f32) (((cfg0.win 5).blk t).view.emb (ix2 (n0 := 1) (n1 := 256) x q)) = _
  refine congrArg (V c (Pipeline.arrRef spec0 5) : Vec F S1x3584 .f32) (funext fun a => Fin.ext ?_)
  match a with
  | ⟨0, _⟩ => show win0_5.index t (0 : Fin 2) * 1 + 1 * x.val = x.val; omega
  | ⟨1, _⟩ => show win0_5.index t (1 : Fin 2) * 256 + 1 * q.val = n.val; omega
theorem idx6 : ∀ t : Fin cfg0.N, win0_6.index t (0 : Fin 3) = t.val / 14 ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val / 14 ∧ win0_7.index t (1 : Fin 3) = 0 ∧ win0_7.index t (2 : Fin 3) = 0 :=
  (by decide +kernel : ∀ t : Fin grid0.N, _)

end Blocks

/-! ## The arrays the run leaves -/

section Arrays

variable (V : (c : Dev nD) → (b : Ref sig .tc) → Buf (Elt Ideal) ((c : Thread nD τ).loc b)) (c : Dev nD)

/-- Row `r` of peer `i` of the gated product, from the arrays as the region finds them. -/
def row (i : Fin 8) (r : Fin 480) (n : Fin 3584) : EReal :=
  gated (fun x : Fin 12288 => (V c (Pipeline.arrRef spec0 0) : Vec Ideal S8x480x12288 .fp8e4m3) (ix3 i r x)) (fun x => (V c (Pipeline.arrRef spec0 2) : Vec Ideal S12288x3584 .fp8e4m3) (ix2 x n)) (fun x => (V c (Pipeline.arrRef spec0 3) : Vec Ideal S12288x3584 .fp8e4m3) (ix2 x n)) ((V c (Pipeline.arrRef spec0 1) : Vec Ideal S8x480x1 .f32) (ix3 i r 0)) ((V c (Pipeline.arrRef spec0 4) : Vec Ideal S1x3584 .f32) (ix2 0 n)) ((V c (Pipeline.arrRef spec0 5) : Vec Ideal S1x3584 .f32) (ix2 0 n))

/-- Entry `q` of tile `j` is entry `256 j + q` of the row. -/
theorem tileAt_eq (t : Fin cfg0.N) (i : Fin 8) (hi : i.val = t.val / 14) (r : Fin 480) (q : Fin 256) (n : Fin 3584) (hn : n.val = 256 * (t.val % 14) + q.val) :
    tileAt (iblk V c 0 t) (iblk V c 1 t) (iblk V c 2 t) (iblk V c 3 t) (iblk V c 4 t) (iblk V c 5 t) r q = row V c i r n := by
  unfold tileAt row
  simp only [iblk0_apply V c t i hi, iblk1_apply V c t i hi, iblk2_apply V c t _ q n hn, iblk3_apply V c t _ q n hn, iblk4_apply V c t _ q n hn, iblk5_apply V c t _ q n hn]

theorem pt_div (i : Fin 8) (j : ℕ) (hj : j < 14) : (pt (14 * i.val + j)).val / 14 = i.val := by
  have := i.isLt; show (14 * i.val + j) % 112 / 14 = i.val; omega
theorem pt_mod (i : Fin 8) (j : ℕ) (hj : j < 14) : (pt (14 * i.val + j)).val % 14 = j := by
  have := i.isLt; show (14 * i.val + j) % 112 % 14 = j; omega

/-- A stored slice at an index. -/
theorem hsl_apply (i : Fin 8) (j : ℕ) (hj : j < 14) (r : Fin 480) (q : Fin 256) (n : Fin 3584) (hn : n.val = 256 * j + q.val) :
    hsl V c (14 * i.val + j) (ix3 0 r q) = row V c i r n := by
  unfold hsl
  rw [hSl_apply]
  exact tileAt_eq V c _ i (pt_div i j hj).symm r q n (by rw [pt_mod i j hj]; exact hn)

/-- The largest magnitude of tile `j`'s row is at most `y` when every entry's is. -/
theorem tile_le (i : Fin 8) (j : ℕ) (hj : j < 14) (r : Fin 480) (y : EReal) :
    rowMax (tileAt (iblk V c 0 (pt (14 * i.val + j))) (iblk V c 1 (pt (14 * i.val + j))) (iblk V c 2 (pt (14 * i.val + j))) (iblk V c 3 (pt (14 * i.val + j))) (iblk V c 4 (pt (14 * i.val + j))) (iblk V c 5 (pt (14 * i.val + j))) r) ≤ y
      ↔ Ideal.ofBits .f32 0xFF800000#32 ≤ y ∧ ∀ n : Fin 3584, n.val / 256 = j → FloatOps.absf (F := Ideal) (φ := .f32) (row V c i r n) ≤ y := by
  rw [rowMax_le]
  refine and_congr_right fun _ => ⟨fun h n hn => ?_, fun h q => ?_⟩
  · rw [← tileAt_eq V c (pt (14 * i.val + j)) i (pt_div i j hj).symm r ⟨n.val % 256, Nat.mod_lt _ (by decide)⟩ n (by rw [pt_mod i j hj]; show n.val = 256 * j + n.val % 256; omega)]
    exact h _
  · have hq := q.isLt
    rw [tileAt_eq V c (pt (14 * i.val + j)) i (pt_div i j hj).symm r q ⟨256 * j + q.val, by omega⟩ (by rw [pt_mod i j hj])]
    exact h _ (by show (256 * j + q.val) / 256 = j; omega)

/-- The running maximum after tile `j` is the largest magnitude among the row's first `256 (j + 1)` entries. -/
theorem amx_le (i : Fin 8) (r : Fin 480) (y : EReal) : ∀ (j : ℕ), j < 14 →
    (amx V c (14 * i.val + j) (ix2 r 0) ≤ y ↔ Ideal.ofBits .f32 0xFF800000#32 ≤ y ∧ ∀ n : Fin 3584, n.val / 256 ≤ j → FloatOps.absf (F := Ideal) (φ := .f32) (row V c i r n) ≤ y)
  | 0, hj => by
    rw [amx_first V c _ (by omega), rMx0_apply, tile_le V c i 0 hj]
    simp only [Nat.le_zero]
  | j + 1, hj => by
    rw [amx_next V c _ (by omega), max_apply, max_le_iff, rMx_apply, tile_le V c i (j + 1) hj,
      show 14 * i.val + (j + 1) - 1 = 14 * i.val + j from rfl, amx_le i r y j (by omega)]
    constructor
    · rintro ⟨⟨h0, h1⟩, _, h2⟩
      refine ⟨h0, fun n hn => ?_⟩
      rcases Nat.lt_or_ge (n.val / 256) (j + 1) with h | h
      · exact h1 n (by omega)
      · exact h2 n (by omega)
    · rintro ⟨h0, h1⟩
      exact ⟨⟨h0, fun n hn => h1 n (by omega)⟩, h0, fun n hn => h1 n (by omega)⟩

/-- After the last tile the running maximum is the row's largest magnitude. -/
theorem amx_last (i : Fin 8) (r : Fin 480) : amx V c (14 * i.val + 13) (ix2 r 0) = rowMax (row V c i r) := by
  refine eq_of_forall_ge_iff fun y => ?_
  rw [amx_le V c i r y 13 (by decide), rowMax_le]
  refine and_congr_right fun _ => ⟨fun h n => h n ?_, fun h n _ => h n⟩
  have := n.isLt; omega

/-- The codes the run leaves. -/
def codes : Vec Ideal S8x480x3584 .fp8e4m3 := fun y => code (row V c (y 0) (y 1) (y 2)) (rowScale (rowMax (row V c (y 0) (y 1))))
/-- The scales the run leaves. -/
def scales : Vec Ideal S8x480x1 .f32 := fun y => rowScale (rowMax (row V c (y 0) (y 1)))

/-- A tile's codes within the block. -/
theorem piece_apply (i : Fin 8) (j : ℕ) (hj : j < 14) (x : S1x480x256.Idx) (r : Fin 480) (n : Fin 3584) (h1 : r.val = (x 1).val) (h2 : n.val = 256 * j + (x 2).val) :
    k0_pay6 (amx V c (14 * i.val + 13)) (hsl V c (14 * i.val + j)) x = code (row V c i r n) (rowScale (rowMax (row V c i r))) := by
  obtain rfl : r = x 1 := Fin.ext h1
  have hx : x = ix3 (n0 := 1) (n1 := 480) (n2 := 256) 0 (x 1) (x 2) := by
    funext b
    match b with
    | ⟨0, _⟩ => exact Fin.ext (by have : (x 0).val < 1 := (x 0).isLt; show (x 0).val = 0; omega)
    | ⟨1, _⟩ => rfl
    | ⟨2, _⟩ => rfl
  refine (congrArg (k0_pay6 (amx V c (14 * i.val + 13)) (hsl V c (14 * i.val + j))) hx).trans ?_
  refine (code_apply _ _ (x 1) (x 2)).trans ?_
  exact congrArg₂ code (hsl_apply V c i j hj (x 1) (x 2) n h2) (congrArg rowScale (amx_last V c i (x 1)))

/-- The block of codes of peer `i`, at an index. -/
theorem blk6_apply (i : Fin 8) (n : ℕ) (hn : n / 14 = i.val) (y : S1x480x3584.Idx) :
    blk6 V c n y = code (row V c i (y 1) (y 2)) (rowScale (rowMax (row V c i (y 1)))) := by
  unfold blk6
  rw [hn]
  unfold pieces6
  canon_tiles x h using pieces6_cover (amx V c (14 * i.val + 13)) (hsl V c (14 * i.val + 0)) (hsl V c (14 * i.val + 1)) (hsl V c (14 * i.val + 2)) (hsl V c (14 * i.val + 3)) (hsl V c (14 * i.val + 4)) (hsl V c (14 * i.val + 5)) (hsl V c (14 * i.val + 6)) (hsl V c (14 * i.val + 7)) (hsl V c (14 * i.val + 8)) (hsl V c (14 * i.val + 9)) (hsl V c (14 * i.val + 10)) (hsl V c (14 * i.val + 11)) (hsl V c (14 * i.val + 12)) (hsl V c (14 * i.val + 13)) y
  · exact piece_apply V c i 13 (by decide) x (y 1) (y 2) (by omega) (by omega)
  · exact piece_apply V c i 12 (by decide) x (y 1) (y 2) (by omega) (by omega)
  · exact piece_apply V c i 11 (by decide) x (y 1) (y 2) (by omega) (by omega)
  · exact piece_apply V c i 10 (by decide) x (y 1) (y 2) (by omega) (by omega)
  · exact piece_apply V c i 9 (by decide) x (y 1) (y 2) (by omega) (by omega)
  · exact piece_apply V c i 8 (by decide) x (y 1) (y 2) (by omega) (by omega)
  · exact piece_apply V c i 7 (by decide) x (y 1) (y 2) (by omega) (by omega)
  · exact piece_apply V c i 6 (by decide) x (y 1) (y 2) (by omega) (by omega)
  · exact piece_apply V c i 5 (by decide) x (y 1) (y 2) (by omega) (by omega)
  · exact piece_apply V c i 4 (by decide) x (y 1) (y 2) (by omega) (by omega)
  · exact piece_apply V c i 3 (by decide) x (y 1) (y 2) (by omega) (by omega)
  · exact piece_apply V c i 2 (by decide) x (y 1) (y 2) (by omega) (by omega)
  · exact piece_apply V c i 1 (by decide) x (y 1) (y 2) (by omega) (by omega)
  · exact piece_apply V c i 0 (by decide) x (y 1) (y 2) (by omega) (by omega)

/-- The block of scales of peer `i`, at an index. -/
theorem blk7_apply (i : Fin 8) (n : ℕ) (hn : n / 14 = i.val) (y : S1x480x1.Idx) :
    blk7 V c n y = rowScale (rowMax (row V c i (y 1))) := by
  unfold blk7
  rw [hn]
  have hy : y = ix3 (n0 := 1) (n1 := 480) (n2 := 1) 0 (y 1) (y 2) := by
    funext b
    match b with
    | ⟨0, _⟩ => exact Fin.ext (by have : (y 0).val < 1 := (y 0).isLt; show (y 0).val = 0; omega)
    | ⟨1, _⟩ => rfl
    | ⟨2, _⟩ => rfl
  exact (congrArg (k0_pay4 (amx V c (14 * i.val + 13))) hy).trans ((scale_apply _ (y 1) (y 2)).trans (congrArg rowScale (amx_last V c i (y 1))))

/-- The last tile's point of peer `i`. -/
theorem emb6_val (t : Fin cfg0.N) (y : S1x480x3584.Idx) :
    ((((cfg0.win 6).blk t).view.emb y : S8x480x3584.Idx) (0 : Fin 3)).val = t.val / 14 ∧ (((cfg0.win 6).blk t).view.emb y : S8x480x3584.Idx) (1 : Fin 3) = y 1 ∧ (((cfg0.win 6).blk t).view.emb y : S8x480x3584.Idx) (2 : Fin 3) = y 2 := by
  obtain ⟨e0, e1, e2⟩ := idx6 t
  have h0 : (y 0).val < 1 := (y 0).isLt
  refine ⟨?_, Fin.ext ?_, Fin.ext ?_⟩
  · show win0_6.index t (0 : Fin 3) * 1 + 1 * (y 0).val = t.val / 14; omega
  · show win0_6.index t (1 : Fin 3) * 480 + 1 * (y 1).val = (y 1).val; omega
  · show win0_6.index t (2 : Fin 3) * 3584 + 1 * (y 2).val = (y 2).val; omega

/-- What a point writes back is its block of `codes`. -/
theorem flushed6_eq (t : Fin cfg0.N) : (dat V c).flushed 6 t = ((cfg0.win 6).blk t).view.read (Elt Ideal) (codes V c) := by
  show (cfg0.win 6).cut (grid0.coords t) ((dat V c).after 6 t) = _
  rw [after0_6]
  funext y
  obtain ⟨e0, e1, e2⟩ := emb6_val t y
  have ht : t.val < 112 := lt_of_lt_of_eq t.isLt (show cfg0.N = 112 from N_0)
  show blk6 V c t.val y = codes V c (((cfg0.win 6).blk t).view.emb y)
  refine (blk6_apply V c ⟨t.val / 14, by omega⟩ t.val rfl y).trans ?_
  unfold codes
  rw [e1, e2, show (((cfg0.win 6).blk t).view.emb y : S8x480x3584.Idx) (0 : Fin 3) = (⟨t.val / 14, by omega⟩ : Fin 8) from Fin.ext e0]

/-- Every index of the array is in some block written back. -/
theorem covered6 (i : S8x480x3584.Idx) : ∃ t : Fin cfg0.N, (cfg0.win 6).flush t = true ∧ i ∈ ((cfg0.win 6).blk t).view.set := by
  have h0 : (i 0).val < 8 := (i 0).isLt
  obtain ⟨t, ht⟩ : ∃ t : Fin cfg0.N, t.val = 14 * (i 0).val + 13 :=
    ⟨⟨14 * (i 0).val + 13, lt_of_lt_of_eq (by omega : _ < 112) (show 112 = cfg0.N from N_0.symm)⟩, rfl⟩
  refine ⟨t, (flush0_6 _).mpr (by omega), ?_⟩
  have h := ((cfg0.win 6).blk t).view.emb_mem_set (ix3 (n0 := 1) (n1 := 480) (n2 := 3584) 0 (i 1) (i 2))
  obtain ⟨e0, e1, e2⟩ := emb6_val t (ix3 (n0 := 1) (n1 := 480) (n2 := 3584) 0 (i 1) (i 2))
  have e : (((cfg0.win 6).blk t).view.emb (ix3 (n0 := 1) (n1 := 480) (n2 := 3584) 0 (i 1) (i 2)) : S8x480x3584.Idx) = i := by
    funext a
    match a with
    | ⟨0, _⟩ => exact Fin.ext (e0.trans (by show t.val / 14 = (i 0).val; omega))
    | ⟨1, _⟩ => exact e1
    | ⟨2, _⟩ => exact e2
  rwa [e] at h

/-- The array after the run. -/
theorem final6 : (dat V c).arrAt 6 cfg0.N = codes V c :=
  (dat V c).arrAt_eq_of_cover 6 (codes V c) (fun t _ => flushed6_eq V c t) covered6

/-- The last tile's point of peer `i`. -/
theorem emb7_val (t : Fin cfg0.N) (y : S1x480x1.Idx) :
    ((((cfg0.win 7).blk t).view.emb y : S8x480x1.Idx) (0 : Fin 3)).val = t.val / 14 ∧ (((cfg0.win 7).blk t).view.emb y : S8x480x1.Idx) (1 : Fin 3) = y 1 ∧ (((cfg0.win 7).blk t).view.emb y : S8x480x1.Idx) (2 : Fin 3) = y 2 := by
  obtain ⟨e0, e1, e2⟩ := idx7 t
  have h0 : (y 0).val < 1 := (y 0).isLt
  refine ⟨?_, Fin.ext ?_, Fin.ext ?_⟩
  · show win0_7.index t (0 : Fin 3) * 1 + 1 * (y 0).val = t.val / 14; omega
  · show win0_7.index t (1 : Fin 3) * 480 + 1 * (y 1).val = (y 1).val; omega
  · show win0_7.index t (2 : Fin 3) * 1 + 1 * (y 2).val = (y 2).val; omega

/-- What a point writes back is its block of `scales`. -/
theorem flushed7_eq (t : Fin cfg0.N) : (dat V c).flushed 7 t = ((cfg0.win 7).blk t).view.read (Elt Ideal) (scales V c) := by
  show (cfg0.win 7).cut (grid0.coords t) ((dat V c).after 7 t) = _
  rw [after0_7]
  funext y
  obtain ⟨e0, e1, e2⟩ := emb7_val t y
  have ht : t.val < 112 := lt_of_lt_of_eq t.isLt (show cfg0.N = 112 from N_0)
  show blk7 V c t.val y = scales V c (((cfg0.win 7).blk t).view.emb y)
  refine (blk7_apply V c ⟨t.val / 14, by omega⟩ t.val rfl y).trans ?_
  unfold scales
  rw [e1, show (((cfg0.win 7).blk t).view.emb y : S8x480x1.Idx) (0 : Fin 3) = (⟨t.val / 14, by omega⟩ : Fin 8) from Fin.ext e0]

/-- Every index of the array is in some block written back. -/
theorem covered7 (i : S8x480x1.Idx) : ∃ t : Fin cfg0.N, (cfg0.win 7).flush t = true ∧ i ∈ ((cfg0.win 7).blk t).view.set := by
  have h0 : (i 0).val < 8 := (i 0).isLt
  obtain ⟨t, ht⟩ : ∃ t : Fin cfg0.N, t.val = 14 * (i 0).val + 13 :=
    ⟨⟨14 * (i 0).val + 13, lt_of_lt_of_eq (by omega : _ < 112) (show 112 = cfg0.N from N_0.symm)⟩, rfl⟩
  refine ⟨t, (flush0_7 _).mpr (by omega), ?_⟩
  have h := ((cfg0.win 7).blk t).view.emb_mem_set (ix3 (n0 := 1) (n1 := 480) (n2 := 1) 0 (i 1) (i 2))
  obtain ⟨e0, e1, e2⟩ := emb7_val t (ix3 (n0 := 1) (n1 := 480) (n2 := 1) 0 (i 1) (i 2))
  have e : (((cfg0.win 7).blk t).view.emb (ix3 (n0 := 1) (n1 := 480) (n2 := 1) 0 (i 1) (i 2)) : S8x480x1.Idx) = i := by
    funext a
    match a with
    | ⟨0, _⟩ => exact Fin.ext (e0.trans (by show t.val / 14 = (i 0).val; omega))
    | ⟨1, _⟩ => exact e1
    | ⟨2, _⟩ => exact e2
  rwa [e] at h

/-- The array after the run. -/
theorem final7 : (dat V c).arrAt 7 cfg0.N = scales V c :=
  (dat V c).arrAt_eq_of_cover 7 (scales V c) (fun t _ => flushed7_eq V c t) covered7

end Arrays

end Cert.KernelIdeal.GateUp
-- ==== Proof.GateUp.RefMath.lean ====
module

public import proofs.«01_k».proof.Proof.GateUp.Spec
public import proofs.«01_k».proof.Proof.Gen.ReferenceIdeal.Value

@[expose] public section

noncomputable section

namespace Cert.ReferenceIdeal.GateUp

open Cert.ReferenceIdeal Cert.ReferenceIdeal.Gen Idealize.ShloMosaic Idealize.ShloMosaic.TcCoe
open Cert.Rows

/-- The scale as the two programs compute it. -/
theorem rowScale_eq (a : EReal) : Scalar.select (FloatOps.cmpf (F := Ideal) (φ := .f32) .oeq a (Scalar.ofBits .f32 0x00000000#32)) (Scalar.ofBits (F := Ideal) .f32 0x3F800000#32) (FloatOps.divf (F := Ideal) (φ := .f32) a (Scalar.ofBits .f32 0x43E00000#32)) = rowScale a := by
  unfold rowScale
  pointwise

/-- The largest magnitude of every row. -/
def magMax {F : FTy → Type} [FloatOps F] (X : Vec F S8x480x3584 .f32) : Vec F S8x480 .f32 :=
  multiReduction .maximumf [2] S8x480 (absf X) 0xFF800000#32 reduces_S8x480x3584_S8x480 (.inl rfl) rfl

/-- The reference's scale, at an index. -/
theorem scale_apply {F : FTy → Type} [FloatOps F] (v0 : Vec F S8x480x12288 .fp8e4m3) (v1 : Vec F S8x480x1 .f32) (v2 : Vec F S12288x3584 .fp8e4m3) (v4 : Vec F S3584 .f32) (v10 : Vec F S12288x3584 .fp8e4m3) (v12 : Vec F S3584 .f32) (i : Fin 8) (r : Fin 480) :
   k0_pay3 v0 v1 v2 v4 v10 v12 (ix2 i r) = Scalar.select (FloatOps.cmpf .oeq (magMax (k0_pay2 v0 v1 v2 v4 v10 v12) (ix2 i r)) (Scalar.ofBits .f32 0x00000000#32)) (Scalar.ofBits .f32 0x3F800000#32) (FloatOps.divf (magMax (k0_pay2 v0 v1 v2 v4 v10 v12) (ix2 i r)) (Scalar.ofBits .f32 0x43E00000#32)) := by
  unfold k0_pay3
  generalize k0_pay2 v0 v1 v2 v4 v10 v12 = X
  show _ = Scalar.select (FloatOps.cmpf .oeq (multiReduction .maximumf [2] S8x480 (absf X) 0xFF800000#32 reduces_S8x480x3584_S8x480 (.inl rfl) rfl (ix2 i r)) (Scalar.ofBits .f32 0x00000000#32)) (Scalar.ofBits .f32 0x3F800000#32) (FloatOps.divf (multiReduction .maximumf [2] S8x480 (absf X) 0xFF800000#32 reduces_S8x480x3584_S8x480 (.inl rfl) rfl (ix2 i r)) (Scalar.ofBits .f32 0x43E00000#32))
  generalize multiReduction .maximumf [2] S8x480 (absf X) 0xFF800000#32 reduces_S8x480x3584_S8x480 (.inl rfl) rfl = M
  rfl
/-- The reference's code, at an index. -/
theorem codes_apply {F : FTy → Type} [FloatOps F] (v0 : Vec F S8x480x12288 .fp8e4m3) (v1 : Vec F S8x480x1 .f32) (v2 : Vec F S12288x3584 .fp8e4m3) (v4 : Vec F S3584 .f32) (v10 : Vec F S12288x3584 .fp8e4m3) (v12 : Vec F S3584 .f32) (i : Fin 8) (r : Fin 480) (n : Fin 3584) :
   k0_pay4 v0 v1 v2 v4 v10 v12 (ix3 i r n) = FloatOps.truncf .fp8e4m3 bitsLt_fp8e4m3_f32 (FloatOps.minimumf (Scalar.ofBits .f32 0x43E00000#32) (FloatOps.maximumf (Scalar.ofBits .f32 0xC3E00000#32) (FloatOps.divf (k0_pay2 v0 v1 v2 v4 v10 v12 (ix3 i r n)) (k0_pay3 v0 v1 v2 v4 v10 v12 (ix2 i r))))) := by
  unfold k0_pay4
  generalize k0_pay2 v0 v1 v2 v4 v10 v12 = X
  generalize k0_pay3 v0 v1 v2 v4 v10 v12 = Y
  have e : broadcastTo S8x480x3584 (shapeCast S8x480x1 Y shapeCasts_S8x480_S8x480x1) broadcasts_S8x480x1_S8x480x3584 (ix3 i r n) = Y (ix2 i r) := by pointwise
  rw [← e]
  rfl

section Ideal

variable (a0 : Vec Ideal S8x480x12288 .fp8e4m3) (a1 : Vec Ideal S8x480x1 .f32) (a2 : Vec Ideal S12288x3584 .fp8e4m3)
  (a3 : Vec Ideal S12288x3584 .fp8e4m3) (a4 : Vec Ideal S3584 .f32) (a5 : Vec Ideal S3584 .f32)

/-- Row `r` of peer `i` of the gated product. -/
def row (i : Fin 8) (r : Fin 480) (n : Fin 3584) : EReal :=
  gated (fun x : Fin 12288 => a0 (ix3 i r x)) (fun x => a2 (ix2 x n)) (fun x => a3 (ix2 x n)) (a1 (ix3 i r 0)) (a4 (ix1 n)) (a5 (ix1 n))

/-- The reference's gated product, at an index. -/
theorem gated_apply (i : Fin 8) (r : Fin 480) (n : Fin 3584) :
    k0_pay2 a0 a1 a2 a4 a3 a5 (ix3 i r n) = row a0 a1 a2 a3 a4 a5 i r n := by
  unfold row gated
  pointwise [k0_pay2, dot_S8x480x12288_S12288x3584_S8x480x3584_2_0_01_1_n_n]

/-- The row maxima, at an index. -/
theorem max_apply (X : Vec Ideal S8x480x3584 .f32) (i : Fin 8) (r : Fin 480) :
    magMax (F := Ideal) X (ix2 i r) = rowMax (fun n : Fin 3584 => X (ix3 i r n)) := by
  unfold rowMax magMax
  pointwise

/-- The reference's scale of a row. -/
theorem scale_eq (i : Fin 8) (r : Fin 480) :
    k0_pay3 a0 a1 a2 a4 a3 a5 (ix2 i r) = rowScale (rowMax (row a0 a1 a2 a3 a4 a5 i r)) := by
  rw [scale_apply, rowScale_eq, max_apply]
  refine congrArg (fun f => rowScale (rowMax f)) (funext fun n => gated_apply a0 a1 a2 a3 a4 a5 i r n)

/-- The reference's scales, at an index. -/
theorem G7_apply (i : Fin 8) (r : Fin 480) (z : Fin 1) :
    Value.G7 a0 a1 a2 a3 a4 a5 (ix3 i r z) = rowScale (rowMax (row a0 a1 a2 a3 a4 a5 i r)) := by
  rw [← scale_eq]
  show k0_pay1 (k0_pay3 a0 a1 a2 a4 a3 a5) (ix3 i r z) = _
  generalize k0_pay3 a0 a1 a2 a4 a3 a5 = X
  pointwise [k0_pay1]

/-- The reference's codes, at an index. -/
theorem G6_apply (i : Fin 8) (r : Fin 480) (n : Fin 3584) :
    Value.G6 a0 a1 a2 a3 a4 a5 (ix3 i r n) = code (row a0 a1 a2 a3 a4 a5 i r n) (rowScale (rowMax (row a0 a1 a2 a3 a4 a5 i r))) := by
  rw [← scale_eq, ← gated_apply]
  exact codes_apply a0 a1 a2 a4 a3 a5 i r n

end Ideal

end Cert.ReferenceIdeal.GateUp
-- ==== Proof.GateUp.Launch.lean ====
module

public import proofs.«01_k».proof.Proof.GateUp.Region
public import proofs.«01_k».proof.Proof.Gen.KernelIdeal.Frame
public import Idealize.ShloMosaic.Lib.Pipeline.Value

@[expose] public section

noncomputable section

namespace Cert.KernelIdeal.GateUp

open Cert.KernelIdeal Cert.KernelIdeal.Gen Idealize.ShloMosaic Idealize.ShloMosaic.TcCoe Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

/-- The proof data of the launch's one region: its arrays as the host operations before it leave them. -/
def dats (_ : Fin 1) (c : Dev nD) : Dat τ (Elt F) Unit ℕ (UR sig nD τ) ℕ cfg0 c := dat (Gen.V m) c

set_option backward.isDefEq.respectTransparency.types false in
/-- The launch runs to the region's proof data's post, every semaphore back at zero. -/
theorem run_quiescent : θ_run defs (onTc (τ := τ) (main (F := F))) (s₀ m ρ) (fun r => (Pipeline.FramePost cfgs (dats m) 0 (Gen.V m)) r ∧ r.2.sem = fun _ => 0) :=
  Pipeline.θ_run_frame_track (Q' := _) cfgs (dats m) (0 : Fin 1) launch0 defs₀ Variants.none m ρ main
    (hbody := fun c => (body_obligation (Gen.V m) c).loose)
    (hshare := fun c => (dats m 0 c).share_full fun _ => rfl)
    (howed := fun _ _ => rfl)
    (V := Gen.V m)
    (hmain := hmain m Variants.none) (hA := A_eq (Gen.V m)) (hin := hin (Gen.V m)) (hout := hout (Gen.V m))

/-- The run with each result named, and the arguments unchanged. -/
theorem run : θ_run defs (onTc (τ := τ) (main (F := F))) ⟨m, fun _ => 0, ρ⟩ fun r => ∀ c : Dev nD,
      r.2.mem ((c.tc : Thread nD τ).loc main_v2_0) = (dat (Gen.V m) c).arrAt 6 cfg0.N
      ∧ r.2.mem ((c.tc : Thread nD τ).loc main_v2_1) = (dat (Gen.V m) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h.1 c).1 6, (h.1 c).1 7,
      ((h.1 c).1 0).trans (((dats m 0 c).arrAt_in 0 rfl _).trans ((A_eq (Gen.V m) c 0).trans (V_main_arg0 m c))),
      ((h.1 c).1 1).trans (((dats m 0 c).arrAt_in 1 rfl _).trans ((A_eq (Gen.V m) c 1).trans (V_main_arg1 m c))),
      ((h.1 c).1 2).trans (((dats m 0 c).arrAt_in 2 rfl _).trans ((A_eq (Gen.V m) c 2).trans (V_main_arg2 m c))),
      ((h.1 c).1 3).trans (((dats m 0 c).arrAt_in 3 rfl _).trans ((A_eq (Gen.V m) c 3).trans (V_main_arg3 m c))),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c)⟩)
    (run_quiescent m ρ)

/-- The frame: the arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).2.2) (run m ρ)) ((θ_run defs _ _).mono (fun _ h => h.2) (run_quiescent m ρ))

end Cert.KernelIdeal.GateUp

end
-- ==== Proof.GateUp.Equal.lean ====
module

public import proofs.«01_k».proof.Proof.GateUp.Math
public import proofs.«01_k».proof.Proof.GateUp.RefMath
public import proofs.«01_k».proof.Proof.GateUp.Launch

@[expose] public section

set_option maxRecDepth 16384

noncomputable section

namespace Cert.KernelIdeal.GateUp

open Cert.KernelIdeal Cert.KernelIdeal.Gen Idealize.ShloMosaic Idealize.ShloMosaic.TcCoe

variable (m : (ℓ : Loc nD τ sig) → Buf (Elt Ideal) ℓ) (c : Dev nD)

/-- The column scales of the first weight matrix, as the region finds them. -/
theorem V_main_v0 (n : Fin 3584) :
    (Gen.V m c main_v0 : Vec Ideal S1x3584 .f32) (ix2 0 n) = (m ((c : Thread nD τ).loc main_arg4) : Vec Ideal S3584 .f32) (ix1 n) := by
  have h : (Gen.V m c main_v0 : Vec Ideal S1x3584 .f32) = shapeCast S1x3584 (m ((c : Thread nD τ).loc main_arg4) : Vec Ideal S3584 .f32) shapeCasts_S3584_S1x3584 := by
    show StableHlo.after hostOps0 (fun b => m (c, b)) (main_v0 : DevRef τ sig) = _
    rw [StableHlo.after_cons, StableHlo.after_cons, StableHlo.after_nil, StableHlo.reshape_result_ne _ _ _ _ _ _ _ (by decide), StableHlo.reshape_result]
    rfl
  rw [h]
  generalize (m ((c : Thread nD τ).loc main_arg4) : Vec Ideal S3584 .f32) = X
  pointwise
/-- The column scales of the second weight matrix, as the region finds them. -/
theorem V_main_v1 (n : Fin 3584) :
    (Gen.V m c main_v1 : Vec Ideal S1x3584 .f32) (ix2 0 n) = (m ((c : Thread nD τ).loc main_arg5) : Vec Ideal S3584 .f32) (ix1 n) := by
  have h : (Gen.V m c main_v1 : Vec Ideal S1x3584 .f32) = shapeCast S1x3584 (m ((c : Thread nD τ).loc main_arg5) : Vec Ideal S3584 .f32) shapeCasts_S3584_S1x3584 := by
    show StableHlo.after hostOps0 (fun b => m (c, b)) (main_v1 : DevRef τ sig) = _
    rw [StableHlo.after_cons, StableHlo.after_cons, StableHlo.after_nil, StableHlo.reshape_result, StableHlo.reshape_result_ne _ _ _ _ _ _ _ (by decide)]
    rfl
  rw [h]
  generalize (m ((c : Thread nD τ).loc main_arg5) : Vec Ideal S3584 .f32) = X
  pointwise

/-- The two programs' rows of the gated product agree. -/
theorem row_eq (i : Fin 8) (r : Fin 480) : row (Gen.V m) c i r = Cert.ReferenceIdeal.GateUp.row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i r := by
  funext n
  exact Cert.Rows.gated_congr (funext fun x => congrFun (V_main_arg0 m c) (ix3 i r x)) (funext fun x => congrFun (V_main_arg2 m c) (ix2 x n))
    (funext fun x => congrFun (V_main_arg3 m c) (ix2 x n)) (congrFun (V_main_arg1 m c) (ix3 i r 0)) (V_main_v0 m c n) (V_main_v1 m c n)

/-- The kernel's codes are the reference's. -/
theorem codes_eq : codes (Gen.V m) c = Cert.ReferenceIdeal.Value.G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  have hy : y = ix3 (n0 := 8) (n1 := 480) (n2 := 3584) (y 0) (y 1) (y 2) := by
    funext b
    match b with
    | ⟨0, _⟩ => rfl
    | ⟨1, _⟩ => rfl
    | ⟨2, _⟩ => rfl
  refine Eq.trans ?_ ((Cert.ReferenceIdeal.GateUp.G6_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) (y 2)).symm.trans (congrArg (Cert.ReferenceIdeal.Value.G6 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hy.symm))
  exact congrArg (fun f : Fin 3584 → EReal => Cert.Rows.code (f (y 2)) (Cert.Rows.rowScale (Cert.Rows.rowMax f))) (row_eq m c (y 0) (y 1))

/-- The kernel's scales are the reference's. -/
theorem scales_eq : scales (Gen.V m) c = Cert.ReferenceIdeal.Value.G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext y
  have hy : y = ix3 (n0 := 8) (n1 := 480) (n2 := 1) (y 0) (y 1) (y 2) := by
    funext b
    match b with
    | ⟨0, _⟩ => rfl
    | ⟨1, _⟩ => rfl
    | ⟨2, _⟩ => rfl
  refine Eq.trans ?_ ((Cert.ReferenceIdeal.GateUp.G7_apply (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) (y 1) (y 2)).symm.trans (congrArg (Cert.ReferenceIdeal.Value.G7 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) hy.symm))
  exact congrArg (fun f : Fin 3584 → EReal => Cert.Rows.rowScale (Cert.Rows.rowMax f)) (row_eq m c (y 0) (y 1))

end Cert.KernelIdeal.GateUp
-- ==== Proof.DownBits.RunA.lean ====
module

public import proofs.«01_k».proof.Proof.Gen.Down.Frame
public import proofs.«01_k».proof.Proof.Gen.Down.Launch
public import proofs.«01_k».proof.Proof.Gen.Down.Skeleton
public import proofs.«01_k».proof.Proof.Gen.Down.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Down.Down

open Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs of a point -/

abbrev ms0_0 (t : Fin cfg0.N) : Memref sig .tc .vmem S1x480x3584 .fp8e4m3 := win0_0.stage (cfg0.slots t 0)
abbrev ms0_1 (t : Fin cfg0.N) : Memref sig .tc .vmem S1x480x1 .f32 := win0_1.stage (cfg0.slots t 1)
abbrev ms0_2 (t : Fin cfg0.N) : Memref sig .tc .vmem S3584x512 .fp8e4m3 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S1x480x512 .fp8e4m3 := win0_4.stage (cfg0.slots t 4)
abbrev ms0_5 (t : Fin cfg0.N) : Memref sig .tc .vmem S1x480x96 .f32 := win0_5.stage (cfg0.slots t 5)

-- (the run's proof term is large: checking it walks past the default budget)
set_option maxHeartbeats 1000000 in
/-- What the body's stores leave in the two outputs' staging memrefs, as pieces (last first), with the proof that the body runs
    from whole staging memrefs — the inputs' at their contents, the codes' at anything, the scales' at `x5` — to the
    continuation holding the inputs' as they were and each output's with its pieces written. -/
noncomputable def kernelRun0_A (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) :
    Σ' (L4 : List (View.Piece (Elt F) S1x480x512 .fp8e4m3)), { L5 : List (View.Piece (Elt F) S1x480x96 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread x5) L5)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact H5

end Cert.Down.Down

end
-- ==== Proof.DownBits.Values.lean ====
module

public import proofs.«01_k».proof.Proof.DownBits.RunA
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit
public import proofs.«01_k».proof.Proof.Gen.Down.Launch
public import proofs.«01_k».proof.Proof.Gen.Down.Skeleton
public import proofs.«01_k».proof.Proof.Gen.Down.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Down.Down

open Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the run leaves, named by the blocks it reads -/

/-- A load of a whole memref's own extents, the memref held at contents that read `x`, reads `x`. -/
theorem rd {s : Shape} {e : EltTy} (a : Memref sig .tc .vmem s e) (h : a.IsWhole) {off : Fin s.rank → ℕ}
    (inb : ∀ k, off k + s.size k ≤ s.size k) (x : s.Idx → Elt F e) :
    View.readAt (Elt F) a.view (Rect.unit off s.size inb).toLoadRect (h.unread x) = x :=
  (View.readAt_full a.view _ inb).trans (h.read_unread x)

/-- The four stores of a tile's quantised groups of 128 columns: group `b` at columns `128 b`. -/
def pieces4 (x0 : Vec F S1x480x3584 .fp8e4m3) (x1 : Vec F S1x480x1 .f32) (x2 : Vec F S3584x512 .fp8e4m3) (x3 : Vec F S1x512 .f32) : List (View.Piece (Elt F) S1x480x512 .fp8e4m3) :=
  [⟨Rect.unit (s := S1x480x512) ![0, 0, 384] S1x480x128.size inb_S1x480x512_S1x480x128_0_0_384, k0_pay1 (Scalar.ofBits .f32 0x43E00000#32) (k0_pay20 (k0_pay3 x0 x2 x1 x3))⟩,
   ⟨Rect.unit (s := S1x480x512) ![0, 0, 256] S1x480x128.size inb_S1x480x512_S1x480x128_0_0_256, k0_pay16 (k0_pay13 (k0_pay3 x0 x2 x1 x3)) (k0_pay14 (k0_pay3 x0 x2 x1 x3))⟩,
   ⟨Rect.unit (s := S1x480x512) ![0, 0, 128] S1x480x128.size inb_S1x480x512_S1x480x128_0_0_128, k0_pay11 (k0_pay3 x0 x2 x1 x3)⟩,
   ⟨Rect.unit (s := S1x480x512) ![0, 0, 0] S1x480x128.size inb_S1x480x512_S1x480x128_0_0_0, k0_pay8 (k0_pay7 x0 x2 x1 x3)⟩]

/-- The scales' block after a point: `x5` with the tile's four scales put in its four lanes. -/
def out5 (i : grid0.Coords) (x0 : Vec F S1x480x3584 .fp8e4m3) (x1 : Vec F S1x480x1 .f32) (x2 : Vec F S3584x512 .fp8e4m3) (x3 : Vec F S1x512 .f32) (x5 : Vec F S1x480x96 .f32) : Vec F S1x480x96 .f32 :=
  k0_pay2 (BitVec.ofNat 32 (i 1).val) (iota .tc S480x96 32 [1] iota_S480x96_d1_w32)
    (k0_pay17 (BitVec.ofNat 32 (i 1).val) (iota .tc S480x96 32 [1] iota_S480x96_d1_w32)
      (k0_pay12 (BitVec.ofNat 32 (i 1).val) (k0_pay3 x0 x2 x1 x3) (iota .tc S480x96 32 [1] iota_S480x96_d1_w32) (k0_pay4 x5) (k0_pay6 x0 x2 x1 x3))
      (k0_pay14 (k0_pay3 x0 x2 x1 x3)))
    (k0_pay19 (k0_pay3 x0 x2 x1 x3))

/-- The run's stores into the codes' block. -/
theorem codes_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) :
    (kernelRun0_A c i arg2 harg2 arg3 harg3 arg4 harg4 arg5 harg5 arg6 harg6 arg7 harg7 x0 x1 x2 x3 x5).1 = pieces4 x0 x1 x2 x3 := by
  have e : (kernelRun0_A c i arg2 harg2 arg3 harg3 arg4 harg4 arg5 harg5 arg6 harg6 arg7 harg7 x0 x1 x2 x3 x5).1 = pieces4 (View.readAt (Elt F) arg2.view (Rect.unit (s := S1x480x3584) ![0, 0, 0] S1x480x3584.size inb_S1x480x3584_S1x480x3584_0_0_0).toLoadRect (harg2.unread x0)) (View.readAt (Elt F) arg3.view (Rect.unit (s := S1x480x1) ![0, 0, 0] S1x480x1.size inb_S1x480x1_S1x480x1_0_0_0).toLoadRect (harg3.unread x1)) (View.readAt (Elt F) arg4.view (Rect.unit (s := S3584x512) ![0, 0] S3584x512.size inb_S3584x512_S3584x512_0_0).toLoadRect (harg4.unread x2)) (View.readAt (Elt F) arg5.view (Rect.unit (s := S1x512) ![0, 0] S1x512.size inb_S1x512_S1x512_0_0).toLoadRect (harg5.unread x3)) := rfl
  rw [e, rd arg2 harg2, rd arg3 harg3, rd arg4 harg4, rd arg5 harg5]

/-- The run's store into the scales' block. -/
theorem scales_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) :
    (kernelRun0_A c i arg2 harg2 arg3 harg3 arg4 harg4 arg5 harg5 arg6 harg6 arg7 harg7 x0 x1 x2 x3 x5).2.1 = [⟨Rect.unit (s := S1x480x96) ![0, 0, 0] S1x480x96.size inb_S1x480x96_S1x480x96_0_0_0, out5 i x0 x1 x2 x3 x5⟩] := by
  have e : (kernelRun0_A c i arg2 harg2 arg3 harg3 arg4 harg4 arg5 harg5 arg6 harg6 arg7 harg7 x0 x1 x2 x3 x5).2.1 = [⟨Rect.unit (s := S1x480x96) ![0, 0, 0] S1x480x96.size inb_S1x480x96_S1x480x96_0_0_0, out5 i (View.readAt (Elt F) arg2.view (Rect.unit (s := S1x480x3584) ![0, 0, 0] S1x480x3584.size inb_S1x480x3584_S1x480x3584_0_0_0).toLoadRect (harg2.unread x0)) (View.readAt (Elt F) arg3.view (Rect.unit (s := S1x480x1) ![0, 0, 0] S1x480x1.size inb_S1x480x1_S1x480x1_0_0_0).toLoadRect (harg3.unread x1)) (View.readAt (Elt F) arg4.view (Rect.unit (s := S3584x512) ![0, 0] S3584x512.size inb_S3584x512_S3584x512_0_0).toLoadRect (harg4.unread x2)) (View.readAt (Elt F) arg5.view (Rect.unit (s := S1x512) ![0, 0] S1x512.size inb_S1x512_S1x512_0_0).toLoadRect (harg5.unread x3)) (View.readAt (Elt F) arg7.view (Rect.unit (s := S1x480x96) ![0, 0, 0] S1x480x96.size inb_S1x480x96_S1x480x96_0_0_0).toLoadRect (harg7.unread x5))⟩] := rfl
  rw [e, rd arg2 harg2, rd arg3 harg3, rd arg4 harg4, rd arg5 harg5, rd arg7 harg7]

/-- The four stores tile the codes' block. -/
theorem pieces4_cover (x0 : Vec F S1x480x3584 .fp8e4m3) (x1 : Vec F S1x480x1 .f32) (x2 : Vec F S3584x512 .fp8e4m3) (x3 : Vec F S1x512 .f32) (y : S1x480x512.Idx) : ∃ pc ∈ pieces4 x0 x1 x2 x3, y ∈ pc.1.set :=
  View.cover_of_tiledL (pieces4 x0 x1 x2 x3) S1x480x128.size (by sl_kernel_rfl) y

/-- The codes' block after the run. -/
theorem ends4_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) (g : arg6.view.ty.Contents (Elt F)) :
    arg6.view.read (Elt F) (arg6.view.writes (Elt F) g (kernelRun0_A c i arg2 harg2 arg3 harg3 arg4 harg4 arg5 harg5 arg6 harg6 arg7 harg7 x0 x1 x2 x3 x5).1) = View.canon (pieces4 x0 x1 x2 x3) :=
  (congrArg (fun L => arg6.view.read (Elt F) (arg6.view.writes (Elt F) g L)) (codes_A c i arg2 harg2 arg3 harg3 arg4 harg4 arg5 harg5 arg6 harg6 arg7 harg7 x0 x1 x2 x3 x5)).trans
    (View.read_writes_eq_canon _ _ _ (pieces4_cover x0 x1 x2 x3))

/-- The scales' block after the run. -/
theorem ends5_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) (g : arg7.view.ty.Contents (Elt F)) :
    arg7.view.read (Elt F) (arg7.view.writes (Elt F) g (kernelRun0_A c i arg2 harg2 arg3 harg3 arg4 harg4 arg5 harg5 arg6 harg6 arg7 harg7 x0 x1 x2 x3 x5).2.1) = out5 i x0 x1 x2 x3 x5 :=
  (congrArg (fun L => arg7.view.read (Elt F) (arg7.view.writes (Elt F) g L)) (scales_A c i arg2 harg2 arg3 harg3 arg4 harg4 arg5 harg5 arg6 harg6 arg7 harg7 x0 x1 x2 x3 x5)).trans (View.read_writes_full _ _ _ _ _)

end Cert.Down.Down

end
-- ==== Proof.DownBits.Region.lean ====
module

public import proofs.«01_k».proof.Proof.DownBits.Values
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit
public import Idealize.ShloMosaic.Lib.Pipeline.ArrRel
public import proofs.«01_k».proof.Proof.Gen.Down.Launch
public import proofs.«01_k».proof.Proof.Gen.Down.Skeleton
public import proofs.«01_k».proof.Proof.Gen.Down.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Down.Down

open Cert.Down.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The codes' block that point `t` writes. -/
def blk4 (c : Dev nD) (t : Fin cfg0.N) : Vec F S1x480x512 .fp8e4m3 :=
  View.canon (pieces4 (iblk m c 0 t) (iblk m c 1 t) (iblk m c 2 t) (iblk m c 3 t))

/-- The scales' block that point `t` leaves, of the one it found. -/
def blk5 (c : Dev nD) (t : Fin cfg0.N) (Y : Vec F S1x480x96 .f32) : Vec F S1x480x96 .f32 :=
  out5 (grid0.coords t) (iblk m c 0 t) (iblk m c 1 t) (iblk m c 2 t) (iblk m c 3 t) Y

/-- The region's proof data on core `c`, the scales' window aside: the arrays as the region finds them; after the body each
    input's buffer at its block, and the codes' at the block the point writes. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk4 m c t
    | ⟨5, h⟩ => Pipeline.Dat.unnamed (cfg := cfg0) ⟨5, h⟩ t
  Φ _ := Pipeline.ΦA spec0 c
  q _ := fullShare
  owed _ := 0

/-- The windows held to a relation instead: the scales' block is left at `blk5` of the block found. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some fun t Y X => X = blk5 m c t Y

/-- The region's proof data on core `c`. -/
def rdat (c : Dev nD) : Pipeline.RDat τ (Elt F) Unit ℕ (UR sig nD τ) ℕ cfg0 c := (dat m c).toR.override (ovr m c)

theorem A_eq (c : Dev nD) (w : Fin cfg0.W) : (dat m c).A w = V m c (Pipeline.arrRef spec0 w) := by
  dsimp only [dat]
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = blk4 m c t := by dsimp only [dat]
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem finds0_0 (c : Dev nD) (t : Fin cfg0.N) (X : (cfg0.win 0).block.Idx → Elt F (cfg0.win 0).elt) (h : (rdat m c).Finds 0 t X) : X = iblk m c 0 t := by
  obtain ⟨d, hd⟩ := (dat m c).toR_finds 0 t X (((dat m c).toR.override_finds (by rfl) t X).mp h)
  exact hd.trans (before0_0 m c t d)
theorem finds0_1 (c : Dev nD) (t : Fin cfg0.N) (X : (cfg0.win 1).block.Idx → Elt F (cfg0.win 1).elt) (h : (rdat m c).Finds 1 t X) : X = iblk m c 1 t := by
  obtain ⟨d, hd⟩ := (dat m c).toR_finds 1 t X (((dat m c).toR.override_finds (by rfl) t X).mp h)
  exact hd.trans (before0_1 m c t d)
theorem finds0_2 (c : Dev nD) (t : Fin cfg0.N) (X : (cfg0.win 2).block.Idx → Elt F (cfg0.win 2).elt) (h : (rdat m c).Finds 2 t X) : X = iblk m c 2 t := by
  obtain ⟨d, hd⟩ := (dat m c).toR_finds 2 t X (((dat m c).toR.override_finds (by rfl) t X).mp h)
  exact hd.trans (before0_2 m c t d)
theorem finds0_3 (c : Dev nD) (t : Fin cfg0.N) (X : (cfg0.win 3).block.Idx → Elt F (cfg0.win 3).elt) (h : (rdat m c).Finds 3 t X) : X = iblk m c 3 t := by
  obtain ⟨d, hd⟩ := (dat m c).toR_finds 3 t X (((dat m c).toR.override_finds (by rfl) t X).mp h)
  exact hd.trans (before0_3 m c t d)
theorem rafter0_0 (c : Dev nD) (t : Fin cfg0.N) (Y X : (cfg0.win 0).block.Idx → Elt F (cfg0.win 0).elt) : (rdat m c).after 0 t Y X ↔ X = iblk m c 0 t := by
  show (dat m c).Leaves 0 t X ↔ _
  rw [← after0_0 m c t]; exact Iff.rfl
theorem rafter0_1 (c : Dev nD) (t : Fin cfg0.N) (Y X : (cfg0.win 1).block.Idx → Elt F (cfg0.win 1).elt) : (rdat m c).after 1 t Y X ↔ X = iblk m c 1 t := by
  show (dat m c).Leaves 1 t X ↔ _
  rw [← after0_1 m c t]; exact Iff.rfl
theorem rafter0_2 (c : Dev nD) (t : Fin cfg0.N) (Y X : (cfg0.win 2).block.Idx → Elt F (cfg0.win 2).elt) : (rdat m c).after 2 t Y X ↔ X = iblk m c 2 t := by
  show (dat m c).Leaves 2 t X ↔ _
  rw [← after0_2 m c t]; exact Iff.rfl
theorem rafter0_3 (c : Dev nD) (t : Fin cfg0.N) (Y X : (cfg0.win 3).block.Idx → Elt F (cfg0.win 3).elt) : (rdat m c).after 3 t Y X ↔ X = iblk m c 3 t := by
  show (dat m c).Leaves 3 t X ↔ _
  rw [← after0_3 m c t]; exact Iff.rfl
theorem rafter0_4 (c : Dev nD) (t : Fin cfg0.N) (Y X : (cfg0.win 4).block.Idx → Elt F (cfg0.win 4).elt) : (rdat m c).after 4 t Y X ↔ X = blk4 m c t := by
  show (dat m c).Leaves 4 t X ↔ _
  rw [← after0_4 m c t]; exact Iff.rfl
theorem rafter0_5 (c : Dev nD) (t : Fin cfg0.N) (Y X : (cfg0.win 5).block.Idx → Elt F (cfg0.win 5).elt) : (rdat m c).after 5 t Y X ↔ X = blk5 m c t Y := Iff.rfl

/-! ## The body obligation -/

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X))

set_option maxHeartbeats 1000000 in
/-- The body's triple at every point. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [finds0_0 m c t (Y 0) (hY 0)]
  rw [finds0_1 m c t (Y 1) (hY 1)]
  rw [finds0_2 m c t (Y 2) (hY 2)]
  rw [finds0_3 m c t (Y 3) (hY 3)]
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply ((kernelRun0_A c (grid0.coords t) _ _ _ _ _ _ _ _ _ _ _ _ (iblk m c 0 t) (iblk m c 1 t) (iblk m c 2 t) (iblk m c 3 t) (Y 5)).2.2 Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%f4, H4⟩, H5⟩
  isplitl [HΦ]; · iexact HΦ
  isplitl [Ho]; · iexact Ho
  isplitl [H0]
  · iexists _; isplitr
    swap; · iexact H0
    ipureintro; exact (rafter0_0 m c t _ _).mpr rfl
  isplitl [H1]
  · iexists _; isplitr
    swap; · iexact H1
    ipureintro; exact (rafter0_1 m c t _ _).mpr rfl
  isplitl [H2]
  · iexists _; isplitr
    swap; · iexact H2
    ipureintro; exact (rafter0_2 m c t _ _).mpr rfl
  isplitl [H3]
  · iexists _; isplitr
    swap; · iexact H3
    ipureintro; exact (rafter0_3 m c t _ _).mpr rfl
  isplitl [H4]
  · iexists (blk4 m c t); isplitr
    · ipureintro; exact (rafter0_4 m c t _ _).mpr rfl
    unfold owns; iexists _; isplitr
    swap; · iexact H4
    ipureintro; exact ends4_A c _ _ _ _ _ _ _ _ _ _ _ _ _ _ _ _ _ _ _
  iexists (blk5 m c t (Y 5)); isplitr
  · ipureintro; exact (rafter0_5 m c t _ _).mpr rfl
  unfold owns; iexists _; isplitr
  swap; · iexact H5
  ipureintro; exact ends5_A c _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
/-- The launch runs to the region's proof data's post, every semaphore back at zero. -/
theorem run_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => body_obligation m c) (hshare := fun c => (dat m c).share_full fun _ => rfl)
    (howed := fun _ _ => rfl) (V := V m) (hmain := hmain m Variants.none) (hA := A_eq m) (hΦ := fun _ _ => rfl)

/-- The run with the outputs' arrays named by contents that the body may have left, and the arguments unchanged. -/
theorem run : θ_run defs (onTc (τ := τ) (main (F := F))) ⟨m, fun _ => 0, ρ⟩ fun r => ∀ c : Dev nD,
      (∃ after : (w' : Fin cfg0.W) → Fin cfg0.N → (cfg0.win w').block.Idx → Elt F (cfg0.win w').elt,
        (∀ (w : Fin cfg0.W) (u : Fin cfg0.N), (cfg0.win w).flush u = true → (rdat m c).Leaves w u (after w u))
        ∧ r.2.mem ((c.tc : Thread nD τ).loc main_v1_0) = ((rdat m c).withAfter after).arrAt 4 cfg0.N
        ∧ r.2.mem ((c.tc : Thread nD τ).loc main_v1_1) = ((rdat m c).withAfter after).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨by
        obtain ⟨after, hL, hE⟩ := Pipeline.RDat.FramePost.exists_exact h.1 c
        exact ⟨after, hL, hE 4, hE 5⟩,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c)⟩)
    (run_quiescent m ρ)

/-- The frame: the arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run m ρ)) ((θ_run defs _ _).mono (fun _ h => h.2) (run_quiescent m ρ))

end Cert.Down.Down

end
-- ==== Proof.Down.Spec.lean ====
module

public import proofs.«01_k».proof.Proof.GateUp.Spec

@[expose] public section

noncomputable section

namespace Cert.Rows

open Idealize.ShloMosaic

/-! The mathematics of one row of the down projection over the extended reals, shared by the two programs. -/

/-- One entry of the scaled product: the row `x` of codes against the column `w` of the weight matrix, times the row's scale `s`
    and the column's scale `sd`. -/
def scaled {n : ℕ} (x w : Fin n → EReal) (s sd : EReal) : EReal := (∑ k, x k * w k) * (s * sd)

/-- Equal rows, columns and scales have equal scaled products. -/
theorem scaled_congr {n : ℕ} {x x' w w' : Fin n → EReal} {s s' sd sd' : EReal} (hx : x = x') (hw : w = w') (hs : s = s') (hsd : sd = sd') :
    scaled x w s sd = scaled x' w' s' sd' := by
  subst hx hw hs hsd; rfl

/-- Group `l` of a row: its entries `128 l` to `128 l + 127`. -/
def group {n : ℕ} (f : Fin n → EReal) (l : ℕ) (h : 128 * l + 128 ≤ n) : Fin 128 → EReal := fun q => f ⟨128 * l + q.val, by have := q.isLt; omega⟩

/-- The scale of group `l` of a row. -/
def groupScale {n : ℕ} (f : Fin n → EReal) (l : ℕ) (h : 128 * l + 128 ≤ n) : EReal := rowScale (rowMax (group f l h))

end Cert.Rows
-- ==== Proof.Down.RunA.lean ====
module

public import proofs.«01_k».proof.Proof.Gen.DownIdeal.Frame
public import proofs.«01_k».proof.Proof.Gen.DownIdeal.Launch
public import proofs.«01_k».proof.Proof.Gen.DownIdeal.Skeleton
public import proofs.«01_k».proof.Proof.Gen.DownIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DownIdeal.Down

open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The staging memrefs of a point -/

abbrev ms0_0 (t : Fin cfg0.N) : Memref sig .tc .vmem S1x480x3584 .fp8e4m3 := win0_0.stage (cfg0.slots t 0)
abbrev ms0_1 (t : Fin cfg0.N) : Memref sig .tc .vmem S1x480x1 .f32 := win0_1.stage (cfg0.slots t 1)
abbrev ms0_2 (t : Fin cfg0.N) : Memref sig .tc .vmem S3584x512 .fp8e4m3 := win0_2.stage (cfg0.slots t 2)
abbrev ms0_3 (t : Fin cfg0.N) : Memref sig .tc .vmem S1x512 .f32 := win0_3.stage (cfg0.slots t 3)
abbrev ms0_4 (t : Fin cfg0.N) : Memref sig .tc .vmem S1x480x512 .fp8e4m3 := win0_4.stage (cfg0.slots t 4)
abbrev ms0_5 (t : Fin cfg0.N) : Memref sig .tc .vmem S1x480x96 .f32 := win0_5.stage (cfg0.slots t 5)

-- (the run's proof term is large: checking it walks past the default budget)
set_option maxHeartbeats 1000000 in
/-- What the body's stores leave in the two outputs' staging memrefs, as pieces (last first), with the proof that the body runs
    from whole staging memrefs — the inputs' at their contents, the codes' at anything, the scales' at `x5` — to the
    continuation holding the inputs' as they were and each output's with its pieces written. -/
noncomputable def kernelRun0_A (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) :
    Σ' (L4 : List (View.Piece (Elt F) S1x480x512 .fp8e4m3)), { L5 : List (View.Piece (Elt F) S1x480x96 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare x5
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (arg7.view.loc (c : Thread nD τ) ↦[arg7.view.set]{fullShare} arg7.view.writes (Elt F) (harg7.unread x5) L5)) -∗ K ⟨⟩))
          ⊢ wp frame (wpE (defs₀ (F := F)) Variants.none c none) E (cc0_down i arg2 harg2 arg3 harg3 arg4 harg4 arg5 harg5 arg6 harg6 arg7 harg7) K } := by
  refine ⟨?_, ?_, fun E K => ?run⟩
  case run =>
    simp only [cc0_down_eq_skeleton]; unfold cc0_down_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
    obtain rfl := harg2.eq_unread hf0; obtain rfl := harg3.eq_unread hf1; obtain rfl := harg4.eq_unread hf2; obtain rfl := harg5.eq_unread hf3; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexact H5

end Cert.DownIdeal.Down

end
-- ==== Proof.Down.Values.lean ====
module

public import proofs.«01_k».proof.Proof.Down.RunA
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit
public import proofs.«01_k».proof.Proof.Gen.DownIdeal.Launch
public import proofs.«01_k».proof.Proof.Gen.DownIdeal.Skeleton
public import proofs.«01_k».proof.Proof.Gen.DownIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DownIdeal.Down

open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the run leaves, named by the blocks it reads -/

/-- A load of a whole memref's own extents, the memref held at contents that read `x`, reads `x`. -/
theorem rd {s : Shape} {e : EltTy} (a : Memref sig .tc .vmem s e) (h : a.IsWhole) {off : Fin s.rank → ℕ}
    (inb : ∀ k, off k + s.size k ≤ s.size k) (x : s.Idx → Elt F e) :
    View.readAt (Elt F) a.view (Rect.unit off s.size inb).toLoadRect (h.unread x) = x :=
  (View.readAt_full a.view _ inb).trans (h.read_unread x)

/-- The four stores of a tile's quantised groups of 128 columns: group `b` at columns `128 b`. -/
def pieces4 (x0 : Vec F S1x480x3584 .fp8e4m3) (x1 : Vec F S1x480x1 .f32) (x2 : Vec F S3584x512 .fp8e4m3) (x3 : Vec F S1x512 .f32) : List (View.Piece (Elt F) S1x480x512 .fp8e4m3) :=
  [⟨Rect.unit (s := S1x480x512) ![0, 0, 384] S1x480x128.size inb_S1x480x512_S1x480x128_0_0_384, k0_pay1 (Scalar.ofBits .f32 0x43E00000#32) (k0_pay20 (k0_pay3 x0 x2 x1 x3))⟩,
   ⟨Rect.unit (s := S1x480x512) ![0, 0, 256] S1x480x128.size inb_S1x480x512_S1x480x128_0_0_256, k0_pay16 (k0_pay13 (k0_pay3 x0 x2 x1 x3)) (k0_pay14 (k0_pay3 x0 x2 x1 x3))⟩,
   ⟨Rect.unit (s := S1x480x512) ![0, 0, 128] S1x480x128.size inb_S1x480x512_S1x480x128_0_0_128, k0_pay11 (k0_pay3 x0 x2 x1 x3)⟩,
   ⟨Rect.unit (s := S1x480x512) ![0, 0, 0] S1x480x128.size inb_S1x480x512_S1x480x128_0_0_0, k0_pay8 (k0_pay7 x0 x2 x1 x3)⟩]

/-- The scales' block after a point: `x5` with the tile's four scales put in its four lanes. -/
def out5 (i : grid0.Coords) (x0 : Vec F S1x480x3584 .fp8e4m3) (x1 : Vec F S1x480x1 .f32) (x2 : Vec F S3584x512 .fp8e4m3) (x3 : Vec F S1x512 .f32) (x5 : Vec F S1x480x96 .f32) : Vec F S1x480x96 .f32 :=
  k0_pay2 (BitVec.ofNat 32 (i 1).val) (iota .tc S480x96 32 [1] iota_S480x96_d1_w32)
    (k0_pay17 (BitVec.ofNat 32 (i 1).val) (iota .tc S480x96 32 [1] iota_S480x96_d1_w32)
      (k0_pay12 (BitVec.ofNat 32 (i 1).val) (k0_pay3 x0 x2 x1 x3) (iota .tc S480x96 32 [1] iota_S480x96_d1_w32) (k0_pay4 x5) (k0_pay6 x0 x2 x1 x3))
      (k0_pay14 (k0_pay3 x0 x2 x1 x3)))
    (k0_pay19 (k0_pay3 x0 x2 x1 x3))

/-- The run's stores into the codes' block. -/
theorem codes_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) :
    (kernelRun0_A c i arg2 harg2 arg3 harg3 arg4 harg4 arg5 harg5 arg6 harg6 arg7 harg7 x0 x1 x2 x3 x5).1 = pieces4 x0 x1 x2 x3 := by
  have e : (kernelRun0_A c i arg2 harg2 arg3 harg3 arg4 harg4 arg5 harg5 arg6 harg6 arg7 harg7 x0 x1 x2 x3 x5).1 = pieces4 (View.readAt (Elt F) arg2.view (Rect.unit (s := S1x480x3584) ![0, 0, 0] S1x480x3584.size inb_S1x480x3584_S1x480x3584_0_0_0).toLoadRect (harg2.unread x0)) (View.readAt (Elt F) arg3.view (Rect.unit (s := S1x480x1) ![0, 0, 0] S1x480x1.size inb_S1x480x1_S1x480x1_0_0_0).toLoadRect (harg3.unread x1)) (View.readAt (Elt F) arg4.view (Rect.unit (s := S3584x512) ![0, 0] S3584x512.size inb_S3584x512_S3584x512_0_0).toLoadRect (harg4.unread x2)) (View.readAt (Elt F) arg5.view (Rect.unit (s := S1x512) ![0, 0] S1x512.size inb_S1x512_S1x512_0_0).toLoadRect (harg5.unread x3)) := rfl
  rw [e, rd arg2 harg2, rd arg3 harg3, rd arg4 harg4, rd arg5 harg5]

/-- The run's store into the scales' block. -/
theorem scales_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) :
    (kernelRun0_A c i arg2 harg2 arg3 harg3 arg4 harg4 arg5 harg5 arg6 harg6 arg7 harg7 x0 x1 x2 x3 x5).2.1 = [⟨Rect.unit (s := S1x480x96) ![0, 0, 0] S1x480x96.size inb_S1x480x96_S1x480x96_0_0_0, out5 i x0 x1 x2 x3 x5⟩] := by
  have e : (kernelRun0_A c i arg2 harg2 arg3 harg3 arg4 harg4 arg5 harg5 arg6 harg6 arg7 harg7 x0 x1 x2 x3 x5).2.1 = [⟨Rect.unit (s := S1x480x96) ![0, 0, 0] S1x480x96.size inb_S1x480x96_S1x480x96_0_0_0, out5 i (View.readAt (Elt F) arg2.view (Rect.unit (s := S1x480x3584) ![0, 0, 0] S1x480x3584.size inb_S1x480x3584_S1x480x3584_0_0_0).toLoadRect (harg2.unread x0)) (View.readAt (Elt F) arg3.view (Rect.unit (s := S1x480x1) ![0, 0, 0] S1x480x1.size inb_S1x480x1_S1x480x1_0_0_0).toLoadRect (harg3.unread x1)) (View.readAt (Elt F) arg4.view (Rect.unit (s := S3584x512) ![0, 0] S3584x512.size inb_S3584x512_S3584x512_0_0).toLoadRect (harg4.unread x2)) (View.readAt (Elt F) arg5.view (Rect.unit (s := S1x512) ![0, 0] S1x512.size inb_S1x512_S1x512_0_0).toLoadRect (harg5.unread x3)) (View.readAt (Elt F) arg7.view (Rect.unit (s := S1x480x96) ![0, 0, 0] S1x480x96.size inb_S1x480x96_S1x480x96_0_0_0).toLoadRect (harg7.unread x5))⟩] := rfl
  rw [e, rd arg2 harg2, rd arg3 harg3, rd arg4 harg4, rd arg5 harg5, rd arg7 harg7]

/-- The four stores tile the codes' block. -/
theorem pieces4_cover (x0 : Vec F S1x480x3584 .fp8e4m3) (x1 : Vec F S1x480x1 .f32) (x2 : Vec F S3584x512 .fp8e4m3) (x3 : Vec F S1x512 .f32) (y : S1x480x512.Idx) : ∃ pc ∈ pieces4 x0 x1 x2 x3, y ∈ pc.1.set :=
  View.cover_of_tiledL (pieces4 x0 x1 x2 x3) S1x480x128.size (by sl_kernel_rfl) y

/-- The codes' block after the run. -/
theorem ends4_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) (g : arg6.view.ty.Contents (Elt F)) :
    arg6.view.read (Elt F) (arg6.view.writes (Elt F) g (kernelRun0_A c i arg2 harg2 arg3 harg3 arg4 harg4 arg5 harg5 arg6 harg6 arg7 harg7 x0 x1 x2 x3 x5).1) = View.canon (pieces4 x0 x1 x2 x3) :=
  (congrArg (fun L => arg6.view.read (Elt F) (arg6.view.writes (Elt F) g L)) (codes_A c i arg2 harg2 arg3 harg3 arg4 harg4 arg5 harg5 arg6 harg6 arg7 harg7 x0 x1 x2 x3 x5)).trans
    (View.read_writes_eq_canon _ _ _ (pieces4_cover x0 x1 x2 x3))

/-- The scales' block after the run. -/
theorem ends5_A  (c : Dev nD) (i : grid0.Coords) (arg2 : Memref sig .tc .vmem S1x480x3584 .fp8e4m3) (harg2 : arg2.IsWhole) (arg3 : Memref sig .tc .vmem S1x480x1 .f32) (harg3 : arg3.IsWhole) (arg4 : Memref sig .tc .vmem S3584x512 .fp8e4m3) (harg4 : arg4.IsWhole) (arg5 : Memref sig .tc .vmem S1x512 .f32) (harg5 : arg5.IsWhole) (arg6 : Memref sig .tc .vmem S1x480x512 .fp8e4m3) (harg6 : arg6.IsWhole) (arg7 : Memref sig .tc .vmem S1x480x96 .f32) (harg7 : arg7.IsWhole)
    (x0 : Vec F S1x480x3584 .fp8e4m3) (x1 : Vec F S1x480x1 .f32) (x2 : Vec F S3584x512 .fp8e4m3) (x3 : Vec F S1x512 .f32) (x5 : Vec F S1x480x96 .f32) (g : arg7.view.ty.Contents (Elt F)) :
    arg7.view.read (Elt F) (arg7.view.writes (Elt F) g (kernelRun0_A c i arg2 harg2 arg3 harg3 arg4 harg4 arg5 harg5 arg6 harg6 arg7 harg7 x0 x1 x2 x3 x5).2.1) = out5 i x0 x1 x2 x3 x5 :=
  (congrArg (fun L => arg7.view.read (Elt F) (arg7.view.writes (Elt F) g L)) (scales_A c i arg2 harg2 arg3 harg3 arg4 harg4 arg5 harg5 arg6 harg6 arg7 harg7 x0 x1 x2 x3 x5)).trans (View.read_writes_full _ _ _ _ _)

end Cert.DownIdeal.Down

end
-- ==== Proof.Down.Pay.lean ====
module

public import proofs.«01_k».proof.Proof.Down.Spec
public import proofs.«01_k».proof.Proof.Down.Values

@[expose] public section

set_option maxRecDepth 16384

noncomputable section

namespace Cert.DownIdeal.Down

open Cert.DownIdeal Cert.DownIdeal.Gen Idealize.ShloMosaic Idealize.ShloMosaic.TcCoe
open Cert.Rows

/-! ## The payloads at an index, over the extended reals -/

/-- A row of a tile. -/
def trow (X : Vec Ideal S480x512 .f32) (r : Fin 480) : Fin 512 → EReal := fun p => X (ix2 r p)

section Slices

variable (X : Vec Ideal S480x512 .f32) (r : Fin 480) (q : Fin 128)

theorem slice1_apply : k0_pay9 (F := Ideal) X (ix2 r q) = group (trow X r) 1 (by decide) q := by
  show _ = X (ix2 r ⟨128 * 1 + q.val, _⟩)
  pointwise [k0_pay9]
theorem slice2_apply : k0_pay13 (F := Ideal) X (ix2 r q) = group (trow X r) 2 (by decide) q := by
  show _ = X (ix2 r ⟨128 * 2 + q.val, _⟩)
  pointwise [k0_pay13]
theorem slice3_apply : k0_pay18 (F := Ideal) X (ix2 r q) = group (trow X r) 3 (by decide) q := by
  show _ = X (ix2 r ⟨128 * 3 + q.val, _⟩)
  pointwise [k0_pay18]

theorem scale1_apply : k0_pay10 (F := Ideal) X (ix2 r 0) = groupScale (trow X r) 1 (by decide) := by
  unfold groupScale
  rw [show group (trow X r) 1 (by decide) = fun q => k0_pay9 (F := Ideal) X (ix2 r q) from funext fun q => (slice1_apply X r q).symm]
  unfold k0_pay10
  generalize k0_pay9 (F := Ideal) X = Y
  unfold rowScale rowMax
  pointwise
theorem max2_apply : k0_pay14 (F := Ideal) X (ix2 r 0) = rowMax (group (trow X r) 2 (by decide)) := by
  rw [show group (trow X r) 2 (by decide) = fun q => k0_pay13 (F := Ideal) X (ix2 r q) from funext fun q => (slice2_apply X r q).symm]
  unfold k0_pay14
  generalize k0_pay13 (F := Ideal) X = Y
  unfold rowMax
  pointwise
theorem scale2_apply (a : Vec Ideal S480x1 .f32) : k0_pay15 (F := Ideal) a (ix2 r 0) = rowScale (a (ix2 r 0)) := by
  unfold rowScale
  pointwise [k0_pay15]
theorem scale3_apply : k0_pay19 (F := Ideal) X (ix2 r 0) = groupScale (trow X r) 3 (by decide) := by
  unfold groupScale
  rw [show group (trow X r) 3 (by decide) = fun q => k0_pay18 (F := Ideal) X (ix2 r q) from funext fun q => (slice3_apply X r q).symm]
  unfold k0_pay19
  generalize k0_pay18 (F := Ideal) X = Y
  unfold rowScale rowMax
  pointwise

theorem code1_apply : k0_pay11 (F := Ideal) X (ix3 0 r q) = code (group (trow X r) 1 (by decide) q) (groupScale (trow X r) 1 (by decide)) := by
  rw [← slice1_apply]
  unfold code groupScale
  rw [← mul_recip]
  refine Eq.trans ?_ (congrArg (fun s => min (Ideal.ofBits .f32 0x43E00000#32) (max (Ideal.ofBits .f32 0xC3E00000#32) (k0_pay9 (F := Ideal) X (ix2 r q) * Ideal.div 1 s))) (scale1_apply X r))
  unfold k0_pay11
  generalize k0_pay9 (F := Ideal) X = Y
  generalize k0_pay10 (F := Ideal) X = Z
  pointwise
theorem code2_apply (S : Vec Ideal S480x128 .f32) (a : Vec Ideal S480x1 .f32) : k0_pay16 (F := Ideal) S a (ix3 0 r q) = code (S (ix2 r q)) (rowScale (a (ix2 r 0))) := by
  unfold code
  rw [← mul_recip]
  refine Eq.trans ?_ (congrArg (fun s => min (Ideal.ofBits .f32 0x43E00000#32) (max (Ideal.ofBits .f32 0xC3E00000#32) (S (ix2 r q) * Ideal.div 1 s))) (scale2_apply r a))
  unfold k0_pay16
  generalize k0_pay15 (F := Ideal) a = Z
  pointwise
theorem code3_apply : k0_pay1 (F := Ideal) (Scalar.ofBits .f32 0x43E00000#32) (k0_pay20 X) (ix3 0 r q) = code (group (trow X r) 3 (by decide) q) (groupScale (trow X r) 3 (by decide)) := by
  rw [← slice3_apply]
  unfold code groupScale
  rw [← mul_recip]
  refine Eq.trans ?_ (congrArg (fun s => min (Ideal.ofBits .f32 0x43E00000#32) (max (Ideal.ofBits .f32 0xC3E00000#32) (k0_pay18 (F := Ideal) X (ix2 r q) * Ideal.div 1 s))) (scale3_apply X r))
  unfold k0_pay20 k0_pay1
  generalize k0_pay18 (F := Ideal) X = Y
  generalize k0_pay19 (F := Ideal) X = Z
  pointwise

end Slices

section Tile

variable (x0 : Vec Ideal S1x480x3584 .fp8e4m3) (x1 : Vec Ideal S1x480x1 .f32) (x2 : Vec Ideal S3584x512 .fp8e4m3) (x3 : Vec Ideal S1x512 .f32)

/-- One entry of a tile's scaled product. -/
def tileAt (r : Fin 480) (p : Fin 512) : EReal :=
  scaled (fun x : Fin 3584 => x0 (ix3 0 r x)) (fun x => x2 (ix2 x p)) (x1 (ix3 0 r 0)) (x3 (ix2 0 p))

/-- The tile the body computes, at an index. -/
theorem tile_apply (r : Fin 480) (p : Fin 512) : k0_pay3 x0 x2 x1 x3 (ix2 r p) = tileAt x0 x1 x2 x3 r p := by
  unfold tileAt scaled
  pointwise [k0_pay3, dot_S480x3584_S3584x512_S480x512_1_0_0_1_n_n]

theorem trow_eq (r : Fin 480) : trow (k0_pay3 x0 x2 x1 x3) r = tileAt x0 x1 x2 x3 r := funext fun p => tile_apply x0 x1 x2 x3 r p

theorem slice0_apply (r : Fin 480) (q : Fin 128) : k0_pay5 x0 x2 x1 x3 (ix2 r q) = group (trow (k0_pay3 x0 x2 x1 x3) r) 0 (by decide) q := by
  show _ = k0_pay3 x0 x2 x1 x3 (ix2 r ⟨128 * 0 + q.val, _⟩)
  unfold k0_pay5
  generalize k0_pay3 x0 x2 x1 x3 = X
  pointwise
theorem scale0_apply (r : Fin 480) : k0_pay6 x0 x2 x1 x3 (ix2 r 0) = groupScale (trow (k0_pay3 x0 x2 x1 x3) r) 0 (by decide) := by
  unfold groupScale
  rw [show group (trow (k0_pay3 x0 x2 x1 x3) r) 0 (by decide) = fun q => k0_pay5 x0 x2 x1 x3 (ix2 r q) from funext fun q => (slice0_apply x0 x1 x2 x3 r q).symm]
  unfold k0_pay6
  generalize k0_pay5 x0 x2 x1 x3 = Y
  unfold rowScale rowMax
  pointwise
theorem code0_apply (r : Fin 480) (q : Fin 128) : k0_pay8 (k0_pay7 x0 x2 x1 x3) (ix3 0 r q) = code (group (trow (k0_pay3 x0 x2 x1 x3) r) 0 (by decide) q) (groupScale (trow (k0_pay3 x0 x2 x1 x3) r) 0 (by decide)) := by
  rw [← slice0_apply]
  unfold code groupScale
  rw [← mul_recip]
  refine Eq.trans ?_ (congrArg (fun s => min (Ideal.ofBits .f32 0x43E00000#32) (max (Ideal.ofBits .f32 0xC3E00000#32) (k0_pay5 x0 x2 x1 x3 (ix2 r q) * Ideal.div 1 s))) (scale0_apply x0 x1 x2 x3 r))
  unfold k0_pay8 k0_pay7
  generalize k0_pay5 x0 x2 x1 x3 = Y
  generalize k0_pay6 x0 x2 x1 x3 = Z
  pointwise

/-! ### The scales' lanes -/

/-- Lane `l`'s number against the lane that group `b` of tile `j` is put in. -/
theorem lane_iff (j l b : ℕ) (hj : j < 24) (hl : l < 96) (hb : b < 4) :
    BitVec.ofNat 32 l = Scalar.addi (Scalar.muli (BitVec.ofNat 32 j) 4#32) (BitVec.ofNat 32 b) ↔ l = 4 * j + b := by
  unfold Scalar.addi Scalar.muli IntOp.addi IntOp.muli
  constructor
  · intro h
    have := congrArg BitVec.toNat h
    simp [BitVec.toNat_add, BitVec.toNat_mul, BitVec.toNat_ofNat] at this
    omega
  · rintro rfl
    apply BitVec.eq_of_toNat_eq
    simp [BitVec.toNat_add, BitVec.toNat_mul, BitVec.toNat_ofNat]
    omega

/-- Putting the scales `S` in one lane. -/
def put {F : FTy → Type} [FloatOps F] (lane : BitVec 32) (S : Vec F S480x1 .f32) (Z : Vec F S480x96 .f32) : Vec F S480x96 .f32 :=
  select (cmpi .eq (iota .tc S480x96 32 [1] iota_S480x96_d1_w32) (broadcast S480x96 lane))
    (broadcastTo S480x96 (shapeCast S480x1 S shapeCasts_S480x1_S480x1) broadcasts_S480x1_S480x96) Z

theorem put_apply (lane : BitVec 32) (S : Vec Ideal S480x1 .f32) (Z : Vec Ideal S480x96 .f32) (r : Fin 480) (l : Fin 96) :
    put lane S Z (ix2 r l) = if BitVec.ofNat 32 l.val = lane then S (ix2 r 0) else Z (ix2 r l) := by
  unfold put
  pointwise
  unfold IntOp.cmpi Scalar.select
  by_cases h : BitVec.ofNat 32 l.val = lane
  · simp [h]
  · have h' : (BitVec.ofNat 32 l.val == lane) = false := beq_eq_false_iff_ne.mpr h
    simp [h, h']

theorem out5_eq {F : FTy → Type} [FloatOps F] (i : grid0.Coords) (x0 : Vec F S1x480x3584 .fp8e4m3) (x1 : Vec F S1x480x1 .f32) (x2 : Vec F S3584x512 .fp8e4m3) (x3 : Vec F S1x512 .f32) (x5 : Vec F S1x480x96 .f32) :
    out5 i x0 x1 x2 x3 x5 = shapeCast S1x480x96
      (put (Scalar.addi (Scalar.muli (BitVec.ofNat 32 (i 1).val) 4#32) 3#32) (k0_pay19 (k0_pay3 x0 x2 x1 x3))
      (put (Scalar.addi (Scalar.muli (BitVec.ofNat 32 (i 1).val) 4#32) 2#32) (k0_pay15 (k0_pay14 (k0_pay3 x0 x2 x1 x3)))
      (put (Scalar.addi (Scalar.muli (BitVec.ofNat 32 (i 1).val) 4#32) 1#32) (k0_pay10 (k0_pay3 x0 x2 x1 x3))
      (put (Scalar.addi (Scalar.muli (BitVec.ofNat 32 (i 1).val) 4#32) 0#32) (k0_pay6 x0 x2 x1 x3) (shapeCast S480x96 x5 shapeCasts_S1x480x96_S480x96)))))
      shapeCasts_S480x96_S1x480x96 := rfl

/-- The scales' block after a point, at an index: the four lanes of tile `j` hold its groups' scales, the others what they held. -/
theorem out5_apply (i : grid0.Coords) (x5 : Vec Ideal S1x480x96 .f32) (j : ℕ) (hj : (i 1).val = j) (hj' : j < 24) (r : Fin 480) (l : Fin 96) :
    out5 i x0 x1 x2 x3 x5 (ix3 0 r l) = if h : 4 * j ≤ l.val ∧ l.val < 4 * j + 4 then groupScale (trow (k0_pay3 x0 x2 x1 x3) r) (l.val - 4 * j) (by omega) else x5 (ix3 0 r l) := by
  have hs : ∀ Z : Vec Ideal S480x96 .f32, shapeCast S1x480x96 Z shapeCasts_S480x96_S1x480x96 (ix3 0 r l) = Z (ix2 r l) := fun Z => by pointwise
  have hu : shapeCast S480x96 x5 shapeCasts_S1x480x96_S480x96 (ix2 r l) = x5 (ix3 0 r l) := by pointwise
  have hl := l.isLt
  have e0 : (BitVec.ofNat 32 l.val = Scalar.addi (Scalar.muli (BitVec.ofNat 32 j) 4#32) 0#32) = (l.val = 4 * j + 0) := propext (lane_iff j l.val 0 hj' hl (by decide))
  have e1 : (BitVec.ofNat 32 l.val = Scalar.addi (Scalar.muli (BitVec.ofNat 32 j) 4#32) 1#32) = (l.val = 4 * j + 1) := propext (lane_iff j l.val 1 hj' hl (by decide))
  have e2 : (BitVec.ofNat 32 l.val = Scalar.addi (Scalar.muli (BitVec.ofNat 32 j) 4#32) 2#32) = (l.val = 4 * j + 2) := propext (lane_iff j l.val 2 hj' hl (by decide))
  have e3 : (BitVec.ofNat 32 l.val = Scalar.addi (Scalar.muli (BitVec.ofNat 32 j) 4#32) 3#32) = (l.val = 4 * j + 3) := propext (lane_iff j l.val 3 hj' hl (by decide))
  rw [out5_eq, hs, put_apply, put_apply, put_apply, put_apply, hu, hj, scale3_apply, scale2_apply, max2_apply, scale1_apply, scale0_apply]
  simp only [e0, e1, e2, e3]
  have key : ∀ (b : ℕ) (hb : 128 * b + 128 ≤ 512) (b' : ℕ) (hb' : 128 * b' + 128 ≤ 512), b = b' → groupScale (trow (k0_pay3 x0 x2 x1 x3) r) b hb = groupScale (trow (k0_pay3 x0 x2 x1 x3) r) b' hb' := by
    rintro b hb _ hb' rfl; rfl
  by_cases h3 : l.val = 4 * j + 3
  · rw [if_pos h3, dif_pos (by omega)]; exact key _ _ _ _ (by omega)
  rw [if_neg h3]
  by_cases h2 : l.val = 4 * j + 2
  · rw [if_pos h2, dif_pos (by omega)]; exact key 2 (by decide) _ _ (by omega)
  rw [if_neg h2]
  by_cases h1 : l.val = 4 * j + 1
  · rw [if_pos h1, dif_pos (by omega)]; exact key _ _ _ _ (by omega)
  rw [if_neg h1]
  by_cases h0 : l.val = 4 * j + 0
  · rw [if_pos h0, dif_pos (by omega)]; exact key _ _ _ _ (by omega)
  rw [if_neg h0, dif_neg (by omega)]

end Tile

end Cert.DownIdeal.Down
-- ==== Proof.Down.Region.lean ====
module

public import proofs.«01_k».proof.Proof.Down.Values
public import Idealize.ShloMosaic.Lib.VecWindow
public import Idealize.ShloMosaic.Lib.WritesUnit
public import Idealize.ShloMosaic.Lib.WholeRead
public import Idealize.ShloMosaic.Lib.Pointwise
public import Idealize.ShloMosaic.Lib.Pipeline.ValueKit
public import Idealize.ShloMosaic.Lib.Pipeline.ArrRel
public import proofs.«01_k».proof.Proof.Gen.DownIdeal.Launch
public import proofs.«01_k».proof.Proof.Gen.DownIdeal.Skeleton
public import proofs.«01_k».proof.Proof.Gen.DownIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.DownIdeal.Down

open Cert.DownIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The codes' block that point `t` writes. -/
def blk4 (c : Dev nD) (t : Fin cfg0.N) : Vec F S1x480x512 .fp8e4m3 :=
  View.canon (pieces4 (iblk m c 0 t) (iblk m c 1 t) (iblk m c 2 t) (iblk m c 3 t))

/-- The scales' block that point `t` leaves, of the one it found. -/
def blk5 (c : Dev nD) (t : Fin cfg0.N) (Y : Vec F S1x480x96 .f32) : Vec F S1x480x96 .f32 :=
  out5 (grid0.coords t) (iblk m c 0 t) (iblk m c 1 t) (iblk m c 2 t) (iblk m c 3 t) Y

/-- The region's proof data on core `c`, the scales' window aside: the arrays as the region finds them; after the body each
    input's buffer at its block, and the codes' at the block the point writes. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blk4 m c t
    | ⟨5, h⟩ => Pipeline.Dat.unnamed (cfg := cfg0) ⟨5, h⟩ t
  Φ _ := Pipeline.ΦA spec0 c
  q _ := fullShare
  owed _ := 0

/-- The windows held to a relation instead: the scales' block is left at `blk5` of the block found. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => none
  | ⟨4, _⟩ => none
  | ⟨5, _⟩ => some fun t Y X => X = blk5 m c t Y

/-- The region's proof data on core `c`. -/
def rdat (c : Dev nD) : Pipeline.RDat τ (Elt F) Unit ℕ (UR sig nD τ) ℕ cfg0 c := (dat m c).toR.override (ovr m c)

theorem A_eq (c : Dev nD) (w : Fin cfg0.W) : (dat m c).A w = V m c (Pipeline.arrRef spec0 w) := by
  dsimp only [dat]
theorem after0_0 (c : Dev nD) (t : Fin cfg0.N) : (dat m c).after 0 t = iblk m c 0 t := by dsimp only [dat]
theorem after0_1 (c : Dev nD) (t : Fin cfg0.N) : (dat m c).after 1 t = iblk m c 1 t := by dsimp only [dat]
theorem after0_2 (c : Dev nD) (t : Fin cfg0.N) : (dat m c).after 2 t = iblk m c 2 t := by dsimp only [dat]
theorem after0_3 (c : Dev nD) (t : Fin cfg0.N) : (dat m c).after 3 t = iblk m c 3 t := by dsimp only [dat]
theorem after0_4 (c : Dev nD) (t : Fin cfg0.N) : (dat m c).after 4 t = blk4 m c t := by dsimp only [dat]
theorem before0_0 (c : Dev nD) (t : Fin cfg0.N) (d) : (dat m c).before 0 t d = iblk m c 0 t :=
  before0_0_of m (dat m c) (A_eq m c 0) (after0_0 m c) t d
theorem before0_1 (c : Dev nD) (t : Fin cfg0.N) (d) : (dat m c).before 1 t d = iblk m c 1 t :=
  before0_1_of m (dat m c) (A_eq m c 1) (after0_1 m c) t d
theorem before0_2 (c : Dev nD) (t : Fin cfg0.N) (d) : (dat m c).before 2 t d = iblk m c 2 t :=
  before0_2_of m (dat m c) (A_eq m c 2) (after0_2 m c) t d
theorem before0_3 (c : Dev nD) (t : Fin cfg0.N) (d) : (dat m c).before 3 t d = iblk m c 3 t :=
  before0_3_of m (dat m c) (A_eq m c 3) (after0_3 m c) t d
theorem finds0_0 (c : Dev nD) (t : Fin cfg0.N) (X : (cfg0.win 0).block.Idx → Elt F (cfg0.win 0).elt) (h : (rdat m c).Finds 0 t X) : X = iblk m c 0 t := by
  obtain ⟨d, hd⟩ := (dat m c).toR_finds 0 t X (((dat m c).toR.override_finds (by rfl) t X).mp h)
  exact hd.trans (before0_0 m c t d)
theorem finds0_1 (c : Dev nD) (t : Fin cfg0.N) (X : (cfg0.win 1).block.Idx → Elt F (cfg0.win 1).elt) (h : (rdat m c).Finds 1 t X) : X = iblk m c 1 t := by
  obtain ⟨d, hd⟩ := (dat m c).toR_finds 1 t X (((dat m c).toR.override_finds (by rfl) t X).mp h)
  exact hd.trans (before0_1 m c t d)
theorem finds0_2 (c : Dev nD) (t : Fin cfg0.N) (X : (cfg0.win 2).block.Idx → Elt F (cfg0.win 2).elt) (h : (rdat m c).Finds 2 t X) : X = iblk m c 2 t := by
  obtain ⟨d, hd⟩ := (dat m c).toR_finds 2 t X (((dat m c).toR.override_finds (by rfl) t X).mp h)
  exact hd.trans (before0_2 m c t d)
theorem finds0_3 (c : Dev nD) (t : Fin cfg0.N) (X : (cfg0.win 3).block.Idx → Elt F (cfg0.win 3).elt) (h : (rdat m c).Finds 3 t X) : X = iblk m c 3 t := by
  obtain ⟨d, hd⟩ := (dat m c).toR_finds 3 t X (((dat m c).toR.override_finds (by rfl) t X).mp h)
  exact hd.trans (before0_3 m c t d)
theorem rafter0_0 (c : Dev nD) (t : Fin cfg0.N) (Y X : (cfg0.win 0).block.Idx → Elt F (cfg0.win 0).elt) : (rdat m c).after 0 t Y X ↔ X = iblk m c 0 t := by
  show (dat m c).Leaves 0 t X ↔ _
  rw [← after0_0 m c t]; exact Iff.rfl
theorem rafter0_1 (c : Dev nD) (t : Fin cfg0.N) (Y X : (cfg0.win 1).block.Idx → Elt F (cfg0.win 1).elt) : (rdat m c).after 1 t Y X ↔ X = iblk m c 1 t := by
  show (dat m c).Leaves 1 t X ↔ _
  rw [← after0_1 m c t]; exact Iff.rfl
theorem rafter0_2 (c : Dev nD) (t : Fin cfg0.N) (Y X : (cfg0.win 2).block.Idx → Elt F (cfg0.win 2).elt) : (rdat m c).after 2 t Y X ↔ X = iblk m c 2 t := by
  show (dat m c).Leaves 2 t X ↔ _
  rw [← after0_2 m c t]; exact Iff.rfl
theorem rafter0_3 (c : Dev nD) (t : Fin cfg0.N) (Y X : (cfg0.win 3).block.Idx → Elt F (cfg0.win 3).elt) : (rdat m c).after 3 t Y X ↔ X = iblk m c 3 t := by
  show (dat m c).Leaves 3 t X ↔ _
  rw [← after0_3 m c t]; exact Iff.rfl
theorem rafter0_4 (c : Dev nD) (t : Fin cfg0.N) (Y X : (cfg0.win 4).block.Idx → Elt F (cfg0.win 4).elt) : (rdat m c).after 4 t Y X ↔ X = blk4 m c t := by
  show (dat m c).Leaves 4 t X ↔ _
  rw [← after0_4 m c t]; exact Iff.rfl
theorem rafter0_5 (c : Dev nD) (t : Fin cfg0.N) (Y X : (cfg0.win 5).block.Idx → Elt F (cfg0.win 5).elt) : (rdat m c).after 5 t Y X ↔ X = blk5 m c t Y := Iff.rfl

/-! ## The body obligation -/

/-- What the body is called with at point `t`, the windows one by one, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X))

set_option maxHeartbeats 1000000 in
/-- The body's triple at every point. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  rw [finds0_0 m c t (Y 0) (hY 0)]
  rw [finds0_1 m c t (Y 1) (hY 1)]
  rw [finds0_2 m c t (Y 2) (hY 2)]
  rw [finds0_3 m c t (Y 3) (hY 3)]
  rw [show (rdat m c).Φ t.succ = (rdat m c).Φ t.castSucc from rfl,
    show (rdat m c).owesAt () t.succ = (rdat m c).owesAt () t.castSucc from rfl]
  iintro ⟨HΦ, Ho, H0, H1, H2, H3, H4, H5⟩
  iapply ((kernelRun0_A c (grid0.coords t) _ _ _ _ _ _ _ _ _ _ _ _ (iblk m c 0 t) (iblk m c 1 t) (iblk m c 2 t) (iblk m c 3 t) (Y 5)).2.2 Set.univ _)
  isplitl [H0]; · iexact H0
  isplitl [H1]; · iexact H1
  isplitl [H2]; · iexact H2
  isplitl [H3]; · iexact H3
  isplitl [H4]; · iexists _; iexact H4
  isplitl [H5]; · iexact H5
  iintro ⟨H0, H1, H2, H3, ⟨%f4, H4⟩, H5⟩
  isplitl [HΦ]; · iexact HΦ
  isplitl [Ho]; · iexact Ho
  isplitl [H0]
  · iexists _; isplitr
    swap; · iexact H0
    ipureintro; exact (rafter0_0 m c t _ _).mpr rfl
  isplitl [H1]
  · iexists _; isplitr
    swap; · iexact H1
    ipureintro; exact (rafter0_1 m c t _ _).mpr rfl
  isplitl [H2]
  · iexists _; isplitr
    swap; · iexact H2
    ipureintro; exact (rafter0_2 m c t _ _).mpr rfl
  isplitl [H3]
  · iexists _; isplitr
    swap; · iexact H3
    ipureintro; exact (rafter0_3 m c t _ _).mpr rfl
  isplitl [H4]
  · iexists (blk4 m c t); isplitr
    · ipureintro; exact (rafter0_4 m c t _ _).mpr rfl
    unfold owns; iexists _; isplitr
    swap; · iexact H4
    ipureintro; exact ends4_A c _ _ _ _ _ _ _ _ _ _ _ _ _ _ _ _ _ _ _
  iexists (blk5 m c t (Y 5)); isplitr
  · ipureintro; exact (rafter0_5 m c t _ _).mpr rfl
  unfold owns; iexists _; isplitr
  swap; · iexact H5
  ipureintro; exact ends5_A c _ _ _ _ _ _ _ _ _ _ _ _ _ _ _ _ _ _ _

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
/-- The launch runs to the region's proof data's post, every semaphore back at zero. -/
theorem run_quiescent : θ_run defs (onTc (τ := τ) (main (F := F))) (s₀ m ρ) (fun r => (Pipeline.RDat.FramePost (cfgs 0) (rdat m) (V m)) r ∧ r.2.sem = fun _ => 0) :=
  Pipeline.RDat.θ_run_frame (Q' := _) cfgs (0 : Fin 1) launch0 defs₀ Variants.none (rdat m) m ρ main
    (hbody := fun c => body_obligation m c) (hshare := fun c => (dat m c).share_full fun _ => rfl)
    (howed := fun _ _ => rfl) (V := V m) (hmain := hmain m Variants.none) (hA := A_eq m) (hΦ := fun _ _ => rfl)

/-- The run with the outputs' arrays named by contents that the body may have left, and the arguments unchanged. -/
theorem run : θ_run defs (onTc (τ := τ) (main (F := F))) ⟨m, fun _ => 0, ρ⟩ fun r => ∀ c : Dev nD,
      (∃ after : (w' : Fin cfg0.W) → Fin cfg0.N → (cfg0.win w').block.Idx → Elt F (cfg0.win w').elt,
        (∀ (w : Fin cfg0.W) (u : Fin cfg0.N), (cfg0.win w).flush u = true → (rdat m c).Leaves w u (after w u))
        ∧ r.2.mem ((c.tc : Thread nD τ).loc main_v1_0) = ((rdat m c).withAfter after).arrAt 4 cfg0.N
        ∧ r.2.mem ((c.tc : Thread nD τ).loc main_v1_1) = ((rdat m c).withAfter after).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨by
        obtain ⟨after, hL, hE⟩ := Pipeline.RDat.FramePost.exists_exact h.1 c
        exact ⟨after, hL, hE 4, hE 5⟩,
      (Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c)⟩)
    (run_quiescent m ρ)

/-- The frame: the arguments unchanged and every semaphore back at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and ((θ_run defs _ _).mono (fun _ h c => (h c).2) (run m ρ)) ((θ_run defs _ _).mono (fun _ h => h.2) (run_quiescent m ρ))

end Cert.DownIdeal.Down

end
-- ==== Proof.Down.Math.lean ====
module

public import proofs.«01_k».proof.Proof.Down.Pay
public import proofs.«01_k».proof.Proof.Down.Region
public import Idealize.ShloMosaic.Lib.Pipeline.Value

@[expose] public section

set_option maxRecDepth 16384

noncomputable section

namespace Cert.DownIdeal.Down

open Cert.DownIdeal Cert.DownIdeal.Gen Idealize.ShloMosaic Idealize.ShloMosaic.TcCoe
open Idealize.ShloMosaic.Pipeline (Dat Cfg Window)
open Cert.Rows

/-! ## The blocks at an index -/

section Blocks

variable {F : FTy → Type} [FloatOps F]
variable (m : (ℓ : Loc nD τ sig) → Buf (Elt F) ℓ) (c : Dev nD)

theorem coord1 : ∀ t : Fin cfg0.N, ((grid0.coords t) 1).val = t.val % 24 := (by decide +kernel : ∀ t : Fin grid0.N, _)
theorem idx0 : ∀ t : Fin cfg0.N, win0_0.index t (0 : Fin 3) = t.val / 24 ∧ win0_0.index t (1 : Fin 3) = 0 ∧ win0_0.index t (2 : Fin 3) = 0 :=
  (by decide +kernel : ∀ t : Fin grid0.N, _)
theorem iblk0_apply (t : Fin cfg0.N) (i : Fin 8) (hi : i.val = t.val / 24) (r : Fin 480) (x : Fin 3584) :
    (iblk m c 0 t : Vec F S1x480x3584 .fp8e4m3) (ix3 0 r x) = (V m c (Pipeline.arrRef spec0 0) : Vec F S8x480x3584 .fp8e4m3) (ix3 i r x) := by
  obtain ⟨e0, e1, e2⟩ := idx0 t
  show (V m c (Pipeline.arrRef spec0 0) : Vec F S8x480x3584 .fp8e4m3) (((cfg0.win 0).blk t).view.emb (ix3 (n0 := 1) (n1 := 480) (n2 := 3584) 0 r x)) = _
  refine congrArg (V m c (Pipeline.arrRef spec0 0) : Vec F S8x480x3584 .fp8e4m3) (funext fun a => Fin.ext ?_)
  match a with
  | ⟨0, _⟩ => show win0_0.index t (0 : Fin 3) * 1 + 1 * 0 = i.val; omega
  | ⟨1, _⟩ => show win0_0.index t (1 : Fin 3) * 480 + 1 * r.val = r.val; omega
  | ⟨2, _⟩ => show win0_0.index t (2 : Fin 3) * 3584 + 1 * x.val = x.val; omega
theorem idx1 : ∀ t : Fin cfg0.N, win0_1.index t (0 : Fin 3) = t.val / 24 ∧ win0_1.index t (1 : Fin 3) = 0 ∧ win0_1.index t (2 : Fin 3) = 0 :=
  (by decide +kernel : ∀ t : Fin grid0.N, _)
theorem iblk1_apply (t : Fin cfg0.N) (i : Fin 8) (hi : i.val = t.val / 24) (r : Fin 480) (x : Fin 1) :
    (iblk m c 1 t : Vec F S1x480x1 .f32) (ix3 0 r x) = (V m c (Pipeline.arrRef spec0 1) : Vec F S8x480x1 .f32) (ix3 i r x) := by
  obtain ⟨e0, e1, e2⟩ := idx1 t
  show (V m c (Pipeline.arrRef spec0 1) : Vec F S8x480x1 .f32) (((cfg0.win 1).blk t).view.emb (ix3 (n0 := 1) (n1 := 480) (n2 := 1) 0 r x)) = _
  refine congrArg (V m c (Pipeline.arrRef spec0 1) : Vec F S8x480x1 .f32) (funext fun a => Fin.ext ?_)
  match a with
  | ⟨0, _⟩ => show win0_1.index t (0 : Fin 3) * 1 + 1 * 0 = i.val; omega
  | ⟨1, _⟩ => show win0_1.index t (1 : Fin 3) * 480 + 1 * r.val = r.val; omega
  | ⟨2, _⟩ => show win0_1.index t (2 : Fin 3) * 1 + 1 * x.val = x.val; omega
theorem idx2 : ∀ t : Fin cfg0.N, win0_2.index t (0 : Fin 2) = 0 ∧ win0_2.index t (1 : Fin 2) = t.val % 24 :=
  (by decide +kernel : ∀ t : Fin grid0.N, _)
theorem iblk2_apply (t : Fin cfg0.N) (x : Fin 3584) (q : Fin 512) (n : Fin 12288) (hn : n.val = 512 * (t.val % 24) + q.val) :
    (iblk m c 2 t : Vec F S3584x512 .fp8e4m3) (ix2 x q) = (V m c (Pipeline.arrRef spec0 2) : Vec F S3584x12288 .fp8e4m3) (ix2 x n) := by
  obtain ⟨e0, e1⟩ := idx2 t
  show (V m c (Pipeline.arrRef spec0 2) : Vec F S3584x12288 .fp8e4m3) (((cfg0.win 2).blk t).view.emb (ix2 (n0 := 3584) (n1 := 512) x q)) = _
  refine congrArg (V m c (Pipeline.arrRef spec0 2) : Vec F S3584x12288 .fp8e4m3) (funext fun a => Fin.ext ?_)
  match a with
  | ⟨0, _⟩ => show win0_2.index t (0 : Fin 2) * 3584 + 1 * x.val = x.val; omega
  | ⟨1, _⟩ => show win0_2.index t (1 : Fin 2) * 512 + 1 * q.val = n.val; omega
theorem idx3 : ∀ t : Fin cfg0.N, win0_3.index t (0 : Fin 2) = 0 ∧ win0_3.index t (1 : Fin 2) = t.val % 24 :=
  (by decide +kernel : ∀ t : Fin grid0.N, _)
theorem iblk3_apply (t : Fin cfg0.N) (x : Fin 1) (q : Fin 512) (n : Fin 12288) (hn : n.val = 512 * (t.val % 24) + q.val) :
    (iblk m c 3 t : Vec F S1x512 .f32) (ix2 x q) = (V m c (Pipeline.arrRef spec0 3) : Vec F S1x12288 .f32) (ix2 x n) := by
  obtain ⟨e0, e1⟩ := idx3 t
  show (V m c (Pipeline.arrRef spec0 3) : Vec F S1x12288 .f32) (((cfg0.win 3).blk t).view.emb (ix2 (n0 := 1) (n1 := 512) x q)) = _
  refine congrArg (V m c (Pipeline.arrRef spec0 3) : Vec F S1x12288 .f32) (funext fun a => Fin.ext ?_)
  match a with
  | ⟨0, _⟩ => show win0_3.index t (0 : Fin 2) * 1 + 1 * x.val = x.val; omega
  | ⟨1, _⟩ => show win0_3.index t (1 : Fin 2) * 512 + 1 * q.val = n.val; omega
theorem idx4 : ∀ t : Fin cfg0.N, win0_4.index t (0 : Fin 3) = t.val / 24 ∧ win0_4.index t (1 : Fin 3) = 0 ∧ win0_4.index t (2 : Fin 3) = t.val % 24 :=
  (by decide +kernel : ∀ t : Fin grid0.N, _)
theorem idx5 : ∀ t : Fin cfg0.N, win0_5.index t (0 : Fin 3) = t.val / 24 ∧ win0_5.index t (1 : Fin 3) = 0 ∧ win0_5.index t (2 : Fin 3) = 0 :=
  (by decide +kernel : ∀ t : Fin grid0.N, _)

end Blocks

/-! ## The arrays after the run -/

section Final

variable (m : (ℓ : Loc nD τ sig) → Buf (Elt Ideal) ℓ) (c : Dev nD)

/-- Row `r` of peer `i` of the scaled product, from the arrays as the region finds them. -/
def row (i : Fin 8) (r : Fin 480) (n : Fin 12288) : EReal :=
  scaled (fun x : Fin 3584 => (V m c (Pipeline.arrRef spec0 0) : Vec Ideal S8x480x3584 .fp8e4m3) (ix3 i r x)) (fun x => (V m c (Pipeline.arrRef spec0 2) : Vec Ideal S3584x12288 .fp8e4m3) (ix2 x n))
    ((V m c (Pipeline.arrRef spec0 1) : Vec Ideal S8x480x1 .f32) (ix3 i r 0)) ((V m c (Pipeline.arrRef spec0 3) : Vec Ideal S1x12288 .f32) (ix2 0 n))

/-- The tile of point `t`. -/
def tile (t : Fin cfg0.N) : Vec Ideal S480x512 .f32 := k0_pay3 (iblk m c 0 t) (iblk m c 2 t) (iblk m c 1 t) (iblk m c 3 t)

/-- Entry `p` of the tile of point `t` is entry `512 (t mod 24) + p` of the row. -/
theorem tile_eq (t : Fin cfg0.N) (i : Fin 8) (hi : i.val = t.val / 24) (r : Fin 480) (p : Fin 512) (n : Fin 12288) (hn : n.val = 512 * (t.val % 24) + p.val) :
    trow (tile m c t) r p = row m c i r n := by
  refine (tile_apply (iblk m c 0 t) (iblk m c 1 t) (iblk m c 2 t) (iblk m c 3 t) r p).trans ?_
  unfold tileAt row
  simp only [iblk0_apply m c t i hi, iblk1_apply m c t i hi, iblk2_apply m c t _ p n hn, iblk3_apply m c t _ p n hn]

/-- Group `b` of the tile of point `t` is group `4 (t mod 24) + b` of the row. -/
theorem group_eq (t : Fin cfg0.N) (i : Fin 8) (hi : i.val = t.val / 24) (r : Fin 480) (b : ℕ) (hb : 128 * b + 128 ≤ 512) (l : ℕ) (hl : 128 * l + 128 ≤ 12288) (e : l = 4 * (t.val % 24) + b) :
    group (trow (tile m c t) r) b hb = group (row m c i r) l hl := by
  funext q
  have hq := q.isLt
  exact tile_eq m c t i hi r ⟨128 * b + q.val, by omega⟩ ⟨128 * l + q.val, by omega⟩ (by show 128 * l + q.val = 512 * (t.val % 24) + (128 * b + q.val); omega)

theorem groupScale_eq (t : Fin cfg0.N) (i : Fin 8) (hi : i.val = t.val / 24) (r : Fin 480) (b : ℕ) (hb : 128 * b + 128 ≤ 512) (l : ℕ) (hl : 128 * l + 128 ≤ 12288) (e : l = 4 * (t.val % 24) + b) :
    groupScale (trow (tile m c t) r) b hb = groupScale (row m c i r) l hl :=
  congrArg (fun f => rowScale (rowMax f)) (group_eq m c t i hi r b hb l hl e)

/-- The codes the run leaves. -/
def codes : Vec Ideal S8x480x12288 .fp8e4m3 := fun y => code (row m c (y 0) (y 1) (y 2)) (groupScale (row m c (y 0) (y 1)) ((y 2).val / 128) (by have h : (y 2).val < 12288 := (y 2).isLt; omega))
/-- The scales the run leaves. -/
def scales : Vec Ideal S8x480x96 .f32 := fun y => groupScale (row m c (y 0) (y 1)) (y 2).val (by have h : (y 2).val < 96 := (y 2).isLt; omega)

theorem code_eq (t : Fin cfg0.N) (i : Fin 8) (hi : i.val = t.val / 24) (b : ℕ) (hb : 128 * b + 128 ≤ 512) (r : Fin 480) (q : Fin 128) (n : Fin 12288) (hn : n.val = 512 * (t.val % 24) + (128 * b + q.val)) :
    code (group (trow (tile m c t) r) b hb q) (groupScale (trow (tile m c t) r) b hb) = code (row m c i r n) (groupScale (row m c i r) (n.val / 128) (by have := n.isLt; omega)) := by
  have hq := q.isLt
  exact congrArg₂ code (tile_eq m c t i hi r ⟨128 * b + q.val, by omega⟩ n hn) (groupScale_eq m c t i hi r b hb _ _ (by omega))

theorem ix_block (x : S1x480x128.Idx) : x = ix3 (n0 := 1) (n1 := 480) (n2 := 128) 0 (x 1) (x 2) := by
  funext b
  match b with
  | ⟨0, _⟩ => exact Fin.ext (by have : (x 0).val < 1 := (x 0).isLt; show (x 0).val = 0; omega)
  | ⟨1, _⟩ => rfl
  | ⟨2, _⟩ => rfl

/-- Group 0's codes within the block. -/
theorem piece0_apply (t : Fin cfg0.N) (i : Fin 8) (hi : i.val = t.val / 24) (x : S1x480x128.Idx) (r : Fin 480) (n : Fin 12288) (h1 : r.val = (x 1).val) (h2 : n.val = 512 * (t.val % 24) + (128 * 0 + (x 2).val)) :
    k0_pay8 (k0_pay7 (iblk m c 0 t) (iblk m c 2 t) (iblk m c 1 t) (iblk m c 3 t)) x = code (row m c i r n) (groupScale (row m c i r) (n.val / 128) (by have := n.isLt; omega)) := by
  obtain rfl : r = x 1 := Fin.ext h1
  refine (congrArg (k0_pay8 (k0_pay7 (iblk m c 0 t) (iblk m c 2 t) (iblk m c 1 t) (iblk m c 3 t))) (ix_block x)).trans ?_
  refine (code0_apply (iblk m c 0 t) (iblk m c 1 t) (iblk m c 2 t) (iblk m c 3 t) (x 1) (x 2)).trans ?_
  exact code_eq m c t i hi 0 (by decide) (x 1) (x 2) n h2

/-- Group 1's codes within the block. -/
theorem piece1_apply (t : Fin cfg0.N) (i : Fin 8) (hi : i.val = t.val / 24) (x : S1x480x128.Idx) (r : Fin 480) (n : Fin 12288) (h1 : r.val = (x 1).val) (h2 : n.val = 512 * (t.val % 24) + (128 * 1 + (x 2).val)) :
    k0_pay11 (F := Ideal) (tile m c t) x = code (row m c i r n) (groupScale (row m c i r) (n.val / 128) (by have := n.isLt; omega)) := by
  obtain rfl : r = x 1 := Fin.ext h1
  refine (congrArg (k0_pay11 (F := Ideal) (tile m c t)) (ix_block x)).trans ?_
  refine (code1_apply (tile m c t) (x 1) (x 2)).trans ?_
  exact code_eq m c t i hi 1 (by decide) (x 1) (x 2) n h2

/-- Group 2's codes of a tile. -/
theorem code2_tile (X : Vec Ideal S480x512 .f32) (r : Fin 480) (q : Fin 128) :
    k0_pay16 (F := Ideal) (k0_pay13 (F := Ideal) X) (k0_pay14 (F := Ideal) X) (ix3 0 r q) = code (group (trow X r) 2 (by decide) q) (groupScale (trow X r) 2 (by decide)) := by
  rw [code2_apply r q (k0_pay13 (F := Ideal) X) (k0_pay14 (F := Ideal) X), slice2_apply, max2_apply]
  rfl

/-- Group 2's codes within the block. -/
theorem piece2_apply (t : Fin cfg0.N) (i : Fin 8) (hi : i.val = t.val / 24) (x : S1x480x128.Idx) (r : Fin 480) (n : Fin 12288) (h1 : r.val = (x 1).val) (h2 : n.val = 512 * (t.val % 24) + (128 * 2 + (x 2).val)) :
    k0_pay16 (F := Ideal) (k0_pay13 (tile m c t)) (k0_pay14 (tile m c t)) x = code (row m c i r n) (groupScale (row m c i r) (n.val / 128) (by have := n.isLt; omega)) := by
  obtain rfl : r = x 1 := Fin.ext h1
  refine (congrArg (k0_pay16 (F := Ideal) (k0_pay13 (tile m c t)) (k0_pay14 (tile m c t))) (ix_block x)).trans ?_
  refine (code2_tile (tile m c t) (x 1) (x 2)).trans ?_
  exact code_eq m c t i hi 2 (by decide) (x 1) (x 2) n h2

/-- Group 3's codes within the block. -/
theorem piece3_apply (t : Fin cfg0.N) (i : Fin 8) (hi : i.val = t.val / 24) (x : S1x480x128.Idx) (r : Fin 480) (n : Fin 12288) (h1 : r.val = (x 1).val) (h2 : n.val = 512 * (t.val % 24) + (128 * 3 + (x 2).val)) :
    k0_pay1 (F := Ideal) (Scalar.ofBits .f32 0x43E00000#32) (k0_pay20 (tile m c t)) x = code (row m c i r n) (groupScale (row m c i r) (n.val / 128) (by have := n.isLt; omega)) := by
  obtain rfl : r = x 1 := Fin.ext h1
  refine (congrArg (k0_pay1 (F := Ideal) (Scalar.ofBits .f32 0x43E00000#32) (k0_pay20 (tile m c t))) (ix_block x)).trans ?_
  refine (code3_apply (tile m c t) (x 1) (x 2)).trans ?_
  exact code_eq m c t i hi 3 (by decide) (x 1) (x 2) n h2

/-- The block of codes of a point, at an index. -/
theorem blk4_apply (t : Fin cfg0.N) (i : Fin 8) (hi : i.val = t.val / 24) (y : S1x480x512.Idx) (n : Fin 12288) (hn : n.val = 512 * (t.val % 24) + (y 2).val) :
    blk4 m c t y = code (row m c i (y 1) n) (groupScale (row m c i (y 1)) (n.val / 128) (by have := n.isLt; omega)) := by
  unfold blk4 pieces4
  canon_tiles x h using pieces4_cover (iblk m c 0 t) (iblk m c 1 t) (iblk m c 2 t) (iblk m c 3 t) y
  · exact piece3_apply m c t i hi x (y 1) n (by omega) (by omega)
  · exact piece2_apply m c t i hi x (y 1) n (by omega) (by omega)
  · exact piece1_apply m c t i hi x (y 1) n (by omega) (by omega)
  · exact piece0_apply m c t i hi x (y 1) n (by omega) (by omega)

/-- What a point leaves in the scales' block: the scales of the groups of its own and of the peer's earlier tiles. -/
theorem leaves5 : ∀ (k : ℕ) (t : Fin cfg0.N) (i : Fin 8) (X : S1x480x96.Idx → EReal), t.val = k → i.val = t.val / 24 → (rdat m c).Leaves 5 t X →
    ∀ (r : Fin 480) (l : Fin 96), l.val < 4 * (t.val % 24 + 1) → X (ix3 0 r l) = groupScale (row m c i r) l.val (by have := l.isLt; omega) := by
  intro k
  induction k with
  | zero =>
    rintro t i X ht hi ⟨Y, hF, hA⟩ r l hl
    obtain rfl := (rafter0_5 m c t Y X).mp hA
    refine (out5_apply (iblk m c 0 t) (iblk m c 1 t) (iblk m c 2 t) (iblk m c 3 t) (grid0.coords t) Y (t.val % 24) (coord1 t) (by omega) r l).trans ?_
    rw [dif_pos (by omega)]
    exact groupScale_eq m c t i hi r _ _ _ _ (by omega)
  | succ k ih =>
    rintro t i X ht hi ⟨Y, hF, hA⟩ r l hl
    obtain rfl := (rafter0_5 m c t Y X).mp hA
    refine (out5_apply (iblk m c 0 t) (iblk m c 1 t) (iblk m c 2 t) (iblk m c 3 t) (grid0.coords t) Y (t.val % 24) (coord1 t) (by omega) r l).trans ?_
    by_cases h : 4 * (t.val % 24) ≤ l.val ∧ l.val < 4 * (t.val % 24) + 4
    · rw [dif_pos h]
      exact groupScale_eq m c t i hi r _ _ _ _ (by omega)
    · rw [dif_neg h]
      rcases ((rdat m c).finds_of_pos (w := 5) (t := t) rfl (by omega) Y).mp hF with hf | hL
      · have := (flush0_5 _).mp hf
        have h' : (t.val - 1) % 24 = 23 := this
        omega
      · have ht1 : (⟨t.val - 1, Nat.lt_of_le_of_lt (Nat.sub_le _ _) t.isLt⟩ : Fin cfg0.N).val = t.val - 1 := rfl
        exact ih ⟨t.val - 1, Nat.lt_of_le_of_lt (Nat.sub_le _ _) t.isLt⟩ i Y (by omega) (by omega) hL r l (by omega)

variable (after : (w' : Fin cfg0.W) → Fin cfg0.N → (cfg0.win w').block.Idx → Elt Ideal (cfg0.win w').elt)
  (hafter : ∀ (w : Fin cfg0.W) (u : Fin cfg0.N), (cfg0.win w).flush u = true → (rdat m c).Leaves w u (after w u))

theorem emb4_val (t : Fin cfg0.N) (y : S1x480x512.Idx) :
    ((((cfg0.win 4).blk t).view.emb y : S8x480x12288.Idx) (0 : Fin 3)).val = t.val / 24 ∧ (((cfg0.win 4).blk t).view.emb y : S8x480x12288.Idx) (1 : Fin 3) = y 1 ∧ ((((cfg0.win 4).blk t).view.emb y : S8x480x12288.Idx) (2 : Fin 3)).val = 512 * (t.val % 24) + (y 2).val := by
  obtain ⟨e0, e1, e2⟩ := idx4 t
  have h0 : (y 0).val < 1 := (y 0).isLt
  refine ⟨?_, Fin.ext ?_, ?_⟩
  · show win0_4.index t (0 : Fin 3) * 1 + 1 * (y 0).val = t.val / 24; omega
  · show win0_4.index t (1 : Fin 3) * 480 + 1 * (y 1).val = (y 1).val; omega
  · show win0_4.index t (2 : Fin 3) * 512 + 1 * (y 2).val = 512 * (t.val % 24) + (y 2).val; omega

include hafter in
/-- What a point writes back is its block of `codes`. -/
theorem flushed4_eq (t : Fin cfg0.N) : ((rdat m c).withAfter after).flushed 4 t = ((cfg0.win 4).blk t).view.read (Elt Ideal) (codes m c) := by
  show (cfg0.win 4).cut (grid0.coords t) (after 4 t) = _
  obtain ⟨Y, -, hA⟩ := hafter 4 t (flush0_4 t)
  rw [(rafter0_4 m c t Y _).mp hA]
  funext y
  obtain ⟨e0, e1, e2⟩ := emb4_val t y
  have ht : t.val < 192 := lt_of_lt_of_eq t.isLt (show cfg0.N = 192 from N_0)
  show blk4 m c t y = codes m c (((cfg0.win 4).blk t).view.emb y)
  refine (blk4_apply m c t ⟨t.val / 24, by omega⟩ rfl y ((((cfg0.win 4).blk t).view.emb y : S8x480x12288.Idx) (2 : Fin 3)) e2).trans ?_
  unfold codes
  simp only [e1, show (((cfg0.win 4).blk t).view.emb y : S8x480x12288.Idx) (0 : Fin 3) = (⟨t.val / 24, by omega⟩ : Fin 8) from Fin.ext e0]

/-- Every index of the array is in some block written back. -/
theorem covered4 (i : S8x480x12288.Idx) : ∃ t : Fin cfg0.N, (cfg0.win 4).flush t = true ∧ i ∈ ((cfg0.win 4).blk t).view.set := by
  have h0 : (i 0).val < 8 := (i 0).isLt
  have h2 : (i 2).val < 12288 := (i 2).isLt
  obtain ⟨t, ht⟩ : ∃ t : Fin cfg0.N, t.val = 24 * (i 0).val + (i 2).val / 512 :=
    ⟨⟨24 * (i 0).val + (i 2).val / 512, lt_of_lt_of_eq (by omega : _ < 192) (show 192 = cfg0.N from N_0.symm)⟩, rfl⟩
  refine ⟨t, flush0_4 _, ?_⟩
  have h := ((cfg0.win 4).blk t).view.emb_mem_set (ix3 (n0 := 1) (n1 := 480) (n2 := 512) 0 (i 1) ⟨(i 2).val % 512, by omega⟩)
  obtain ⟨e0, e1, e2⟩ := emb4_val t (ix3 (n0 := 1) (n1 := 480) (n2 := 512) 0 (i 1) ⟨(i 2).val % 512, by omega⟩)
  have e : (((cfg0.win 4).blk t).view.emb (ix3 (n0 := 1) (n1 := 480) (n2 := 512) 0 (i 1) ⟨(i 2).val % 512, by omega⟩) : S8x480x12288.Idx) = i := by
    funext a
    match a with
    | ⟨0, _⟩ => exact Fin.ext (e0.trans (by show t.val / 24 = (i 0).val; omega))
    | ⟨1, _⟩ => exact e1
    | ⟨2, _⟩ => exact Fin.ext (e2.trans (by show 512 * (t.val % 24) + (i 2).val % 512 = (i 2).val; omega))
  rwa [e] at h

include hafter in
/-- The array after the run. -/
theorem final4 : ((rdat m c).withAfter after).arrAt 4 cfg0.N = codes m c :=
  ((rdat m c).withAfter after).arrAt_eq_of_cover 4 (codes m c) (fun t _ => flushed4_eq m c after hafter t) covered4

theorem emb5_val (t : Fin cfg0.N) (y : S1x480x96.Idx) :
    ((((cfg0.win 5).blk t).view.emb y : S8x480x96.Idx) (0 : Fin 3)).val = t.val / 24 ∧ (((cfg0.win 5).blk t).view.emb y : S8x480x96.Idx) (1 : Fin 3) = y 1 ∧ (((cfg0.win 5).blk t).view.emb y : S8x480x96.Idx) (2 : Fin 3) = y 2 := by
  obtain ⟨e0, e1, e2⟩ := idx5 t
  have h0 : (y 0).val < 1 := (y 0).isLt
  refine ⟨?_, Fin.ext ?_, Fin.ext ?_⟩
  · show win0_5.index t (0 : Fin 3) * 1 + 1 * (y 0).val = t.val / 24; omega
  · show win0_5.index t (1 : Fin 3) * 480 + 1 * (y 1).val = (y 1).val; omega
  · show win0_5.index t (2 : Fin 3) * 96 + 1 * (y 2).val = (y 2).val; omega

include hafter in
/-- What a peer's last point writes back is its block of `scales`. -/
theorem flushed5_eq (t : Fin cfg0.N) (hf : (cfg0.win 5).flush t = true) : ((rdat m c).withAfter after).flushed 5 t = ((cfg0.win 5).blk t).view.read (Elt Ideal) (scales m c) := by
  have ht : t.val < 192 := lt_of_lt_of_eq t.isLt (show cfg0.N = 192 from N_0)
  have hl := leaves5 m c t.val t ⟨t.val / 24, by omega⟩ (after 5 t) rfl rfl (hafter 5 t hf)
  have h23 := (flush0_5 t).mp hf
  funext y
  obtain ⟨e0, e1, e2⟩ := emb5_val t y
  have h2 : (y 2).val < 96 := (y 2).isLt
  have hy : y = ix3 (n0 := 1) (n1 := 480) (n2 := 96) 0 (y 1) (y 2) := by
    funext b
    match b with
    | ⟨0, _⟩ => exact Fin.ext (by have : (y 0).val < 1 := (y 0).isLt; show (y 0).val = 0; omega)
    | ⟨1, _⟩ => rfl
    | ⟨2, _⟩ => rfl
  show (after 5 t : S1x480x96.Idx → EReal) y = scales m c (((cfg0.win 5).blk t).view.emb y)
  refine (congrArg (after 5 t : S1x480x96.Idx → EReal) hy).trans ((hl (y 1) (y 2) (by omega)).trans ?_)
  unfold scales
  simp only [e1, e2, show (((cfg0.win 5).blk t).view.emb y : S8x480x96.Idx) (0 : Fin 3) = (⟨t.val / 24, by omega⟩ : Fin 8) from Fin.ext e0]

/-- Every index of the array is in some block written back. -/
theorem covered5 (i : S8x480x96.Idx) : ∃ t : Fin cfg0.N, (cfg0.win 5).flush t = true ∧ i ∈ ((cfg0.win 5).blk t).view.set := by
  have h0 : (i 0).val < 8 := (i 0).isLt
  obtain ⟨t, ht⟩ : ∃ t : Fin cfg0.N, t.val = 24 * (i 0).val + 23 :=
    ⟨⟨24 * (i 0).val + 23, lt_of_lt_of_eq (by omega : _ < 192) (show 192 = cfg0.N from N_0.symm)⟩, rfl⟩
  refine ⟨t, (flush0_5 _).mpr (by omega), ?_⟩
  have h := ((cfg0.win 5).blk t).view.emb_mem_set (ix3 (n0 := 1) (n1 := 480) (n2 := 96) 0 (i 1) (i 2))
  obtain ⟨e0, e1, e2⟩ := emb5_val t (ix3 (n0 := 1) (n1 := 480) (n2 := 96) 0 (i 1) (i 2))
  have e : (((cfg0.win 5).blk t).view.emb (ix3 (n0 := 1) (n1 := 480) (n2 := 96) 0 (i 1) (i 2)) : S8x480x96.Idx) = i := by
    funext a
    match a with
    | ⟨0, _⟩ => exact Fin.ext (e0.trans (by show t.val / 24 = (i 0).val; omega))
    | ⟨1, _⟩ => exact e1
    | ⟨2, _⟩ => exact e2
  rwa [e] at h

include hafter in
/-- The array after the run. -/
theorem final5 : ((rdat m c).withAfter after).arrAt 5 cfg0.N = scales m c :=
  ((rdat m c).withAfter after).arrAt_eq_of_cover 5 (scales m c) (fun t hf => flushed5_eq m c after hafter t hf) covered5

end Final

end Cert.DownIdeal.Down
-- ==== Proof.Down.RefMath.lean ====
module

public import proofs.«01_k».proof.Proof.Down.Spec
public import proofs.«01_k».proof.Proof.Gen.DownReferenceIdeal.Value

@[expose] public section

set_option maxRecDepth 16384

noncomputable section

namespace Cert.DownReferenceIdeal.Down

open Cert.DownReferenceIdeal Cert.DownReferenceIdeal.Gen Idealize.ShloMosaic Idealize.ShloMosaic.TcCoe
open Cert.Rows

/-- The scale as the two programs compute it. -/
theorem rowScale_eq (a : EReal) : Scalar.select (FloatOps.cmpf (F := Ideal) (φ := .f32) .oeq a (Scalar.ofBits .f32 0x00000000#32)) (Scalar.ofBits (F := Ideal) .f32 0x3F800000#32) (FloatOps.divf (F := Ideal) (φ := .f32) a (Scalar.ofBits .f32 0x43E00000#32)) = rowScale a := by
  unfold rowScale
  pointwise

/-- The largest magnitude of every group. -/
def magMax {F : FTy → Type} [FloatOps F] (X : Vec F S8x480x96x128 .f32) : Vec F S8x480x96 .f32 :=
  multiReduction .maximumf [3] S8x480x96 (absf X) 0xFF800000#32 reduces_S8x480x96x128_S8x480x96 (.inl rfl) rfl

/-- The scaled product before it is cut into groups. -/
def prod {F : FTy → Type} [FloatOps F] (v0 : Vec F S8x480x3584 .fp8e4m3) (v1 : Vec F S3584x12288 .fp8e4m3) (v3 : Vec F S8x480x1 .f32) (v4 : Vec F S12288 .f32) : Vec F S8x480x12288 .f32 :=
  mulf (matmul dot_S8x480x3584_S3584x12288_S8x480x12288_2_0_01_1_n_n none v0 v1 (constant S8x480x12288 .f32 0x00000000#32))
    (mulf (broadcastTo S8x480x12288 v3 broadcasts_S8x480x1_S8x480x12288) (broadcastTo S8x480x12288 (shapeCast S1x1x12288 v4 shapeCasts_S12288_S1x1x12288) broadcasts_S1x1x12288_S8x480x12288))

/-- Cut into groups. -/
theorem cut_eq {F : FTy → Type} [FloatOps F] (v0 : Vec F S8x480x3584 .fp8e4m3) (v1 : Vec F S3584x12288 .fp8e4m3) (v3 : Vec F S8x480x1 .f32) (v4 : Vec F S12288 .f32) :
    k0_pay1 v0 v1 v3 v4 = shapeCast S8x480x96x128 (prod v0 v1 v3 v4) shapeCasts_S8x480x12288_S8x480x96x128 := rfl

/-- The cut at an index: entry `q` of group `l` is entry `128 l + q` of the row. -/
theorem cut_apply {F : FTy → Type} [FloatOps F] (X : Vec F S8x480x12288 .f32) (i : Fin 8) (r : Fin 480) (l : Fin 96) (q : Fin 128) (n : Fin 12288) (hn : n.val = 128 * l.val + q.val) :
    shapeCast S8x480x96x128 X shapeCasts_S8x480x12288_S8x480x96x128 (ix4 i r l q) = X (ix3 i r n) := by
  pointwise
  exact congrArg X (congrArg (ix3 i r) (Fin.ext (by show l.val * 128 + q.val = n.val; omega)))

/-- The groups put back together, at an index. -/
theorem join_apply {F : FTy → Type} [FloatOps F] (X : Vec F S8x480x96x128 .fp8e4m3) (i : Fin 8) (r : Fin 480) (l : Fin 96) (q : Fin 128) (n : Fin 12288) (hn : n.val = 128 * l.val + q.val) :
    shapeCast S8x480x12288 X shapeCasts_S8x480x96x128_S8x480x12288 (ix3 i r n) = X (ix4 i r l q) := by
  pointwise
  have hq := q.isLt
  exact congrArg X (congrArg₂ (ix4 i r) (Fin.ext (by show n.val / 128 = l.val; omega)) (Fin.ext (by show n.val % 128 = q.val; omega)))

/-- The reference's scale, at an index. -/
theorem scale_apply {F : FTy → Type} [FloatOps F] (v0 : Vec F S8x480x3584 .fp8e4m3) (v1 : Vec F S3584x12288 .fp8e4m3) (v3 : Vec F S8x480x1 .f32) (v4 : Vec F S12288 .f32) (i : Fin 8) (r : Fin 480) (l : Fin 96) :
   k0_pay2 v0 v1 v3 v4 (ix3 i r l) = Scalar.select (FloatOps.cmpf .oeq (magMax (k0_pay1 v0 v1 v3 v4) (ix3 i r l)) (Scalar.ofBits .f32 0x00000000#32)) (Scalar.ofBits .f32 0x3F800000#32) (FloatOps.divf (magMax (k0_pay1 v0 v1 v3 v4) (ix3 i r l)) (Scalar.ofBits .f32 0x43E00000#32)) := by
  unfold k0_pay2
  generalize k0_pay1 v0 v1 v3 v4 = X
  show _ = Scalar.select (FloatOps.cmpf .oeq (multiReduction .maximumf [3] S8x480x96 (absf X) 0xFF800000#32 reduces_S8x480x96x128_S8x480x96 (.inl rfl) rfl (ix3 i r l)) (Scalar.ofBits .f32 0x00000000#32)) (Scalar.ofBits .f32 0x3F800000#32) (FloatOps.divf (multiReduction .maximumf [3] S8x480x96 (absf X) 0xFF800000#32 reduces_S8x480x96x128_S8x480x96 (.inl rfl) rfl (ix3 i r l)) (Scalar.ofBits .f32 0x43E00000#32))
  generalize multiReduction .maximumf [3] S8x480x96 (absf X) 0xFF800000#32 reduces_S8x480x96x128_S8x480x96 (.inl rfl) rfl = M
  rfl

/-- The reference's codes before the groups are put back together. -/
def blockCodes {F : FTy → Type} [FloatOps F] (X : Vec F S8x480x96x128 .f32) (Y : Vec F S8x480x96 .f32) : Vec F S8x480x96x128 .fp8e4m3 :=
  truncf .fp8e4m3 (minimumf (broadcast S8x480x96x128 (Scalar.ofBits .f32 0x43E00000#32)) (maximumf (broadcast S8x480x96x128 (Scalar.ofBits .f32 0xC3E00000#32))
    (divf X (broadcastTo S8x480x96x128 (shapeCast S8x480x96x1 Y shapeCasts_S8x480x96_S8x480x96x1) broadcasts_S8x480x96x1_S8x480x96x128)))) bitsLt_fp8e4m3_f32

theorem codes_eq {F : FTy → Type} [FloatOps F] (v0 : Vec F S8x480x3584 .fp8e4m3) (v1 : Vec F S3584x12288 .fp8e4m3) (v3 : Vec F S8x480x1 .f32) (v4 : Vec F S12288 .f32) :
    k0_pay3 v0 v1 v3 v4 = shapeCast S8x480x12288 (blockCodes (k0_pay1 v0 v1 v3 v4) (k0_pay2 v0 v1 v3 v4)) shapeCasts_S8x480x96x128_S8x480x12288 := rfl

/-- One code, at an index. -/
theorem blockCodes_apply {F : FTy → Type} [FloatOps F] (X : Vec F S8x480x96x128 .f32) (Y : Vec F S8x480x96 .f32) (i : Fin 8) (r : Fin 480) (l : Fin 96) (q : Fin 128) :
   blockCodes X Y (ix4 i r l q) = FloatOps.truncf .fp8e4m3 bitsLt_fp8e4m3_f32 (FloatOps.minimumf (Scalar.ofBits .f32 0x43E00000#32) (FloatOps.maximumf (Scalar.ofBits .f32 0xC3E00000#32) (FloatOps.divf (X (ix4 i r l q)) (Y (ix3 i r l))))) := by
  have e : broadcastTo S8x480x96x128 (shapeCast S8x480x96x1 Y shapeCasts_S8x480x96_S8x480x96x1) broadcasts_S8x480x96x1_S8x480x96x128 (ix4 i r l q) = Y (ix3 i r l) := by pointwise
  rw [← e]
  rfl

section Ideal

variable (a0 : Vec Ideal S8x480x3584 .fp8e4m3) (a1 : Vec Ideal S8x480x1 .f32) (a2 : Vec Ideal S3584x12288 .fp8e4m3) (a3 : Vec Ideal S12288 .f32)

/-- Row `r` of peer `i` of the scaled product. -/
def row (i : Fin 8) (r : Fin 480) (n : Fin 12288) : EReal :=
  scaled (fun x : Fin 3584 => a0 (ix3 i r x)) (fun x => a2 (ix2 x n)) (a1 (ix3 i r 0)) (a3 (ix1 n))

/-- The reference's scaled product, at an index. -/
theorem prod_apply (i : Fin 8) (r : Fin 480) (n : Fin 12288) : prod a0 a2 a1 a3 (ix3 i r n) = row a0 a1 a2 a3 i r n := by
  unfold row scaled
  pointwise [prod, dot_S8x480x3584_S3584x12288_S8x480x12288_2_0_01_1_n_n]

theorem pay1_apply (i : Fin 8) (r : Fin 480) (l : Fin 96) (q : Fin 128) :
    k0_pay1 a0 a2 a1 a3 (ix4 i r l q) = group (row a0 a1 a2 a3 i r) l.val (by have := l.isLt; omega) q := by
  refine (congrFun (cut_eq a0 a2 a1 a3) _).trans ?_
  refine (cut_apply (prod a0 a2 a1 a3) i r l q ⟨128 * l.val + q.val, by have := l.isLt; have := q.isLt; omega⟩ rfl).trans ?_
  exact prod_apply a0 a1 a2 a3 i r _

/-- The groups' maxima, at an index. -/
theorem max_apply (X : Vec Ideal S8x480x96x128 .f32) (i : Fin 8) (r : Fin 480) (l : Fin 96) :
    magMax (F := Ideal) X (ix3 i r l) = rowMax (fun q : Fin 128 => X (ix4 i r l q)) := by
  unfold rowMax magMax
  pointwise

/-- The reference's scales, at an index. -/
theorem G5_apply (i : Fin 8) (r : Fin 480) (l : Fin 96) :
    Value.G5 a0 a1 a2 a3 (ix3 i r l) = groupScale (row a0 a1 a2 a3 i r) l.val (by have := l.isLt; omega) := by
  show k0_pay2 a0 a2 a1 a3 (ix3 i r l) = _
  rw [scale_apply, rowScale_eq, max_apply]
  exact congrArg (fun f => rowScale (rowMax f)) (funext fun q => pay1_apply a0 a1 a2 a3 i r l q)

/-- The reference's codes, at an index. -/
theorem G4_apply (i : Fin 8) (r : Fin 480) (n : Fin 12288) :
    Value.G4 a0 a1 a2 a3 (ix3 i r n) = code (row a0 a1 a2 a3 i r n) (groupScale (row a0 a1 a2 a3 i r) (n.val / 128) (by have := n.isLt; omega)) := by
  show k0_pay3 a0 a2 a1 a3 (ix3 i r n) = _
  have hn := n.isLt
  refine (congrFun (codes_eq a0 a2 a1 a3) _).trans ?_
  refine (join_apply _ i r ⟨n.val / 128, by omega⟩ ⟨n.val % 128, by omega⟩ n (by show n.val = 128 * (n.val / 128) + n.val % 128; omega)).trans ?_
  refine (blockCodes_apply _ _ i r _ _).trans ?_
  refine congrArg₂ code ((pay1_apply a0 a1 a2 a3 i r _ _).trans ?_) (G5_apply a0 a1 a2 a3 i r _)
  show row a0 a1 a2 a3 i r ⟨128 * (n.val / 128) + n.val % 128, _⟩ = _
  exact congrArg (row a0 a1 a2 a3 i r) (Fin.ext (by show 128 * (n.val / 128) + n.val % 128 = n.val; omega))

end Ideal

end Cert.DownReferenceIdeal.Down
-- ==== Proof.Down.Equal.lean ====
module

public import proofs.«01_k».proof.Proof.Down.Math
public import proofs.«01_k».proof.Proof.Down.RefMath
public import Idealize.ShloMosaic.Lib.ValueLayout

@[expose] public section

set_option maxRecDepth 16384

noncomputable section

namespace Cert.DownIdeal.Down

open Cert.DownIdeal Cert.DownIdeal.Gen Idealize.ShloMosaic Idealize.ShloMosaic.TcCoe
open Idealize.SL.Sem

variable (m : (ℓ : Loc nD τ sig) → Buf (Elt Ideal) ℓ) (c : Dev nD)

/-- The column scales of the weight matrix, as the region finds them. -/
theorem V_main_v0 (n : Fin 12288) :
    (Gen.V m c main_v0 : Vec Ideal S1x12288 .f32) (ix2 0 n) = (m ((c : Thread nD τ).loc main_arg3) : Vec Ideal S12288 .f32) (ix1 n) := by
  have h : (Gen.V m c main_v0 : Vec Ideal S1x12288 .f32) = shapeCast S1x12288 (m ((c : Thread nD τ).loc main_arg3) : Vec Ideal S12288 .f32) shapeCasts_S12288_S1x12288 := by
    show StableHlo.after hostOps0 (fun b => m (c, b)) (main_v0 : DevRef τ sig) = _
    rw [StableHlo.after_cons, StableHlo.after_nil, StableHlo.reshape_result]
    rfl
  rw [h]
  exact ValueIdx.shapeCast_a_1a_apply _ _ _ _

/-- The two programs' rows of the scaled product agree. -/
theorem row_eq (i : Fin 8) (r : Fin 480) : row m c i r = Cert.DownReferenceIdeal.Down.row (m ((c : Thread nD τ).loc main_arg0)) (m ((c : Thread nD τ).loc main_arg1)) (m ((c : Thread nD τ).loc main_arg2)) (m ((c : Thread nD τ).loc main_arg3)) i r := by
  funext n
  exact Cert.Rows.scaled_congr (funext fun x => congrFun (V_main_arg0 m c) (ix3 i r x)) (funext fun x => congrFun (V_main_arg2 m c) (ix2 x n))
    (congrFun (V_main_arg1 m c) (ix3 i r 0)) (V_main_v0 m c n)

/-- The kernel's codes are the reference's. -/
theorem codes_eq : codes m c = Cert.DownReferenceIdeal.Value.G4 (m ((c : Thread nD τ).loc main_arg0)) (m ((c : Thread nD τ).loc main_arg1)) (m ((c : Thread nD τ).loc main_arg2)) (m ((c : Thread nD τ).loc main_arg3)) := by
  funext y
  have hy : y = ix3 (n0 := 8) (n1 := 480) (n2 := 12288) (y 0) (y 1) (y 2) := by
    funext b
    match b with
    | ⟨0, _⟩ => rfl
    | ⟨1, _⟩ => rfl
    | ⟨2, _⟩ => rfl
  refine Eq.trans ?_ ((Cert.DownReferenceIdeal.Down.G4_apply (m ((c : Thread nD τ).loc main_arg0)) (m ((c : Thread nD τ).loc main_arg1)) (m ((c : Thread nD τ).loc main_arg2)) (m ((c : Thread nD τ).loc main_arg3)) (y 0) (y 1) (y 2)).symm.trans (congrArg (Cert.DownReferenceIdeal.Value.G4 (F := Ideal) (m ((c : Thread nD τ).loc main_arg0)) (m ((c : Thread nD τ).loc main_arg1)) (m ((c : Thread nD τ).loc main_arg2)) (m ((c : Thread nD τ).loc main_arg3))) hy.symm))
  exact congrArg (fun f : Fin 12288 → EReal => Cert.Rows.code (f (y 2)) (Cert.Rows.groupScale f ((y 2).val / 128) (by have h : (y 2).val < 12288 := (y 2).isLt; omega))) (row_eq m c (y 0) (y 1))

/-- The kernel's scales are the reference's. -/
theorem scales_eq : scales m c = Cert.DownReferenceIdeal.Value.G5 (m ((c : Thread nD τ).loc main_arg0)) (m ((c : Thread nD τ).loc main_arg1)) (m ((c : Thread nD τ).loc main_arg2)) (m ((c : Thread nD τ).loc main_arg3)) := by
  funext y
  have hy : y = ix3 (n0 := 8) (n1 := 480) (n2 := 96) (y 0) (y 1) (y 2) := by
    funext b
    match b with
    | ⟨0, _⟩ => rfl
    | ⟨1, _⟩ => rfl
    | ⟨2, _⟩ => rfl
  refine Eq.trans ?_ ((Cert.DownReferenceIdeal.Down.G5_apply (m ((c : Thread nD τ).loc main_arg0)) (m ((c : Thread nD τ).loc main_arg1)) (m ((c : Thread nD τ).loc main_arg2)) (m ((c : Thread nD τ).loc main_arg3)) (y 0) (y 1) (y 2)).symm.trans (congrArg (Cert.DownReferenceIdeal.Value.G5 (F := Ideal) (m ((c : Thread nD τ).loc main_arg0)) (m ((c : Thread nD τ).loc main_arg1)) (m ((c : Thread nD τ).loc main_arg2)) (m ((c : Thread nD τ).loc main_arg3))) hy.symm))
  exact congrArg (fun f : Fin 12288 → EReal => Cert.Rows.groupScale f (y 2).val (by have h : (y 2).val < 96 := (y 2).isLt; omega)) (row_eq m c (y 0) (y 1))

end Cert.DownIdeal.Down
-- ==== Proof.Recv.Spec.lean ====
module

public import proofs.«01_k».proof.Proof.GateUp.Spec

@[expose] public section

noncomputable section

namespace Cert.Rows

open Idealize.ShloMosaic

/-! The mathematics of one row of the receiving call over the extended reals, shared by the two programs. -/

/-- One entry of the received sum: the eight peers' codes times their scales, plus the residual. -/
def received (x : EReal) (c s : Fin 8 → EReal) : EReal :=
  c 0 * s 0 + c 1 * s 1 + c 2 * s 2 + c 3 * s 3 + c 4 * s 4 + c 5 * s 5 + c 6 * s 6 + c 7 * s 7 + x

/-- The root of a row's mean square. -/
def root (f : Fin 12288 → EReal) : EReal :=
  Ideal.sqrt (Ideal.div (∑ n, f n * f n) (Ideal.ofBits .f32 0x46400000#32) + Ideal.ofBits .f32 0x3727C5AC#32)

/-- An entry of the normed row. -/
def normed (f g : Fin 12288 → EReal) (n : Fin 12288) : EReal := Ideal.div (f n) (root f) * g n

theorem sq_nonneg' (x : EReal) : 0 ≤ x * x := by
  rcases le_total 0 x with h | h
  · exact mul_nonneg h h
  · rw [← neg_mul_neg]
    exact mul_nonneg (EReal.neg_nonneg.mpr h) (EReal.neg_nonneg.mpr h)

theorem ofBits_12288 : Ideal.ofBits .f32 0x46400000#32 = ((12288 : ℝ) : EReal) := by
  simp [Ideal.ofBits, Ideal.ieee]
  rw [← EReal.coe_mul]
  norm_num

theorem ofBits_eps : 0 < Ideal.ofBits .f32 0x3727C5AC#32 := by
  simp [Ideal.ofBits, Ideal.ieee]
  rw [← EReal.coe_mul]
  exact_mod_cast (by norm_num)

theorem root_ne (f : Fin 12288 → EReal) : root f ≠ 0 := by
  unfold root
  have hs : 0 ≤ ∑ n, f n * f n := Finset.sum_nonneg fun n _ => sq_nonneg' (f n)
  have hd : 0 ≤ Ideal.div (∑ n, f n * f n) (Ideal.ofBits .f32 0x46400000#32) := by
    rw [ofBits_12288, Ideal.div_coe (by norm_num)]
    exact mul_nonneg hs (by exact_mod_cast (by norm_num : (0 : ℝ) ≤ 1 / 12288))
  have ht : 0 < Ideal.div (∑ n, f n * f n) (Ideal.ofBits .f32 0x46400000#32) + Ideal.ofBits .f32 0x3727C5AC#32 :=
    lt_of_lt_of_le ofBits_eps (le_add_of_nonneg_left hd)
  generalize Ideal.div (∑ n, f n * f n) (Ideal.ofBits .f32 0x46400000#32) + Ideal.ofBits .f32 0x3727C5AC#32 = t at ht ⊢
  induction t using EReal.rec with
  | bot => exact absurd ht (by simp)
  | top => show (⊤ : EReal) ≠ 0; simp
  | coe r =>
    have hr : 0 < r := by exact_mod_cast ht
    show (if r < 0 then (⊥ : EReal) else (Real.sqrt r : EReal)) ≠ 0
    rw [if_neg (not_lt.mpr hr.le)]
    exact_mod_cast (Real.sqrt_pos.mpr hr).ne'

/-- Multiplying by the root's reciprocal is dividing by the root. -/
theorem mul_root (v : EReal) (f : Fin 12288 → EReal) : v * Ideal.div 1 (root f) = Ideal.div v (root f) := by
  have h := root_ne f
  unfold Ideal.div
  rw [if_neg h, if_neg h, one_mul]

/-- A row's sum, lane by lane over the blocks of 128. -/
theorem sum_blocks (F : Fin 12288 → EReal) (G : ℕ → Fin 128 → EReal) (hG : ∀ (n : ℕ) (q : Fin 128) (j : Fin 12288), j.val = 128 * n + q.val → G n q = F j) :
    ∑ q : Fin 128, ∑ n ∈ Finset.range 96, G n q = ∑ j, F j := by
  have e : ∑ j : Fin 12288, F j = ∑ p : Fin 96 × Fin 128, F (finProdFinEquiv p) := (Equiv.sum_comp (finProdFinEquiv (m := 96) (n := 128)) F).symm
  rw [e, Fintype.sum_prod_type, Finset.sum_comm, Finset.sum_range]
  refine Finset.sum_congr rfl fun n _ => Finset.sum_congr rfl fun q _ => hG _ _ _ ?_
  show q.val + 128 * n.val = 128 * n.val + q.val
  omega

theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

/-- A row's largest magnitude, lane by lane over the blocks of 128. -/
theorem rowMax_blocks (f : Fin 12288 → EReal) (A : Fin 128 → EReal)
    (hA : ∀ (q : Fin 128) (y : EReal), A q ≤ y ↔ 0 ≤ y ∧ ∀ (n : ℕ) (j : Fin 12288), n < 96 → j.val = 128 * n + q.val → FloatOps.absf (F := Ideal) (φ := .f32) (f j) ≤ y) :
    Finset.fold max (Ideal.ofBits .f32 0xFF800000#32) A Finset.univ = rowMax f := by
  refine eq_of_forall_ge_iff fun y => ?_
  rw [rowMax_le, Finset.fold_max_le]
  refine and_congr_right fun _ => ⟨fun h j => ?_, fun h q _ => ?_⟩
  · have hj := j.isLt
    exact ((hA ⟨j.val % 128, by omega⟩ y).mp (h _ (Finset.mem_univ _))).2 (j.val / 128) j (by omega) (by show j.val = 128 * (j.val / 128) + j.val % 128; omega)
  · exact (hA q y).mpr ⟨(absf_nonneg _).trans (h ⟨0, by decide⟩), fun n j _ _ => h j⟩

end Cert.Rows
-- ==== Proof.Recv.Form.lean ====
module

public import proofs.«01_k».proof.Proof.Gen.ReceiveIdeal.Frame

/-! # The receiving call's body in closed form

The body runs over 96 blocks of 128 columns three times. Here each run is a recursion on the block. -/

@[expose] public section

set_option maxRecDepth 16384

noncomputable section

namespace Cert.ReceiveIdeal.Recv

open Cert.ReceiveIdeal Cert.ReceiveIdeal.Gen Idealize.ShloMosaic Idealize.ShloMosaic.TcCoe

variable {F : FTy → Type} [FloatOps F]

/-- The first column of block `n`. -/
def off (n : ℕ) : ℕ := 128 * (n % 96)

theorem inb32 (n : ℕ) : ∀ a, (![0, off n] : Fin 2 → ℕ) a + S32x128.size a ≤ S32x12288.size a := fun a =>
  match a with
  | ⟨0, _⟩ => by show 0 + 32 ≤ 32; omega
  | ⟨1, _⟩ => by show 128 * (n % 96) + 128 ≤ 12288; omega
theorem inb1 (n : ℕ) : ∀ a, (![0, off n] : Fin 2 → ℕ) a + S1x128.size a ≤ S1x12288.size a := fun a =>
  match a with
  | ⟨0, _⟩ => by show 0 + 1 ≤ 1; omega
  | ⟨1, _⟩ => by show 128 * (n % 96) + 128 ≤ 12288; omega
theorem inb8 (k n : ℕ) : ∀ a, (![k % 8, 0, off n] : Fin 3 → ℕ) a + S1x32x128.size a ≤ S8x32x12288.size a := fun a =>
  match a with
  | ⟨0, _⟩ => by show k % 8 + 1 ≤ 8; omega
  | ⟨1, _⟩ => by show 0 + 32 ≤ 32; omega
  | ⟨2, _⟩ => by show 128 * (n % 96) + 128 ≤ 12288; omega
theorem inbs (k n : ℕ) : ∀ a, (![k % 8, 0, n % 96] : Fin 3 → ℕ) a + S1x32x1.size a ≤ S8x32x96.size a := fun a =>
  match a with
  | ⟨0, _⟩ => by show k % 8 + 1 ≤ 8; omega
  | ⟨1, _⟩ => by show 0 + 32 ≤ 32; omega
  | ⟨2, _⟩ => by show n % 96 + 1 ≤ 96; omega

/-- The columns of block `n`. -/
def rect (n : ℕ) : Rect S32x12288 := Rect.unit (s := S32x12288) ![0, off n] S32x128.size (inb32 n)

section Blocks

variable (lx : ℕ → Vec F S32x128 .bf16) (lc : ℕ → ℕ → Vec F S1x32x128 .fp8e4m3) (ls : ℕ → ℕ → Vec F S1x32x1 .f32) (lw : ℕ → Vec F S1x128 .f32)

/-- Peer `k`'s part of block `n`. -/
def term (k n : ℕ) : FVec F S32x128 .f32 :=
  mulf (extf .f32 (shapeCast S32x128 (lc k n) shapeCasts_S1x32x128_S32x128 : FVec F S32x128 .fp8e4m3) bitsLt_fp8e4m3_f32) (broadcastTo S32x128 (shapeCast S32x1 (ls k n) shapeCasts_S1x32x1_S32x1 : FVec F S32x1 .f32) broadcasts_S32x1_S32x128)

/-- The received sum on block `n`. -/
def hB (n : ℕ) : FVec F S32x128 .f32 :=
  addf (addf (addf (addf (addf (addf (addf (addf (term lc ls 0 n) (term lc ls 1 n)) (term lc ls 2 n)) (term lc ls 3 n)) (term lc ls 4 n)) (term lc ls 5 n)) (term lc ls 6 n)) (term lc ls 7 n)) (extf .f32 (lx n) bitsLt_bf16_f32)

/-- The first run's stores into the residual's block. -/
def resL : ℕ → List (View.Piece (Elt F) S32x12288 .bf16)
  | 0 => []
  | n + 1 => ⟨rect n, truncf .bf16 (hB lx lc ls n) bitsLt_bf16_f32⟩ :: resL n

/-- The first run's stores into the scratch. -/
def L1 : ℕ → List (View.Piece (Elt F) S32x12288 .f32)
  | 0 => []
  | n + 1 => ⟨rect n, shapeCast S32x128 (hB lx lc ls n) shapeCasts_S32x128_S32x128⟩ :: L1 n

/-- The sum of squares of the first `n` blocks, lane by lane. -/
def ssq : ℕ → FVec F S32x128 .f32
  | 0 => broadcast S32x128 (Scalar.ofBits .f32 0x00000000#32)
  | n + 1 => addf (ssq n) (mulf (hB lx lc ls n) (hB lx lc ls n))

/-- The reciprocal root of the mean square. -/
def inv : FVec F S32x1 .f32 :=
  divf (broadcast S32x1 (Scalar.ofBits .f32 0x3F800000#32))
    (sqrt (addf (divf (shapeCast S32x1 (multiReduction .add [1] S32 (ssq lx lc ls 96) 0x00000000#32 reduces_S32x128_S32 (.inl rfl) rfl : FVec F S32 .f32) shapeCasts_S32_S32x1) (broadcast S32x1 (Scalar.ofBits .f32 0x46400000#32))) (broadcast S32x1 (Scalar.ofBits .f32 0x3727C5AC#32))))

variable (v : View sig .tc .vmem S32x12288 .f32)

/-- The normed block, from what the scratch holds there. -/
def norm (h : Vec F S32x128 .f32) (n : ℕ) : FVec F S32x128 .f32 :=
  mulf (mulf h (broadcastTo S32x128 (inv lx lc ls) broadcasts_S32x1_S32x128)) (broadcastTo S32x128 (shapeCast S1x128 (lw n) shapeCasts_S1x128_S1x128 : FVec F S1x128 .f32) broadcasts_S1x128_S32x128)

/-- The stores into the scratch up to block `n` of the second run. -/
def L2 : ℕ → List (View.Piece (Elt F) S32x12288 .f32)
  | 0 => L1 lx lc ls 96
  | n + 1 => ⟨rect n, shapeCast S32x128 (norm lx lc ls lw (v.readCov (L2 n) (rect n).toLoadRect) n) shapeCasts_S32x128_S32x128⟩ :: L2 n

/-- The normed block `n`. -/
def vB (n : ℕ) : FVec F S32x128 .f32 := norm lx lc ls lw (v.readCov (L2 lx lc ls lw v n) (rect n).toLoadRect) n

/-- The largest magnitude of the first `n` normed blocks, lane by lane. -/
def amax : ℕ → FVec F S32x128 .f32
  | 0 => broadcast S32x128 (Scalar.ofBits .f32 0x00000000#32)
  | n + 1 => maximumf (amax n) (absf (vB lx lc ls lw v n))

/-- The rows' largest magnitudes. -/
def top : FVec F S32x1 .f32 :=
  shapeCast S32x1 (multiReduction .maximumf [1] S32 (amax lx lc ls lw v 96) 0xFF800000#32 reduces_S32x128_S32 (.inl rfl) rfl : FVec F S32 .f32) shapeCasts_S32_S32x1

/-- The rows' scales. -/
def scale : FVec F S32x1 .f32 :=
  select (cmpf .oeq (top lx lc ls lw v) (broadcast S32x1 (Scalar.ofBits .f32 0x00000000#32))) (broadcast S32x1 (Scalar.ofBits .f32 0x3F800000#32)) (divf (top lx lc ls lw v) (broadcast S32x1 (Scalar.ofBits .f32 0x43E00000#32)))

/-- Block `n`'s codes, from what the scratch holds there. -/
def quant (w : Vec F S32x128 .f32) : FVec F S32x128 .fp8e4m3 :=
  truncf .fp8e4m3 (minimumf (broadcast S32x128 (Scalar.ofBits .f32 0x43E00000#32)) (maximumf (broadcast S32x128 (Scalar.ofBits .f32 0xC3E00000#32))
    (mulf w (broadcastTo S32x128 (divf (broadcast S32x1 (Scalar.ofBits .f32 0x3F800000#32)) (scale lx lc ls lw v)) broadcasts_S32x1_S32x128)))) bitsLt_fp8e4m3_f32

/-- The third run's stores into the codes' block. -/
def codeL : ℕ → List (View.Piece (Elt F) S32x12288 .fp8e4m3)
  | 0 => []
  | n + 1 => ⟨rect n, quant lx lc ls lw v (v.readCov (L2 lx lc ls lw v 96) (rect n).toLoadRect)⟩ :: codeL n

end Blocks

section Loads

/-- The loads of the four arguments' blocks. -/
def loadX (a : Memref sig .tc .vmem S32x12288 .bf16) (h : a.IsWhole) (x : Vec F S32x12288 .bf16) (n : ℕ) : Vec F S32x128 .bf16 :=
  View.readAt (Elt F) a.view (Rect.unit (s := S32x12288) ![0, off n] S32x128.size (inb32 n)).toLoadRect (h.unread x)
def loadC (a : Memref sig .tc .vmem S8x32x12288 .fp8e4m3) (h : a.IsWhole) (x : Vec F S8x32x12288 .fp8e4m3) (k n : ℕ) : Vec F S1x32x128 .fp8e4m3 :=
  View.readAt (Elt F) a.view (Rect.unit (s := S8x32x12288) ![k % 8, 0, off n] S1x32x128.size (inb8 k n)).toLoadRect (h.unread x)
def loadS (a : Memref sig .tc .vmem S8x32x96 .f32) (h : a.IsWhole) (x : Vec F S8x32x96 .f32) (k n : ℕ) : Vec F S1x32x1 .f32 :=
  View.readAt (Elt F) a.view (Rect.unit (s := S8x32x96) ![k % 8, 0, n % 96] S1x32x1.size (inbs k n)).toLoadRect (h.unread x)
def loadW (a : Memref sig .tc .vmem S1x12288 .f32) (h : a.IsWhole) (x : Vec F S1x12288 .f32) (n : ℕ) : Vec F S1x128 .f32 :=
  View.readAt (Elt F) a.view (Rect.unit (s := S1x12288) ![0, off n] S1x128.size (inb1 n)).toLoadRect (h.unread x)

end Loads

/-- The run's stores into the residual's block. -/
theorem run_res (c : Dev nD) (i : grid0.Coords) (arg1 : Memref sig .tc .vmem S32x12288 .bf16) (harg1 : arg1.IsWhole) (arg2 : Memref sig .tc .vmem S8x32x12288 .fp8e4m3) (harg2 : arg2.IsWhole) (arg3 : Memref sig .tc .vmem S8x32x96 .f32) (harg3 : arg3.IsWhole) (arg4 : Memref sig .tc .vmem S1x12288 .f32) (harg4 : arg4.IsWhole) (arg5 : Memref sig .tc .vmem S32x12288 .bf16) (harg5 : arg5.IsWhole) (arg6 : Memref sig .tc .vmem S32x12288 .fp8e4m3) (harg6 : arg6.IsWhole) (arg7 : Memref sig .tc .vmem S32x1 .f32) (harg7 : arg7.IsWhole) (arg8 : Memref sig .tc .vmem S32x12288 .f32) (harg8 : arg8.IsWhole)
    (x0 : Vec F S32x12288 .bf16) (x1 : Vec F S8x32x12288 .fp8e4m3) (x2 : Vec F S8x32x96 .f32) (x3 : Vec F S1x12288 .f32) :
    (kernelRun0_A c i arg1 harg1 arg2 harg2 arg3 harg3 arg4 harg4 arg5 harg5 arg6 harg6 arg7 harg7 arg8 harg8 x0 x1 x2 x3).1 = resL (loadX arg1 harg1 x0) (loadC arg2 harg2 x1) (loadS arg3 harg3 x2) 96 := by
  sl_kernel_rfl

/-- The run's stores into the codes' block. -/
theorem run_codes (c : Dev nD) (i : grid0.Coords) (arg1 : Memref sig .tc .vmem S32x12288 .bf16) (harg1 : arg1.IsWhole) (arg2 : Memref sig .tc .vmem S8x32x12288 .fp8e4m3) (harg2 : arg2.IsWhole) (arg3 : Memref sig .tc .vmem S8x32x96 .f32) (harg3 : arg3.IsWhole) (arg4 : Memref sig .tc .vmem S1x12288 .f32) (harg4 : arg4.IsWhole) (arg5 : Memref sig .tc .vmem S32x12288 .bf16) (harg5 : arg5.IsWhole) (arg6 : Memref sig .tc .vmem S32x12288 .fp8e4m3) (harg6 : arg6.IsWhole) (arg7 : Memref sig .tc .vmem S32x1 .f32) (harg7 : arg7.IsWhole) (arg8 : Memref sig .tc .vmem S32x12288 .f32) (harg8 : arg8.IsWhole)
    (x0 : Vec F S32x12288 .bf16) (x1 : Vec F S8x32x12288 .fp8e4m3) (x2 : Vec F S8x32x96 .f32) (x3 : Vec F S1x12288 .f32) :
    (kernelRun0_A c i arg1 harg1 arg2 harg2 arg3 harg3 arg4 harg4 arg5 harg5 arg6 harg6 arg7 harg7 arg8 harg8 x0 x1 x2 x3).2.1 = codeL (loadX arg1 harg1 x0) (loadC arg2 harg2 x1) (loadS arg3 harg3 x2) (loadW arg4 harg4 x3) arg8.view 96 := by
  sl_kernel_rfl

/-- The run's store into the scales' block. -/
theorem run_scale (c : Dev nD) (i : grid0.Coords) (arg1 : Memref sig .tc .vmem S32x12288 .bf16) (harg1 : arg1.IsWhole) (arg2 : Memref sig .tc .vmem S8x32x12288 .fp8e4m3) (harg2 : arg2.IsWhole) (arg3 : Memref sig .tc .vmem S8x32x96 .f32) (harg3 : arg3.IsWhole) (arg4 : Memref sig .tc .vmem S1x12288 .f32) (harg4 : arg4.IsWhole) (arg5 : Memref sig .tc .vmem S32x12288 .bf16) (harg5 : arg5.IsWhole) (arg6 : Memref sig .tc .vmem S32x12288 .fp8e4m3) (harg6 : arg6.IsWhole) (arg7 : Memref sig .tc .vmem S32x1 .f32) (harg7 : arg7.IsWhole) (arg8 : Memref sig .tc .vmem S32x12288 .f32) (harg8 : arg8.IsWhole)
    (x0 : Vec F S32x12288 .bf16) (x1 : Vec F S8x32x12288 .fp8e4m3) (x2 : Vec F S8x32x96 .f32) (x3 : Vec F S1x12288 .f32) :
    (kernelRun0_A c i arg1 harg1 arg2 harg2 arg3 harg3 arg4 harg4 arg5 harg5 arg6 harg6 arg7 harg7 arg8 harg8 x0 x1 x2 x3).2.2.1 = [⟨Rect.unit (s := S32x1) ![0, 0] S32x1.size inb_S32x1_S32x1_0_0, scale (loadX arg1 harg1 x0) (loadC arg2 harg2 x1) (loadS arg3 harg3 x2) (loadW arg4 harg4 x3) arg8.view⟩] := by
  sl_kernel_rfl

end Cert.ReceiveIdeal.Recv
-- ==== Proof.Recv.Math.lean ====
module

public import proofs.«01_k».proof.Proof.Recv.Spec
public import proofs.«01_k».proof.Proof.Recv.Form
public import Idealize.ShloMosaic.Lib.Pipeline.Value
public import Idealize.ShloMosaic.Lib.ValueLayout
public import Idealize.ShloMosaic.Lib.VecWindow

@[expose] public section

set_option maxRecDepth 16384

noncomputable section

namespace Cert.ReceiveIdeal.Recv

open Cert.ReceiveIdeal Cert.ReceiveIdeal.Gen Idealize.ShloMosaic Idealize.ShloMosaic.TcCoe
open Cert.Rows

section Blocks

variable (lx : ℕ → Vec Ideal S32x128 .bf16) (lc : ℕ → ℕ → Vec Ideal S1x32x128 .fp8e4m3) (ls : ℕ → ℕ → Vec Ideal S1x32x1 .f32) (lw : ℕ → Vec Ideal S1x128 .f32)
variable (v : View sig .tc .vmem S32x12288 .f32)

theorem term_apply (k n : ℕ) (r : Fin 32) (q : Fin 128) : term (F := Ideal) lc ls k n (ix2 r q) = (lc k n (ix3 0 r q) : EReal) * ls k n (ix3 0 r 0) := by
  unfold term
  generalize lc k n = C
  generalize ls k n = S
  pointwise

/-- The received sum at an index. -/
theorem hB_apply (n : ℕ) (r : Fin 32) (q : Fin 128) :
    hB (F := Ideal) lx lc ls n (ix2 r q) = received (lx n (ix2 r q)) (fun k => lc k.val n (ix3 0 r q)) (fun k => ls k.val n (ix3 0 r 0)) := by
  unfold received
  have e := fun k => term_apply lc ls k n r q
  show _ = (lc 0 n (ix3 0 r q) : EReal) * ls 0 n (ix3 0 r 0) + (lc 1 n (ix3 0 r q) : EReal) * ls 1 n (ix3 0 r 0) + (lc 2 n (ix3 0 r q) : EReal) * ls 2 n (ix3 0 r 0) + (lc 3 n (ix3 0 r q) : EReal) * ls 3 n (ix3 0 r 0) + (lc 4 n (ix3 0 r q) : EReal) * ls 4 n (ix3 0 r 0) + (lc 5 n (ix3 0 r q) : EReal) * ls 5 n (ix3 0 r 0) + (lc 6 n (ix3 0 r q) : EReal) * ls 6 n (ix3 0 r 0) + (lc 7 n (ix3 0 r q) : EReal) * ls 7 n (ix3 0 r 0) + lx n (ix2 r q)
  rw [← e 0, ← e 1, ← e 2, ← e 3, ← e 4, ← e 5, ← e 6, ← e 7]
  unfold hB
  generalize term (F := Ideal) lc ls 0 n = t0
  generalize term (F := Ideal) lc ls 1 n = t1
  generalize term (F := Ideal) lc ls 2 n = t2
  generalize term (F := Ideal) lc ls 3 n = t3
  generalize term (F := Ideal) lc ls 4 n = t4
  generalize term (F := Ideal) lc ls 5 n = t5
  generalize term (F := Ideal) lc ls 6 n = t6
  generalize term (F := Ideal) lc ls 7 n = t7
  rfl

/-- A row of the received sum. -/
def hrow (r : Fin 32) (j : Fin 12288) : EReal := hB (F := Ideal) lx lc ls (j.val / 128) (ix2 r ⟨j.val % 128, Nat.mod_lt _ (by decide)⟩)
/-- The gains. -/
def grow (j : Fin 12288) : EReal := lw (j.val / 128) (ix2 0 ⟨j.val % 128, Nat.mod_lt _ (by decide)⟩)

theorem hB_hrow (n : ℕ) (r : Fin 32) (q : Fin 128) (j : Fin 12288) (hj : j.val = 128 * n + q.val) : hB (F := Ideal) lx lc ls n (ix2 r q) = hrow lx lc ls r j := by
  have hq := q.isLt
  unfold hrow
  obtain rfl : n = j.val / 128 := by omega
  exact congrArg (fun q => hB (F := Ideal) lx lc ls (j.val / 128) (ix2 r q)) (Fin.ext (by show q.val = j.val % 128; omega))

theorem lw_grow (n : ℕ) (q : Fin 128) (j : Fin 12288) (hj : j.val = 128 * n + q.val) : lw n (ix2 0 q) = grow lw j := by
  have hq := q.isLt
  unfold grow
  obtain rfl : n = j.val / 128 := by omega
  exact congrArg (fun q => lw (j.val / 128) (ix2 0 q)) (Fin.ext (by show q.val = j.val % 128; omega))

theorem ssq_apply (n : ℕ) (r : Fin 32) (q : Fin 128) :
    ssq (F := Ideal) lx lc ls n (ix2 r q) = ∑ k ∈ Finset.range n, (hB (F := Ideal) lx lc ls k (ix2 r q) : EReal) * hB (F := Ideal) lx lc ls k (ix2 r q) := by
  induction n with
  | zero =>
    rw [Finset.sum_range_zero]
    unfold ssq
    pointwise
  | succ n ih =>
    rw [Finset.sum_range_succ, ← ih]
    rfl

/-- The reciprocal root, from the lanes' sums. -/
def invOf (S : FVec Ideal S32x128 .f32) : FVec Ideal S32x1 .f32 :=
  divf (broadcast S32x1 (Scalar.ofBits .f32 0x3F800000#32))
    (sqrt (addf (divf (shapeCast S32x1 (multiReduction (F := Ideal) .add [1] S32 S 0x00000000#32 reduces_S32x128_S32 (.inl rfl) rfl : FVec Ideal S32 .f32) shapeCasts_S32_S32x1) (broadcast S32x1 (Scalar.ofBits .f32 0x46400000#32))) (broadcast S32x1 (Scalar.ofBits .f32 0x3727C5AC#32))))

theorem invOf_apply (S : FVec Ideal S32x128 .f32) (r : Fin 32) :
    invOf S (ix2 r 0) = Ideal.div 1 (Ideal.sqrt (Ideal.div (∑ q : Fin 128, (S (ix2 r q) : EReal)) (Ideal.ofBits .f32 0x46400000#32) + Ideal.ofBits .f32 0x3727C5AC#32)) := by
  unfold invOf
  pointwise

theorem inv_apply (r : Fin 32) : inv (F := Ideal) lx lc ls (ix2 r 0) = Ideal.div 1 (root (hrow lx lc ls r)) := by
  refine (invOf_apply (ssq (F := Ideal) lx lc ls 96) r).trans ?_
  unfold root
  rw [← sum_blocks (fun j => hrow lx lc ls r j * hrow lx lc ls r j) (fun n q => (hB (F := Ideal) lx lc ls n (ix2 r q) : EReal) * hB (F := Ideal) lx lc ls n (ix2 r q))
    (fun n q j hj => by rw [hB_hrow lx lc ls n r q j hj])]
  exact congrArg (fun s => Ideal.div 1 (Ideal.sqrt (Ideal.div s (Ideal.ofBits .f32 0x46400000#32) + Ideal.ofBits .f32 0x3727C5AC#32))) (Finset.sum_congr rfl fun q _ => ssq_apply lx lc ls 96 r q)

/-- The normed block, from the reciprocal root and the gains. -/
def normOf (h : Vec Ideal S32x128 .f32) (I : FVec Ideal S32x1 .f32) (w : Vec Ideal S1x128 .f32) : FVec Ideal S32x128 .f32 :=
  mulf (mulf h (broadcastTo S32x128 I broadcasts_S32x1_S32x128)) (broadcastTo S32x128 (shapeCast S1x128 w shapeCasts_S1x128_S1x128 : FVec Ideal S1x128 .f32) broadcasts_S1x128_S32x128)

theorem normOf_apply (h : Vec Ideal S32x128 .f32) (I : FVec Ideal S32x1 .f32) (w : Vec Ideal S1x128 .f32) (r : Fin 32) (q : Fin 128) :
    normOf h I w (ix2 r q) = (h (ix2 r q) : EReal) * I (ix2 r 0) * w (ix2 0 q) := by
  unfold normOf
  rw [shapeCast_self]
  pointwise

theorem norm_apply (n : ℕ) (r : Fin 32) (q : Fin 128) (j : Fin 12288) (hj : j.val = 128 * n + q.val) :
    norm (F := Ideal) lx lc ls lw (hB (F := Ideal) lx lc ls n) n (ix2 r q) = normed (hrow lx lc ls r) (grow lw) j := by
  refine (normOf_apply (hB (F := Ideal) lx lc ls n) (inv (F := Ideal) lx lc ls) (lw n) r q).trans ?_
  rw [inv_apply, mul_root, hB_hrow lx lc ls n r q j hj, lw_grow lw n q j hj]
  rfl

/-! ### What the scratch holds -/

theorem not_mem_rect (a b : ℕ) (ha : a < 96) (hb : b < 96) (h : a ≠ b) (y : S32x128.Idx) : (rect b).emb y ∉ (rect a).set := by
  intro hm
  have h1 := (Rect.mem_set_unit.mp hm) 1
  have hv : (((rect b).emb y : S32x12288.Idx) 1).val = 128 * (b % 96) + 1 * (y 1).val := rfl
  have hy : (y 1).val < 128 := (y 1).isLt
  have h2 : 128 * (a % 96) ≤ (((rect b).emb y : S32x12288.Idx) 1).val ∧ (((rect b).emb y : S32x12288.Idx) 1).val < 128 * (a % 96) + 128 := h1
  omega

/-- A run of stores, one block after the other, holds each block's value there. -/
theorem stores_hit {e : EltTy} (Ls : ℕ → List (View.Piece (Elt Ideal) S32x12288 e)) (W : ℕ → S32x128.Idx → Elt Ideal e) (hL : ∀ n, Ls (n + 1) = ⟨rect n, W n⟩ :: Ls n)
    (n : ℕ) (hn : n < 96) (m : ℕ) (h : n < m) (hm : m ≤ 96) (y : S32x128.Idx) : View.canon (Ls m) ((rect n).emb y) = W n y := by
  induction m with
  | zero => omega
  | succ m ih =>
    rw [hL]
    by_cases e : n = m
    · subst e
      exact View.canon_cons_emb (rect n) (W n) (Ls n) y
    · have hne : (rect n).emb y ∉ (rect m).set := not_mem_rect m n (by omega) hn (by omega) y
      exact (View.canon_cons_of_not_mem ⟨rect m, W m⟩ (Ls m) hne).trans (ih (by omega) (by omega))

/-- and what was there before where it has not yet come. -/
theorem stores_miss {e : EltTy} (Ls : ℕ → List (View.Piece (Elt Ideal) S32x12288 e)) (W : ℕ → S32x128.Idx → Elt Ideal e) (hL : ∀ n, Ls (n + 1) = ⟨rect n, W n⟩ :: Ls n)
    (n : ℕ) (hn : n < 96) (m : ℕ) (h : m ≤ n) (y : S32x128.Idx) : View.canon (Ls m) ((rect n).emb y) = View.canon (Ls 0) ((rect n).emb y) := by
  induction m with
  | zero => rfl
  | succ m ih =>
    rw [hL]
    have hne : (rect n).emb y ∉ (rect m).set := not_mem_rect m n (by omega) hn (by omega) y
    exact (View.canon_cons_of_not_mem ⟨rect m, W m⟩ (Ls m) hne).trans (ih (by omega))

theorem L1_canon (n : ℕ) (hn : n < 96) (y : S32x128.Idx) : View.canon (L1 (F := Ideal) lx lc ls 96) ((rect n).emb y) = hB (F := Ideal) lx lc ls n y :=
  (stores_hit (L1 (F := Ideal) lx lc ls) (fun n => shapeCast S32x128 (hB (F := Ideal) lx lc ls n) shapeCasts_S32x128_S32x128) (fun _ => rfl) n hn 96 hn le_rfl y).trans
    (congrFun (shapeCast_self _ _) y)

theorem L2_step (n : ℕ) : L2 (F := Ideal) lx lc ls lw v (n + 1) = ⟨rect n, shapeCast S32x128 (vB (F := Ideal) lx lc ls lw v n) shapeCasts_S32x128_S32x128⟩ :: L2 (F := Ideal) lx lc ls lw v n := rfl

theorem L2_canon_above (n : ℕ) (hn : n < 96) (y : S32x128.Idx) : View.canon (L2 (F := Ideal) lx lc ls lw v n) ((rect n).emb y) = hB (F := Ideal) lx lc ls n y :=
  (stores_miss (L2 (F := Ideal) lx lc ls lw v) (fun n => shapeCast S32x128 (vB (F := Ideal) lx lc ls lw v n) shapeCasts_S32x128_S32x128) (L2_step lx lc ls lw v) n hn n le_rfl y).trans
    (L1_canon lx lc ls n hn y)

theorem L2_canon_below (n : ℕ) (hn : n < 96) (y : S32x128.Idx) : View.canon (L2 (F := Ideal) lx lc ls lw v 96) ((rect n).emb y) = vB (F := Ideal) lx lc ls lw v n y :=
  (stores_hit (L2 (F := Ideal) lx lc ls lw v) (fun n => shapeCast S32x128 (vB (F := Ideal) lx lc ls lw v n) shapeCasts_S32x128_S32x128) (L2_step lx lc ls lw v) n hn 96 hn le_rfl y).trans
    (congrFun (shapeCast_self _ _) y)

theorem readCov_above (n : ℕ) (hn : n < 96) : (v.readCov (L2 (F := Ideal) lx lc ls lw v n) (rect n).toLoadRect : Vec Ideal S32x128 .f32) = hB (F := Ideal) lx lc ls n :=
  (View.readCov_eq_canon' v (L2 (F := Ideal) lx lc ls lw v n) (rect n).toLoadRect).trans (funext fun y => L2_canon_above lx lc ls lw v n hn y)

theorem readCov_below (n : ℕ) (hn : n < 96) : (v.readCov (L2 (F := Ideal) lx lc ls lw v 96) (rect n).toLoadRect : Vec Ideal S32x128 .f32) = vB (F := Ideal) lx lc ls lw v n :=
  (View.readCov_eq_canon' v (L2 (F := Ideal) lx lc ls lw v 96) (rect n).toLoadRect).trans (funext fun y => L2_canon_below lx lc ls lw v n hn y)

theorem vB_eq (n : ℕ) (hn : n < 96) : vB (F := Ideal) lx lc ls lw v n = norm (F := Ideal) lx lc ls lw (hB (F := Ideal) lx lc ls n) n :=
  congrArg (fun h => norm (F := Ideal) lx lc ls lw h n) (readCov_above lx lc ls lw v n hn)

theorem vB_apply (n : ℕ) (hn : n < 96) (r : Fin 32) (q : Fin 128) (j : Fin 12288) (hj : j.val = 128 * n + q.val) :
    vB (F := Ideal) lx lc ls lw v n (ix2 r q) = normed (hrow lx lc ls r) (grow lw) j := by
  rw [vB_eq lx lc ls lw v n hn]
  exact norm_apply lx lc ls lw n r q j hj

theorem amax_le (n : ℕ) (r : Fin 32) (q : Fin 128) (y : EReal) :
    (amax (F := Ideal) lx lc ls lw v n (ix2 r q) : EReal) ≤ y ↔ 0 ≤ y ∧ ∀ k < n, FloatOps.absf (F := Ideal) (φ := .f32) (vB (F := Ideal) lx lc ls lw v k (ix2 r q)) ≤ y := by
  induction n with
  | zero =>
    have e : amax (F := Ideal) lx lc ls lw v 0 (ix2 r q) = (0 : EReal) := by
      unfold amax
      pointwise
    rw [e]
    simp
  | succ n ih =>
    have e : amax (F := Ideal) lx lc ls lw v (n + 1) (ix2 r q) = max (amax (F := Ideal) lx lc ls lw v n (ix2 r q) : EReal) (FloatOps.absf (F := Ideal) (φ := .f32) (vB (F := Ideal) lx lc ls lw v n (ix2 r q))) := rfl
    rw [e, max_le_iff, ih, Nat.forall_lt_succ_right, and_assoc]

/-- The rows' largest magnitudes, from the lanes'. -/
def topOf (A : FVec Ideal S32x128 .f32) : FVec Ideal S32x1 .f32 :=
  shapeCast S32x1 (multiReduction (F := Ideal) .maximumf [1] S32 A 0xFF800000#32 reduces_S32x128_S32 (.inl rfl) rfl : FVec Ideal S32 .f32) shapeCasts_S32_S32x1

theorem topOf_apply (A : FVec Ideal S32x128 .f32) (r : Fin 32) : topOf A (ix2 r 0) = Finset.fold max (Ideal.ofBits .f32 0xFF800000#32) (fun q : Fin 128 => (A (ix2 r q) : EReal)) Finset.univ := by
  unfold topOf
  pointwise

theorem top_apply (r : Fin 32) : top (F := Ideal) lx lc ls lw v (ix2 r 0) = rowMax (normed (hrow lx lc ls r) (grow lw)) := by
  refine (topOf_apply (amax (F := Ideal) lx lc ls lw v 96) r).trans ?_
  refine rowMax_blocks _ _ fun q y => ?_
  rw [amax_le]
  refine and_congr_right fun _ => ⟨fun h n j hn hj => ?_, fun h n hn => ?_⟩
  · rw [← vB_apply lx lc ls lw v n hn r q j hj]
    exact h n hn
  · have hq := q.isLt
    rw [vB_apply lx lc ls lw v n hn r q ⟨128 * n + q.val, by omega⟩ rfl]
    exact h n _ hn rfl

/-- The scales, from the largest magnitudes. -/
def scaleOf (T : FVec Ideal S32x1 .f32) : FVec Ideal S32x1 .f32 :=
  select (cmpf .oeq T (broadcast S32x1 (Scalar.ofBits .f32 0x00000000#32))) (broadcast S32x1 (Scalar.ofBits .f32 0x3F800000#32)) (divf T (broadcast S32x1 (Scalar.ofBits .f32 0x43E00000#32)))

theorem scaleOf_apply (T : FVec Ideal S32x1 .f32) (r : Fin 32) : scaleOf T (ix2 r 0) = rowScale (T (ix2 r 0)) := by
  unfold scaleOf rowScale
  pointwise

theorem scale_apply (r : Fin 32) : scale (F := Ideal) lx lc ls lw v (ix2 r 0) = rowScale (rowMax (normed (hrow lx lc ls r) (grow lw))) := by
  refine (scaleOf_apply (top (F := Ideal) lx lc ls lw v) r).trans ?_
  rw [top_apply]

/-- The codes, from the normed block and the scales. -/
def quantOf (w : Vec Ideal S32x128 .f32) (S : FVec Ideal S32x1 .f32) : FVec Ideal S32x128 .fp8e4m3 :=
  truncf .fp8e4m3 (minimumf (broadcast S32x128 (Scalar.ofBits .f32 0x43E00000#32)) (maximumf (broadcast S32x128 (Scalar.ofBits .f32 0xC3E00000#32))
    (mulf w (broadcastTo S32x128 (divf (broadcast S32x1 (Scalar.ofBits .f32 0x3F800000#32)) S) broadcasts_S32x1_S32x128)))) bitsLt_fp8e4m3_f32

theorem quantOf_apply (w : Vec Ideal S32x128 .f32) (S : FVec Ideal S32x1 .f32) (r : Fin 32) (q : Fin 128) :
    quantOf w S (ix2 r q) = min (Ideal.ofBits .f32 0x43E00000#32) (max (Ideal.ofBits .f32 0xC3E00000#32) ((w (ix2 r q) : EReal) * Ideal.div 1 (S (ix2 r 0)))) := by
  unfold quantOf
  pointwise

theorem quant_apply (n : ℕ) (hn : n < 96) (r : Fin 32) (q : Fin 128) (j : Fin 12288) (hj : j.val = 128 * n + q.val) :
    quant (F := Ideal) lx lc ls lw v (v.readCov (L2 (F := Ideal) lx lc ls lw v 96) (rect n).toLoadRect) (ix2 r q)
      = code (normed (hrow lx lc ls r) (grow lw) j) (rowScale (rowMax (normed (hrow lx lc ls r) (grow lw)))) := by
  refine (congrFun (congrArg (fun w => quant (F := Ideal) lx lc ls lw v w) (readCov_below lx lc ls lw v n hn)) (ix2 r q)).trans ?_
  refine (quantOf_apply (vB (F := Ideal) lx lc ls lw v n) (scale (F := Ideal) lx lc ls lw v) r q).trans ?_
  rw [scale_apply, mul_recip, vB_apply lx lc ls lw v n hn r q j hj]
  rfl

/-! ### The blocks the body leaves -/

theorem emb_rect (n : ℕ) (hn : n < 96) (r : Fin 32) (q : Fin 128) (j : Fin 12288) (hj : j.val = 128 * n + q.val) :
    ix2 (n0 := 32) (n1 := 12288) r j = (rect n).emb (ix2 (n0 := 32) (n1 := 128) r q) := by
  funext a
  match a with
  | ⟨0, _⟩ => exact Fin.ext (by show r.val = 0 + 1 * r.val; omega)
  | ⟨1, _⟩ => exact Fin.ext (by show j.val = 128 * (n % 96) + 1 * q.val; omega)

theorem resL_canon (n : ℕ) (hn : n < 96) (y : S32x128.Idx) : View.canon (resL (F := Ideal) lx lc ls 96) ((rect n).emb y) = (hB (F := Ideal) lx lc ls n y : EReal) :=
  stores_hit (resL (F := Ideal) lx lc ls) (fun n => truncf .bf16 (hB (F := Ideal) lx lc ls n) bitsLt_bf16_f32) (fun _ => rfl) n hn 96 hn le_rfl y

theorem codeL_canon (n : ℕ) (hn : n < 96) (y : S32x128.Idx) :
    View.canon (codeL (F := Ideal) lx lc ls lw v 96) ((rect n).emb y) = quant (F := Ideal) lx lc ls lw v (v.readCov (L2 (F := Ideal) lx lc ls lw v 96) (rect n).toLoadRect) y :=
  stores_hit (codeL (F := Ideal) lx lc ls lw v) (fun n => quant (F := Ideal) lx lc ls lw v (v.readCov (L2 (F := Ideal) lx lc ls lw v 96) (rect n).toLoadRect)) (fun _ => rfl) n hn 96 hn le_rfl y

theorem res_at (r : Fin 32) (j : Fin 12288) : View.canon (resL (F := Ideal) lx lc ls 96) (ix2 r j) = hrow lx lc ls r j := by
  have hj := j.isLt
  rw [emb_rect (j.val / 128) (by omega) r ⟨j.val % 128, by omega⟩ j (by show j.val = 128 * (j.val / 128) + j.val % 128; omega)]
  exact resL_canon lx lc ls _ (by omega) _

theorem codes_at (r : Fin 32) (j : Fin 12288) : View.canon (codeL (F := Ideal) lx lc ls lw v 96) (ix2 r j)
    = code (normed (hrow lx lc ls r) (grow lw) j) (rowScale (rowMax (normed (hrow lx lc ls r) (grow lw)))) := by
  have hj := j.isLt
  rw [emb_rect (j.val / 128) (by omega) r ⟨j.val % 128, by omega⟩ j (by show j.val = 128 * (j.val / 128) + j.val % 128; omega)]
  refine (codeL_canon lx lc ls lw v _ (by omega) _).trans ?_
  exact quant_apply lx lc ls lw v _ (by omega) r _ j (by show j.val = 128 * (j.val / 128) + j.val % 128; omega)

end Blocks

/-! ### The loads -/

section Loads

theorem loadX_apply (a : Memref sig .tc .vmem S32x12288 .bf16) (h : a.IsWhole) (x : Vec Ideal S32x12288 .bf16) (n : ℕ) (hn : n < 96) (r : Fin 32) (q : Fin 128) (j : Fin 12288) (hj : j.val = 128 * n + q.val) :
    loadX (F := Ideal) a h x n (ix2 r q) = x (ix2 r j) := by
  unfold loadX
  rw [View.readAt_unit (off' := ![0, off n]) a.view _ _ rfl (inb32 n), h.read_unread]
  refine congrArg x (funext fun b => ?_)
  match b with
  | ⟨0, _⟩ => exact Fin.ext (by show 0 + 1 * r.val = r.val; omega)
  | ⟨1, _⟩ => exact Fin.ext (by show 128 * (n % 96) + 1 * q.val = j.val; omega)

theorem loadC_apply (a : Memref sig .tc .vmem S8x32x12288 .fp8e4m3) (h : a.IsWhole) (x : Vec Ideal S8x32x12288 .fp8e4m3) (k : Fin 8) (n : ℕ) (hn : n < 96) (r : Fin 32) (q : Fin 128) (j : Fin 12288) (hj : j.val = 128 * n + q.val) :
    loadC (F := Ideal) a h x k.val n (ix3 0 r q) = x (ix3 k r j) := by
  have hk := k.isLt
  unfold loadC
  rw [View.readAt_unit (off' := ![k.val % 8, 0, off n]) a.view _ _ rfl (inb8 k.val n), h.read_unread]
  refine congrArg x (funext fun b => ?_)
  match b with
  | ⟨0, _⟩ => exact Fin.ext (by show k.val % 8 + 1 * 0 = k.val; omega)
  | ⟨1, _⟩ => exact Fin.ext (by show 0 + 1 * r.val = r.val; omega)
  | ⟨2, _⟩ => exact Fin.ext (by show 128 * (n % 96) + 1 * q.val = j.val; omega)

theorem loadS_apply (a : Memref sig .tc .vmem S8x32x96 .f32) (h : a.IsWhole) (x : Vec Ideal S8x32x96 .f32) (k : Fin 8) (n : Fin 96) (r : Fin 32) :
    loadS (F := Ideal) a h x k.val n.val (ix3 0 r 0) = x (ix3 k r n) := by
  have hk := k.isLt
  have hn := n.isLt
  unfold loadS
  rw [View.readAt_unit (off' := ![k.val % 8, 0, n.val % 96]) a.view _ _ rfl (inbs k.val n.val), h.read_unread]
  refine congrArg x (funext fun b => ?_)
  match b with
  | ⟨0, _⟩ => exact Fin.ext (by show k.val % 8 + 1 * 0 = k.val; omega)
  | ⟨1, _⟩ => exact Fin.ext (by show 0 + 1 * r.val = r.val; omega)
  | ⟨2, _⟩ => exact Fin.ext (by show n.val % 96 + 1 * 0 = n.val; omega)

theorem loadW_apply (a : Memref sig .tc .vmem S1x12288 .f32) (h : a.IsWhole) (x : Vec Ideal S1x12288 .f32) (n : ℕ) (hn : n < 96) (q : Fin 128) (j : Fin 12288) (hj : j.val = 128 * n + q.val) :
    loadW (F := Ideal) a h x n (ix2 0 q) = x (ix2 0 j) := by
  unfold loadW
  rw [View.readAt_unit (off' := ![0, off n]) a.view _ _ rfl (inb1 n), h.read_unread]
  refine congrArg x (funext fun b => ?_)
  match b with
  | ⟨0, _⟩ => exact Fin.ext (by show 0 + 1 * 0 = 0; omega)
  | ⟨1, _⟩ => exact Fin.ext (by show 128 * (n % 96) + 1 * q.val = j.val; omega)

end Loads

end Cert.ReceiveIdeal.Recv
-- ==== Proof.Recv.Final.lean ====
module

public import proofs.«01_k».proof.Proof.Recv.Math
public import Idealize.ShloMosaic.Lib.Pipeline.ValueKit

@[expose] public section

set_option maxRecDepth 16384

noncomputable section

namespace Cert.ReceiveIdeal.Recv

open Cert.ReceiveIdeal Cert.ReceiveIdeal.Gen Idealize.ShloMosaic Idealize.ShloMosaic.TcCoe
open Idealize.ShloMosaic.Pipeline (Dat Cfg Window)
open Idealize.SL.Sem
open Cert.Rows

/-! ## The blocks at an index -/

section Blocks

variable {F : FTy → Type} [FloatOps F]
variable (m : (ℓ : Loc nD τ sig) → Buf (Elt F) ℓ) (c : Dev nD)

theorem idx0 : ∀ t : Fin cfg0.N, win0_0.index t (0 : Fin 2) = t.val ∧ win0_0.index t (1 : Fin 2) = 0 := (by decide +kernel : ∀ t : Fin grid0.N, _)
theorem idx1 : ∀ t : Fin cfg0.N, win0_1.index t (0 : Fin 3) = 0 ∧ win0_1.index t (1 : Fin 3) = t.val ∧ win0_1.index t (2 : Fin 3) = 0 := (by decide +kernel : ∀ t : Fin grid0.N, _)
theorem idx2 : ∀ t : Fin cfg0.N, win0_2.index t (0 : Fin 3) = 0 ∧ win0_2.index t (1 : Fin 3) = t.val ∧ win0_2.index t (2 : Fin 3) = 0 := (by decide +kernel : ∀ t : Fin grid0.N, _)
theorem idx3 : ∀ t : Fin cfg0.N, win0_3.index t (0 : Fin 2) = 0 ∧ win0_3.index t (1 : Fin 2) = 0 := (by decide +kernel : ∀ t : Fin grid0.N, _)
theorem idx4 : ∀ t : Fin cfg0.N, win0_4.index t (0 : Fin 2) = t.val ∧ win0_4.index t (1 : Fin 2) = 0 := (by decide +kernel : ∀ t : Fin grid0.N, _)
theorem idx5 : ∀ t : Fin cfg0.N, win0_5.index t (0 : Fin 2) = t.val ∧ win0_5.index t (1 : Fin 2) = 0 := (by decide +kernel : ∀ t : Fin grid0.N, _)
theorem idx6 : ∀ t : Fin cfg0.N, win0_6.index t (0 : Fin 2) = t.val ∧ win0_6.index t (1 : Fin 2) = 0 := (by decide +kernel : ∀ t : Fin grid0.N, _)

theorem iblk0_apply (t : Fin cfg0.N) (r : Fin 32) (n : Fin 12288) (i : Fin 480) (hi : i.val = 32 * t.val + r.val) :
    (iblk m c 0 t : Vec F S32x12288 .bf16) (ix2 r n) = (V m c (Pipeline.arrRef spec0 0) : Vec F S480x12288 .bf16) (ix2 i n) := by
  obtain ⟨e0, e1⟩ := idx0 t
  show (V m c (Pipeline.arrRef spec0 0) : Vec F S480x12288 .bf16) (((cfg0.win 0).blk t).view.emb (ix2 (n0 := 32) (n1 := 12288) r n)) = _
  refine congrArg (V m c (Pipeline.arrRef spec0 0) : Vec F S480x12288 .bf16) (funext fun a => Fin.ext ?_)
  match a with
  | ⟨0, _⟩ => show win0_0.index t (0 : Fin 2) * 32 + 1 * r.val = i.val; omega
  | ⟨1, _⟩ => show win0_0.index t (1 : Fin 2) * 12288 + 1 * n.val = n.val; omega
theorem iblk1_apply (t : Fin cfg0.N) (k : Fin 8) (r : Fin 32) (n : Fin 12288) (i : Fin 480) (hi : i.val = 32 * t.val + r.val) :
    (iblk m c 1 t : Vec F S8x32x12288 .fp8e4m3) (ix3 k r n) = (V m c (Pipeline.arrRef spec0 1) : Vec F S8x480x12288 .fp8e4m3) (ix3 k i n) := by
  obtain ⟨e0, e1, e2⟩ := idx1 t
  show (V m c (Pipeline.arrRef spec0 1) : Vec F S8x480x12288 .fp8e4m3) (((cfg0.win 1).blk t).view.emb (ix3 (n0 := 8) (n1 := 32) (n2 := 12288) k r n)) = _
  refine congrArg (V m c (Pipeline.arrRef spec0 1) : Vec F S8x480x12288 .fp8e4m3) (funext fun a => Fin.ext ?_)
  match a with
  | ⟨0, _⟩ => show win0_1.index t (0 : Fin 3) * 8 + 1 * k.val = k.val; omega
  | ⟨1, _⟩ => show win0_1.index t (1 : Fin 3) * 32 + 1 * r.val = i.val; omega
  | ⟨2, _⟩ => show win0_1.index t (2 : Fin 3) * 12288 + 1 * n.val = n.val; omega
theorem iblk2_apply (t : Fin cfg0.N) (k : Fin 8) (r : Fin 32) (l : Fin 96) (i : Fin 480) (hi : i.val = 32 * t.val + r.val) :
    (iblk m c 2 t : Vec F S8x32x96 .f32) (ix3 k r l) = (V m c (Pipeline.arrRef spec0 2) : Vec F S8x480x96 .f32) (ix3 k i l) := by
  obtain ⟨e0, e1, e2⟩ := idx2 t
  show (V m c (Pipeline.arrRef spec0 2) : Vec F S8x480x96 .f32) (((cfg0.win 2).blk t).view.emb (ix3 (n0 := 8) (n1 := 32) (n2 := 96) k r l)) = _
  refine congrArg (V m c (Pipeline.arrRef spec0 2) : Vec F S8x480x96 .f32) (funext fun a => Fin.ext ?_)
  match a with
  | ⟨0, _⟩ => show win0_2.index t (0 : Fin 3) * 8 + 1 * k.val = k.val; omega
  | ⟨1, _⟩ => show win0_2.index t (1 : Fin 3) * 32 + 1 * r.val = i.val; omega
  | ⟨2, _⟩ => show win0_2.index t (2 : Fin 3) * 96 + 1 * l.val = l.val; omega
theorem iblk3_apply (t : Fin cfg0.N) (n : Fin 12288) :
    (iblk m c 3 t : Vec F S1x12288 .f32) (ix2 0 n) = (V m c (Pipeline.arrRef spec0 3) : Vec F S1x12288 .f32) (ix2 0 n) := by
  obtain ⟨e0, e1⟩ := idx3 t
  show (V m c (Pipeline.arrRef spec0 3) : Vec F S1x12288 .f32) (((cfg0.win 3).blk t).view.emb (ix2 (n0 := 1) (n1 := 12288) 0 n)) = _
  refine congrArg (V m c (Pipeline.arrRef spec0 3) : Vec F S1x12288 .f32) (funext fun a => Fin.ext ?_)
  match a with
  | ⟨0, _⟩ => show win0_3.index t (0 : Fin 2) * 1 + 1 * 0 = 0; omega
  | ⟨1, _⟩ => show win0_3.index t (1 : Fin 2) * 12288 + 1 * n.val = n.val; omega

end Blocks

/-! ## The arrays after the run -/

section Final

variable (m : (ℓ : Loc nD τ sig) → Buf (Elt Ideal) ℓ) (c : Dev nD)

/-- Row `i` of the received sum, from the arrays as the region finds them. -/
def Hrow (i : Fin 480) (n : Fin 12288) : EReal :=
  received ((V m c (Pipeline.arrRef spec0 0) : Vec Ideal S480x12288 .bf16) (ix2 i n)) (fun k => (V m c (Pipeline.arrRef spec0 1) : Vec Ideal S8x480x12288 .fp8e4m3) (ix3 k i n))
    (fun k => (V m c (Pipeline.arrRef spec0 2) : Vec Ideal S8x480x96 .f32) (ix3 k i ⟨n.val / 128, by have := n.isLt; omega⟩))
/-- The gains. -/
def Grow (n : Fin 12288) : EReal := (V m c (Pipeline.arrRef spec0 3) : Vec Ideal S1x12288 .f32) (ix2 0 n)
/-- The normed row `i`. -/
def Vrow (i : Fin 480) : Fin 12288 → EReal := normed (Hrow m c i) (Grow m c)

/-- What the run leaves in the three results. -/
def res : Vec Ideal S480x12288 .bf16 := fun y => Hrow m c (y 0) (y 1)
def codes : Vec Ideal S480x12288 .fp8e4m3 := fun y => code (Vrow m c (y 0) (y 1)) (rowScale (rowMax (Vrow m c (y 0))))
def scales : Vec Ideal S480x1 .f32 := fun y => rowScale (rowMax (Vrow m c (y 0)))

section Point

variable (t : Fin cfg0.N)

/-- The point's loads. -/
def tx : ℕ → Vec Ideal S32x128 .bf16 := loadX (F := Ideal) (ms0_0 t) (hs0_0 t) (iblk m c 0 t)
def tc : ℕ → ℕ → Vec Ideal S1x32x128 .fp8e4m3 := loadC (F := Ideal) (ms0_1 t) (hs0_1 t) (iblk m c 1 t)
def ts : ℕ → ℕ → Vec Ideal S1x32x1 .f32 := loadS (F := Ideal) (ms0_2 t) (hs0_2 t) (iblk m c 2 t)
def tw : ℕ → Vec Ideal S1x128 .f32 := loadW (F := Ideal) (ms0_3 t) (hs0_3 t) (iblk m c 3 t)

theorem hrow_eq (r : Fin 32) (i : Fin 480) (hi : i.val = 32 * t.val + r.val) : hrow (tx m c t) (tc m c t) (ts m c t) r = Hrow m c i := by
  funext n
  have hn := n.isLt
  have hj : n.val = 128 * (n.val / 128) + (⟨n.val % 128, Nat.mod_lt _ (by decide)⟩ : Fin 128).val := by show n.val = 128 * (n.val / 128) + n.val % 128; omega
  unfold hrow
  rw [hB_apply]
  unfold Hrow
  have e0 : tx m c t (n.val / 128) (ix2 r ⟨n.val % 128, Nat.mod_lt _ (by decide)⟩) = (V m c (Pipeline.arrRef spec0 0) : Vec Ideal S480x12288 .bf16) (ix2 i n) :=
    (loadX_apply (ms0_0 t) (hs0_0 t) (iblk m c 0 t) (n.val / 128) (by omega) r _ n hj).trans (iblk0_apply m c t r n i hi)
  have e1 : ∀ k : Fin 8, tc m c t k.val (n.val / 128) (ix3 0 r ⟨n.val % 128, Nat.mod_lt _ (by decide)⟩) = (V m c (Pipeline.arrRef spec0 1) : Vec Ideal S8x480x12288 .fp8e4m3) (ix3 k i n) := fun k =>
    (loadC_apply (ms0_1 t) (hs0_1 t) (iblk m c 1 t) k (n.val / 128) (by omega) r _ n hj).trans (iblk1_apply m c t k r n i hi)
  have e2 : ∀ k : Fin 8, ts m c t k.val (n.val / 128) (ix3 0 r 0) = (V m c (Pipeline.arrRef spec0 2) : Vec Ideal S8x480x96 .f32) (ix3 k i ⟨n.val / 128, by omega⟩) := fun k =>
    (loadS_apply (ms0_2 t) (hs0_2 t) (iblk m c 2 t) k ⟨n.val / 128, by omega⟩ r).trans (iblk2_apply m c t k r _ i hi)
  rw [e0, funext e1, funext e2]

theorem grow_eq : grow (tw m c t) = Grow m c := by
  funext n
  have hn := n.isLt
  have hj : n.val = 128 * (n.val / 128) + (⟨n.val % 128, Nat.mod_lt _ (by decide)⟩ : Fin 128).val := by show n.val = 128 * (n.val / 128) + n.val % 128; omega
  exact (loadW_apply (ms0_3 t) (hs0_3 t) (iblk m c 3 t) (n.val / 128) (by omega) _ n hj).trans (iblk3_apply m c t n)

/-- The residual's block after a point. -/
theorem out4_apply (r : Fin 32) (n : Fin 12288) (i : Fin 480) (hi : i.val = 32 * t.val + r.val) : ((outsAt0 m c t).1 (ix2 r n) : EReal) = Hrow m c i n := by
  unfold outsAt0
  show (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (ix2 r n) : EReal) = _
  unfold out0_A_4
  rw [View.read_writes_junk_eq_canon, run_res]
  refine (res_at (tx m c t) (tc m c t) (ts m c t) r n).trans ?_
  rw [hrow_eq m c t r i hi]

/-- The codes' block after a point. -/
theorem out5_apply (r : Fin 32) (n : Fin 12288) (i : Fin 480) (hi : i.val = 32 * t.val + r.val) : ((outsAt0 m c t).2.1 (ix2 r n) : EReal) = code (Vrow m c i n) (rowScale (rowMax (Vrow m c i))) := by
  unfold outsAt0
  show (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (ix2 r n) : EReal) = _
  unfold out0_A_5
  rw [View.read_writes_junk_eq_canon, run_codes]
  refine (codes_at (tx m c t) (tc m c t) (ts m c t) (tw m c t) scM0_0.view r n).trans ?_
  rw [hrow_eq m c t r i hi, grow_eq m c t]
  rfl

/-- The scales' block after a point. -/
theorem out6_apply (r : Fin 32) (i : Fin 480) (hi : i.val = 32 * t.val + r.val) : ((outsAt0 m c t).2.2 (ix2 r 0) : EReal) = rowScale (rowMax (Vrow m c i)) := by
  unfold outsAt0
  show (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t) (ix2 r 0) : EReal) = _
  unfold out0_A_6
  have hz : (![0, 0] : Fin S32x1.rank → ℕ) = fun _ => 0 := funext fun a => match a with
    | ⟨0, _⟩ => rfl
    | ⟨1, _⟩ => rfl
  rw [View.read_writes_junk_eq_canon, run_scale, View.canon_unit_zero hz]
  refine (scale_apply (tx m c t) (tc m c t) (ts m c t) (tw m c t) scM0_0.view r).trans ?_
  rw [hrow_eq m c t r i hi, grow_eq m c t]
  rfl

end Point

theorem emb4_val (t : Fin cfg0.N) (y : S32x12288.Idx) :
    ((((cfg0.win 4).blk t).view.emb y : S480x12288.Idx) (0 : Fin 2)).val = 32 * t.val + (y 0).val ∧ (((cfg0.win 4).blk t).view.emb y : S480x12288.Idx) (1 : Fin 2) = y 1 := by
  obtain ⟨e0, e1⟩ := idx4 t
  refine ⟨?_, Fin.ext ?_⟩
  · show win0_4.index t (0 : Fin 2) * 32 + 1 * (y 0).val = 32 * t.val + (y 0).val; omega
  · show win0_4.index t (1 : Fin 2) * 12288 + 1 * (y 1).val = (y 1).val; omega
theorem emb5_val (t : Fin cfg0.N) (y : S32x12288.Idx) :
    ((((cfg0.win 5).blk t).view.emb y : S480x12288.Idx) (0 : Fin 2)).val = 32 * t.val + (y 0).val ∧ (((cfg0.win 5).blk t).view.emb y : S480x12288.Idx) (1 : Fin 2) = y 1 := by
  obtain ⟨e0, e1⟩ := idx5 t
  refine ⟨?_, Fin.ext ?_⟩
  · show win0_5.index t (0 : Fin 2) * 32 + 1 * (y 0).val = 32 * t.val + (y 0).val; omega
  · show win0_5.index t (1 : Fin 2) * 12288 + 1 * (y 1).val = (y 1).val; omega
theorem emb6_val (t : Fin cfg0.N) (y : S32x1.Idx) :
    ((((cfg0.win 6).blk t).view.emb y : S480x1.Idx) (0 : Fin 2)).val = 32 * t.val + (y 0).val ∧ (((cfg0.win 6).blk t).view.emb y : S480x1.Idx) (1 : Fin 2) = y 1 := by
  obtain ⟨e0, e1⟩ := idx6 t
  refine ⟨?_, Fin.ext ?_⟩
  · show win0_6.index t (0 : Fin 2) * 32 + 1 * (y 0).val = 32 * t.val + (y 0).val; omega
  · show win0_6.index t (1 : Fin 2) * 1 + 1 * (y 1).val = (y 1).val; omega

theorem ix_row (y : S32x12288.Idx) : y = ix2 (n0 := 32) (n1 := 12288) (y 0) (y 1) := by
  funext b
  match b with
  | ⟨0, _⟩ => rfl
  | ⟨1, _⟩ => rfl
theorem ix_col (y : S32x1.Idx) : y = ix2 (n0 := 32) (n1 := 1) (y 0) 0 := by
  funext b
  match b with
  | ⟨0, _⟩ => rfl
  | ⟨1, _⟩ => exact Fin.ext (by have : (y 1).val < 1 := (y 1).isLt; show (y 1).val = 0; omega)

/-- What a point writes back is its block of `res`. -/
theorem flushed4_eq (t : Fin cfg0.N) : (dats m 0 c).flushed 4 t = ((cfg0.win 4).blk t).view.read (Elt Ideal) (res m c) := by
  show (cfg0.win 4).cut (grid0.coords t) ((dats m 0 c).after 4 t) = _
  rw [after0_4]
  funext y
  obtain ⟨e0, e1⟩ := emb4_val t y
  show ((outsAt0 m c t).1 y : EReal) = res m c (((cfg0.win 4).blk t).view.emb y)
  refine (congrArg (outsAt0 m c t).1 (ix_row y)).trans ((out4_apply m c t (y 0) (y 1) ((((cfg0.win 4).blk t).view.emb y : S480x12288.Idx) (0 : Fin 2)) e0).trans ?_)
  unfold res
  rw [e1]

theorem flushed5_eq (t : Fin cfg0.N) : (dats m 0 c).flushed 5 t = ((cfg0.win 5).blk t).view.read (Elt Ideal) (codes m c) := by
  show (cfg0.win 5).cut (grid0.coords t) ((dats m 0 c).after 5 t) = _
  rw [after0_5]
  funext y
  obtain ⟨e0, e1⟩ := emb5_val t y
  show ((outsAt0 m c t).2.1 y : EReal) = codes m c (((cfg0.win 5).blk t).view.emb y)
  refine (congrArg (outsAt0 m c t).2.1 (ix_row y)).trans ((out5_apply m c t (y 0) (y 1) ((((cfg0.win 5).blk t).view.emb y : S480x12288.Idx) (0 : Fin 2)) e0).trans ?_)
  unfold codes
  rw [e1]

theorem flushed6_eq (t : Fin cfg0.N) : (dats m 0 c).flushed 6 t = ((cfg0.win 6).blk t).view.read (Elt Ideal) (scales m c) := by
  show (cfg0.win 6).cut (grid0.coords t) ((dats m 0 c).after 6 t) = _
  rw [after0_6]
  funext y
  obtain ⟨e0, e1⟩ := emb6_val t y
  show ((outsAt0 m c t).2.2 y : EReal) = scales m c (((cfg0.win 6).blk t).view.emb y)
  exact (congrArg (outsAt0 m c t).2.2 (ix_col y)).trans (out6_apply m c t (y 0) ((((cfg0.win 6).blk t).view.emb y : S480x1.Idx) (0 : Fin 2)) e0)

/-- The point whose block holds row `i`. -/
theorem point (i : Fin 480) : ∃ t : Fin cfg0.N, t.val = i.val / 32 :=
  ⟨⟨i.val / 32, lt_of_lt_of_eq (by have := i.isLt; omega : _ < 15) (show 15 = cfg0.N from N_0.symm)⟩, rfl⟩

/-- Every index of the arrays is in some block written back. -/
theorem covered4 (i : S480x12288.Idx) : ∃ t : Fin cfg0.N, (cfg0.win 4).flush t = true ∧ i ∈ ((cfg0.win 4).blk t).view.set := by
  obtain ⟨t, ht⟩ := point (i 0)
  refine ⟨t, flush0_4 _, ?_⟩
  have h := ((cfg0.win 4).blk t).view.emb_mem_set (ix2 (n0 := 32) (n1 := 12288) ⟨(i 0).val % 32, by omega⟩ (i 1))
  obtain ⟨e0, e1⟩ := emb4_val t (ix2 (n0 := 32) (n1 := 12288) ⟨(i 0).val % 32, by omega⟩ (i 1))
  have e : (((cfg0.win 4).blk t).view.emb (ix2 (n0 := 32) (n1 := 12288) ⟨(i 0).val % 32, by omega⟩ (i 1)) : S480x12288.Idx) = i := by
    funext a
    match a with
    | ⟨0, _⟩ => exact Fin.ext (e0.trans (by show 32 * t.val + (i 0).val % 32 = (i 0).val; omega))
    | ⟨1, _⟩ => exact e1
  rwa [e] at h
theorem covered5 (i : S480x12288.Idx) : ∃ t : Fin cfg0.N, (cfg0.win 5).flush t = true ∧ i ∈ ((cfg0.win 5).blk t).view.set := by
  obtain ⟨t, ht⟩ := point (i 0)
  refine ⟨t, flush0_5 _, ?_⟩
  have h := ((cfg0.win 5).blk t).view.emb_mem_set (ix2 (n0 := 32) (n1 := 12288) ⟨(i 0).val % 32, by omega⟩ (i 1))
  obtain ⟨e0, e1⟩ := emb5_val t (ix2 (n0 := 32) (n1 := 12288) ⟨(i 0).val % 32, by omega⟩ (i 1))
  have e : (((cfg0.win 5).blk t).view.emb (ix2 (n0 := 32) (n1 := 12288) ⟨(i 0).val % 32, by omega⟩ (i 1)) : S480x12288.Idx) = i := by
    funext a
    match a with
    | ⟨0, _⟩ => exact Fin.ext (e0.trans (by show 32 * t.val + (i 0).val % 32 = (i 0).val; omega))
    | ⟨1, _⟩ => exact e1
  rwa [e] at h
theorem covered6 (i : S480x1.Idx) : ∃ t : Fin cfg0.N, (cfg0.win 6).flush t = true ∧ i ∈ ((cfg0.win 6).blk t).view.set := by
  obtain ⟨t, ht⟩ := point (i 0)
  refine ⟨t, flush0_6 _, ?_⟩
  have h := ((cfg0.win 6).blk t).view.emb_mem_set (ix2 (n0 := 32) (n1 := 1) ⟨(i 0).val % 32, by omega⟩ (i 1))
  obtain ⟨e0, e1⟩ := emb6_val t (ix2 (n0 := 32) (n1 := 1) ⟨(i 0).val % 32, by omega⟩ (i 1))
  have e : (((cfg0.win 6).blk t).view.emb (ix2 (n0 := 32) (n1 := 1) ⟨(i 0).val % 32, by omega⟩ (i 1)) : S480x1.Idx) = i := by
    funext a
    match a with
    | ⟨0, _⟩ => exact Fin.ext (e0.trans (by show 32 * t.val + (i 0).val % 32 = (i 0).val; omega))
    | ⟨1, _⟩ => exact e1
  rwa [e] at h

/-- The arrays after the run. -/
theorem final4 : (dats m 0 c).arrAt 4 cfg0.N = res m c := (dats m 0 c).arrAt_eq_of_cover 4 (res m c) (fun t _ => flushed4_eq m c t) covered4
theorem final5 : (dats m 0 c).arrAt 5 cfg0.N = codes m c := (dats m 0 c).arrAt_eq_of_cover 5 (codes m c) (fun t _ => flushed5_eq m c t) covered5
theorem final6 : (dats m 0 c).arrAt 6 cfg0.N = scales m c := (dats m 0 c).arrAt_eq_of_cover 6 (scales m c) (fun t _ => flushed6_eq m c t) covered6

end Final

end Cert.ReceiveIdeal.Recv
-- ==== Proof.Recv.RefMath.lean ====
module

public import proofs.«01_k».proof.Proof.Recv.Spec
public import proofs.«01_k».proof.Proof.Gen.ReceiveReferenceIdeal.Value
public import Idealize.ShloMosaic.Lib.Pipeline.Value

@[expose] public section

set_option maxRecDepth 16384

noncomputable section

namespace Cert.ReceiveReferenceIdeal.Recv

open Cert.ReceiveReferenceIdeal Cert.ReceiveReferenceIdeal.Gen Idealize.ShloMosaic Idealize.ShloMosaic.TcCoe
open Cert.Rows

section Generic

variable {F : FTy → Type} [FloatOps F]

/-- Peer `k`'s part of the received sum. -/
def part (k : ℕ) (h1 : S8x480x12288.Slices ![k, 0, 0] S1x480x12288) (h2 : S8x480x96.Slices ![k, 0, 0] S1x480x96) (a1 : Vec F S8x480x12288 .fp8e4m3) (a2 : Vec F S8x480x96 .f32) : FVec F S480x96x128 .f32 :=
  mulf (shapeCast S480x96x128 (extf .f32 (shapeCast S480x12288 (extractStridedSlice S1x480x12288 ![k, 0, 0] a1 h1) shapeCasts_S1x480x12288_S480x12288 : FVec F S480x12288 .fp8e4m3) bitsLt_fp8e4m3_f32) shapeCasts_S480x12288_S480x96x128 : FVec F S480x96x128 .f32)
    (broadcastTo S480x96x128 (shapeCast S480x96x1 (shapeCast S480x96 (extractStridedSlice S1x480x96 ![k, 0, 0] a2 h2) shapeCasts_S1x480x96_S480x96) shapeCasts_S480x96_S480x96x1) broadcasts_S480x96x1_S480x96x128)

/-- The peers' sum. -/
def parts (a1 : Vec F S8x480x12288 .fp8e4m3) (a2 : Vec F S8x480x96 .f32) : FVec F S480x96x128 .f32 :=
  addf (addf (addf (addf (addf (addf (addf (part 0 slices_S8x480x12288_o0_0_0_S1x480x12288 slices_S8x480x96_o0_0_0_S1x480x96 a1 a2) (part 1 slices_S8x480x12288_o1_0_0_S1x480x12288 slices_S8x480x96_o1_0_0_S1x480x96 a1 a2)) (part 2 slices_S8x480x12288_o2_0_0_S1x480x12288 slices_S8x480x96_o2_0_0_S1x480x96 a1 a2)) (part 3 slices_S8x480x12288_o3_0_0_S1x480x12288 slices_S8x480x96_o3_0_0_S1x480x96 a1 a2)) (part 4 slices_S8x480x12288_o4_0_0_S1x480x12288 slices_S8x480x96_o4_0_0_S1x480x96 a1 a2)) (part 5 slices_S8x480x12288_o5_0_0_S1x480x12288 slices_S8x480x96_o5_0_0_S1x480x96 a1 a2)) (part 6 slices_S8x480x12288_o6_0_0_S1x480x12288 slices_S8x480x96_o6_0_0_S1x480x96 a1 a2)) (part 7 slices_S8x480x12288_o7_0_0_S1x480x12288 slices_S8x480x96_o7_0_0_S1x480x96 a1 a2)

/-- The received sum. -/
def sum (a0 : Vec F S480x12288 .bf16) (a1 : Vec F S8x480x12288 .fp8e4m3) (a2 : Vec F S8x480x96 .f32) : FVec F S480x12288 .f32 :=
  addf (shapeCast S480x12288 (parts a1 a2) shapeCasts_S480x96x128_S480x12288) (extf .f32 a0 bitsLt_bf16_f32)

theorem sum_eq (a0 : Vec F S480x12288 .bf16) (a1 : Vec F S8x480x12288 .fp8e4m3) (a2 : Vec F S8x480x96 .f32) :
    k0_pay7 a1 a2 (k0_pay4 a1 a2) (k0_pay5 a1) (k0_pay6 a2) a0 = sum a0 a1 a2 := rfl

theorem pay11_eq (a0 : Vec F S480x12288 .bf16) (a1 : Vec F S8x480x12288 .fp8e4m3) (a2 : Vec F S8x480x96 .f32) (a3 : Vec F S12288 .f32) : k0_pay11 a0 a1 a2 a3 = k0_pay4 a1 a2 := by
  unfold k0_pay11
  rw [View.ld_unit_zero (S := S8x480x12288) Value.hz1 _ a1, View.ld_unit_zero (S := S8x480x96) Value.hz2 _ a2]
theorem pay12_eq (a0 : Vec F S480x12288 .bf16) (a1 : Vec F S8x480x12288 .fp8e4m3) (a2 : Vec F S8x480x96 .f32) (a3 : Vec F S12288 .f32) : k0_pay12 a0 a1 a2 a3 = k0_pay5 a1 := by
  unfold k0_pay12
  rw [View.ld_unit_zero (S := S8x480x12288) Value.hz1 _ a1]
theorem pay13_eq (a0 : Vec F S480x12288 .bf16) (a1 : Vec F S8x480x12288 .fp8e4m3) (a2 : Vec F S8x480x96 .f32) (a3 : Vec F S12288 .f32) : k0_pay13 a0 a1 a2 a3 = k0_pay6 a2 := by
  unfold k0_pay13
  rw [View.ld_unit_zero (S := S8x480x96) Value.hz2 _ a2]

/-- The normed rows. -/
def nrm (h : FVec F S480x12288 .f32) (a3 : Vec F S12288 .f32) : FVec F S480x12288 .f32 :=
  mulf (divf h (broadcastTo S480x12288 (sqrt (addf (divf (shapeCast S480x1 (multiReduction .add [1] S480 (mulf h h) 0x00000000#32 reduces_S480x12288_S480 (.inl rfl) rfl : FVec F S480 .f32) shapeCasts_S480_S480x1) (broadcast S480x1 (Scalar.ofBits .f32 0x46400000#32))) (broadcast S480x1 (Scalar.ofBits .f32 0x3727C5AC#32)) : FVec F S480x1 .f32)) broadcasts_S480x1_S480x12288))
    (broadcastTo S480x12288 (shapeCast S1x12288 a3 shapeCasts_S12288_S1x12288) broadcasts_S1x12288_S480x12288)

theorem nrm_eq (a0 : Vec F S480x12288 .bf16) (a1 : Vec F S8x480x12288 .fp8e4m3) (a2 : Vec F S8x480x96 .f32) (a3 : Vec F S12288 .f32) :
    k0_pay9 a1 a2 (k0_pay4 a1 a2) (k0_pay5 a1) (k0_pay6 a2) a0 a3 = nrm (sum a0 a1 a2) a3 := rfl

/-- The rows' largest magnitudes. -/
def mag (w : FVec F S480x12288 .f32) : FVec F S480 .f32 :=
  multiReduction .maximumf [1] S480 (absf w) 0xFF800000#32 reduces_S480x12288_S480 (.inl rfl) rfl

theorem mag_eq (a0 : Vec F S480x12288 .bf16) (a1 : Vec F S8x480x12288 .fp8e4m3) (a2 : Vec F S8x480x96 .f32) (a3 : Vec F S12288 .f32) :
    k0_pay10 a1 a2 (k0_pay4 a1 a2) (k0_pay5 a1) (k0_pay6 a2) a0 a3 = mag (nrm (sum a0 a1 a2) a3) := rfl

theorem pay14_eq (a0 : Vec F S480x12288 .bf16) (a1 : Vec F S8x480x12288 .fp8e4m3) (a2 : Vec F S8x480x96 .f32) (a3 : Vec F S12288 .f32) : k0_pay14 a0 a1 a2 a3 = mag (nrm (sum a0 a1 a2) a3) := by
  unfold k0_pay14
  rw [View.ld_unit_zero (S := S8x480x12288) Value.hz1 _ a1, View.ld_unit_zero (S := S8x480x96) Value.hz2 _ a2, View.ld_unit_zero (S := S480x12288) Value.hz0 _ a0, View.ld_unit_zero (S := S12288) Value.hz3 _ a3,
    pay11_eq, pay12_eq, pay13_eq, mag_eq]

end Generic

section Ideal

/-- One peer's part at an index. -/
theorem part_apply (k : Fin 8) (h1 : S8x480x12288.Slices ![k.val, 0, 0] S1x480x12288) (h2 : S8x480x96.Slices ![k.val, 0, 0] S1x480x96) (a1 : Vec Ideal S8x480x12288 .fp8e4m3) (a2 : Vec Ideal S8x480x96 .f32)
    (r : Fin 480) (l : Fin 96) (q : Fin 128) (n : Fin 12288) (hn : n.val = 128 * l.val + q.val) :
    part (F := Ideal) k.val h1 h2 a1 a2 (ix3 r l q) = (a1 (ix3 k r n) : EReal) * a2 (ix3 k r l) := by
  have e1 : shapeCast S480x96x128 (shapeCast S480x12288 (extractStridedSlice S1x480x12288 ![k.val, 0, 0] a1 h1) shapeCasts_S1x480x12288_S480x12288) shapeCasts_S480x12288_S480x96x128 (ix3 r l q) = a1 (ix3 k r n) := by
    pointwise
    exact congrArg (fun j => a1 (ix3 k r j)) (Fin.ext (by show l.val * 128 + q.val = n.val; omega))
  have e2 : broadcastTo S480x96x128 (shapeCast S480x96x1 (shapeCast S480x96 (extractStridedSlice S1x480x96 ![k.val, 0, 0] a2 h2) shapeCasts_S1x480x96_S480x96) shapeCasts_S480x96_S480x96x1) broadcasts_S480x96x1_S480x96x128 (ix3 r l q) = a2 (ix3 k r l) := by
    pointwise
  rw [← e1, ← e2]
  rfl

variable (a0 : Vec Ideal S480x12288 .bf16) (a1 : Vec Ideal S8x480x12288 .fp8e4m3) (a2 : Vec Ideal S8x480x96 .f32) (a3 : Vec Ideal S12288 .f32)

/-- Row `r` of the received sum. -/
def hrow (r : Fin 480) (n : Fin 12288) : EReal :=
  received (a0 (ix2 r n)) (fun k => a1 (ix3 k r n)) (fun k => a2 (ix3 k r ⟨n.val / 128, by have := n.isLt; omega⟩))

theorem parts_apply (r : Fin 480) (l : Fin 96) (q : Fin 128) (n : Fin 12288) (hn : n.val = 128 * l.val + q.val) (x : EReal) :
    (parts (F := Ideal) a1 a2 (ix3 r l q) : EReal) + x = received x (fun k => a1 (ix3 k r n)) (fun k => a2 (ix3 k r l)) := by
  unfold received
  simp only []
  rw [← part_apply 0 slices_S8x480x12288_o0_0_0_S1x480x12288 slices_S8x480x96_o0_0_0_S1x480x96 a1 a2 r l q n hn,
    ← part_apply 1 slices_S8x480x12288_o1_0_0_S1x480x12288 slices_S8x480x96_o1_0_0_S1x480x96 a1 a2 r l q n hn,
    ← part_apply 2 slices_S8x480x12288_o2_0_0_S1x480x12288 slices_S8x480x96_o2_0_0_S1x480x96 a1 a2 r l q n hn,
    ← part_apply 3 slices_S8x480x12288_o3_0_0_S1x480x12288 slices_S8x480x96_o3_0_0_S1x480x96 a1 a2 r l q n hn,
    ← part_apply 4 slices_S8x480x12288_o4_0_0_S1x480x12288 slices_S8x480x96_o4_0_0_S1x480x96 a1 a2 r l q n hn,
    ← part_apply 5 slices_S8x480x12288_o5_0_0_S1x480x12288 slices_S8x480x96_o5_0_0_S1x480x96 a1 a2 r l q n hn,
    ← part_apply 6 slices_S8x480x12288_o6_0_0_S1x480x12288 slices_S8x480x96_o6_0_0_S1x480x96 a1 a2 r l q n hn,
    ← part_apply 7 slices_S8x480x12288_o7_0_0_S1x480x12288 slices_S8x480x96_o7_0_0_S1x480x96 a1 a2 r l q n hn]
  rfl

/-- The blocks put back together, at an index. -/
theorem join_apply (X : FVec Ideal S480x96x128 .f32) (r : Fin 480) (l : Fin 96) (q : Fin 128) (n : Fin 12288) (hn : n.val = 128 * l.val + q.val) :
    shapeCast S480x12288 X shapeCasts_S480x96x128_S480x12288 (ix2 r n) = X (ix3 r l q) := by
  pointwise
  have hq := q.isLt
  exact congrArg X (congrArg₂ (ix3 r) (Fin.ext (by show n.val / 128 = l.val; omega)) (Fin.ext (by show n.val % 128 = q.val; omega)))

/-- The received sum at an index. -/
theorem sum_apply (r : Fin 480) (n : Fin 12288) : sum (F := Ideal) a0 a1 a2 (ix2 r n) = hrow a0 a1 a2 r n := by
  have hn := n.isLt
  refine Eq.trans ?_ (parts_apply a1 a2 r ⟨n.val / 128, by omega⟩ ⟨n.val % 128, by omega⟩ n (by show n.val = 128 * (n.val / 128) + n.val % 128; omega) (a0 (ix2 r n)))
  rw [← join_apply (parts (F := Ideal) a1 a2) r ⟨n.val / 128, by omega⟩ ⟨n.val % 128, by omega⟩ n (by show n.val = 128 * (n.val / 128) + n.val % 128; omega)]
  rfl

theorem nrm_apply (h : FVec Ideal S480x12288 .f32) (r : Fin 480) (n : Fin 12288) :
    nrm (F := Ideal) h a3 (ix2 r n) = normed (fun j => h (ix2 r j)) (fun j => a3 (ix1 j)) n := by
  unfold nrm normed root
  pointwise

theorem mag_apply (w : FVec Ideal S480x12288 .f32) (r : Fin 480) : mag (F := Ideal) w (ix1 r) = rowMax (fun j => w (ix2 r j)) := by
  unfold mag rowMax
  pointwise

theorem pay1_apply (M : FVec Ideal S480 .f32) (r : Fin 480) : k0_pay1 (F := Ideal) M (Scalar.ofBits .f32 0x00000000#32) (ix1 r) = rowScale (M (ix1 r)) := by
  unfold rowScale
  pointwise [k0_pay1]

theorem pay3_apply (M : FVec Ideal S480 .f32) (r : Fin 480) : k0_pay3 (F := Ideal) M (Scalar.ofBits .f32 0x00000000#32) (ix2 r 0) = rowScale (M (ix1 r)) := by
  rw [← pay1_apply]
  unfold k0_pay3
  generalize k0_pay1 (F := Ideal) M (Scalar.ofBits .f32 0x00000000#32) = S
  pointwise

theorem pay2_apply (w : FVec Ideal S480x12288 .f32) (M : FVec Ideal S480 .f32) (r : Fin 480) (n : Fin 12288) :
    k0_pay2 (F := Ideal) w M (Scalar.ofBits .f32 0x00000000#32) (ix2 r n) = code (w (ix2 r n)) (rowScale (M (ix1 r))) := by
  rw [← pay1_apply]
  unfold k0_pay2
  generalize k0_pay1 (F := Ideal) M (Scalar.ofBits .f32 0x00000000#32) = S
  unfold code
  pointwise

/-- The normed row `r`. -/
def vrow (r : Fin 480) : Fin 12288 → EReal := normed (hrow a0 a1 a2 r) (fun j => a3 (ix1 j))

theorem nrm_row (r : Fin 480) (n : Fin 12288) : nrm (F := Ideal) (sum (F := Ideal) a0 a1 a2) a3 (ix2 r n) = vrow a0 a1 a2 a3 r n := by
  refine (nrm_apply a3 (sum (F := Ideal) a0 a1 a2) r n).trans ?_
  exact congrArg (fun f => normed f (fun j => a3 (ix1 j)) n) (funext fun j => sum_apply a0 a1 a2 r j)

theorem mag_row (r : Fin 480) : mag (F := Ideal) (nrm (F := Ideal) (sum (F := Ideal) a0 a1 a2) a3) (ix1 r) = rowMax (vrow a0 a1 a2 a3 r) := by
  refine (mag_apply _ r).trans ?_
  exact congrArg rowMax (funext fun j => nrm_row a0 a1 a2 a3 r j)

/-- The reference's residual, at an index. -/
theorem G4_apply (r : Fin 480) (n : Fin 12288) : (Value.G4 (F := Ideal) a0 a1 a2 a3 (ix2 r n) : EReal) = hrow a0 a1 a2 r n := by
  show (k0_pay8 (F := Ideal) a1 a2 (k0_pay11 a0 a1 a2 a3) (k0_pay12 a0 a1 a2 a3) (k0_pay13 a0 a1 a2 a3) a0 (ix2 r n) : EReal) = _
  rw [pay11_eq, pay12_eq, pay13_eq]
  exact sum_apply a0 a1 a2 r n

/-- The reference's codes, at an index. -/
theorem G5_apply (r : Fin 480) (n : Fin 12288) : (Value.G5 (F := Ideal) a0 a1 a2 a3 (ix2 r n) : EReal) = code (vrow a0 a1 a2 a3 r n) (rowScale (rowMax (vrow a0 a1 a2 a3 r))) := by
  show (k0_pay2 (F := Ideal) (k0_pay9 (F := Ideal) a1 a2 (k0_pay11 a0 a1 a2 a3) (k0_pay12 a0 a1 a2 a3) (k0_pay13 a0 a1 a2 a3) a0 a3) (k0_pay14 a0 a1 a2 a3) (Scalar.ofBits .f32 0x00000000#32) (ix2 r n) : EReal) = _
  rw [pay11_eq, pay12_eq, pay13_eq, pay14_eq, nrm_eq, pay2_apply, nrm_row, mag_row]

/-- The reference's scales, at an index. -/
theorem G6_apply (r : Fin 480) : (Value.G6 (F := Ideal) a0 a1 a2 a3 (ix2 r 0) : EReal) = rowScale (rowMax (vrow a0 a1 a2 a3 r)) := by
  show (k0_pay3 (F := Ideal) (k0_pay14 a0 a1 a2 a3) (Scalar.ofBits .f32 0x00000000#32) (ix2 r 0) : EReal) = _
  rw [pay14_eq, pay3_apply, mag_row]

end Ideal

end Cert.ReceiveReferenceIdeal.Recv
-- ==== Proof.Recv.Equal.lean ====
module

public import proofs.«01_k».proof.Proof.Recv.Final
public import proofs.«01_k».proof.Proof.Recv.RefMath
public import Idealize.ShloMosaic.Lib.ValueLayout

@[expose] public section

set_option maxRecDepth 16384

noncomputable section

namespace Cert.ReceiveIdeal.Recv

open Cert.ReceiveIdeal Cert.ReceiveIdeal.Gen Idealize.ShloMosaic Idealize.ShloMosaic.TcCoe
open Idealize.SL.Sem

section Run

variable {F : FTy → Type} [FloatOps F]
variable (m : (ℓ : Loc nD τ sig) → Buf (Elt F) ℓ) (ρ : Dev nD → PrngReg)

/-- The run with the outputs' arrays named, and the arguments unchanged. -/
theorem run : θ_run defs (onTc (τ := τ) (main (F := F))) ⟨m, fun _ => 0, ρ⟩ fun r => ∀ c : Dev nD,
      r.2.mem ((c.tc : Thread nD τ).loc main_v1_0) = (dats m 0 c).arrAt 4 cfg0.N
      ∧ r.2.mem ((c.tc : Thread nD τ).loc main_v1_1) = (dats m 0 c).arrAt 5 cfg0.N
      ∧ r.2.mem ((c.tc : Thread nD τ).loc main_v1_2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨Pipeline.FramePost.out_eq h c 4, Pipeline.FramePost.out_eq h c 5, Pipeline.FramePost.out_eq h c 6,
      (Pipeline.FramePost.in_eq h c 0 rfl).trans ((A_eq m c 0).trans (V_main_arg0 m c)),
      (Pipeline.FramePost.in_eq h c 1 rfl).trans ((A_eq m c 1).trans (V_main_arg1 m c)),
      (Pipeline.FramePost.in_eq h c 2 rfl).trans ((A_eq m c 2).trans (V_main_arg2 m c)),
      ((h c).2 main_arg3 (Pipeline.mem_restRefs_of main_arg3 (by decide) (by decide))).trans (V_main_arg3 m c)⟩)
    (run_main m ρ)

end Run

variable (m : (ℓ : Loc nD τ sig) → Buf (Elt Ideal) ℓ) (c : Dev nD)

/-- The gains, as the region finds them. -/
theorem V_main_v0 (n : Fin 12288) :
    (Gen.V m c main_v0 : Vec Ideal S1x12288 .f32) (ix2 0 n) = (m ((c : Thread nD τ).loc main_arg3) : Vec Ideal S12288 .f32) (ix1 n) := by
  have h : (Gen.V m c main_v0 : Vec Ideal S1x12288 .f32) = shapeCast S1x12288 (m ((c : Thread nD τ).loc main_arg3) : Vec Ideal S12288 .f32) shapeCasts_S12288_S1x12288 := by
    show StableHlo.after hostOps0 (fun b => m (c, b)) (main_v0 : DevRef τ sig) = _
    rw [StableHlo.after_cons, StableHlo.after_nil, StableHlo.reshape_result]
    rfl
  rw [h]
  exact ValueIdx.shapeCast_a_1a_apply _ _ _ _

theorem received_congr {x x' : EReal} {a a' s s' : Fin 8 → EReal} (hx : x = x') (ha : a = a') (hs : s = s') : Cert.Rows.received x a s = Cert.Rows.received x' a' s' := by rw [hx, ha, hs]

/-- The two programs' rows of the received sum agree. -/
theorem Hrow_eq (i : Fin 480) : Hrow m c i = Cert.ReceiveReferenceIdeal.Recv.hrow (m ((c : Thread nD τ).loc main_arg0)) (m ((c : Thread nD τ).loc main_arg1)) (m ((c : Thread nD τ).loc main_arg2)) i := by
  funext n
  have e0 := congrFun (V_main_arg0 m c) (ix2 i n)
  have e1 : (fun k : Fin 8 => (V m c (Pipeline.arrRef spec0 1) : Vec Ideal S8x480x12288 .fp8e4m3) (ix3 k i n)) = fun k => (m ((c : Thread nD τ).loc main_arg1) : Vec Ideal S8x480x12288 .fp8e4m3) (ix3 k i n) :=
    funext fun k => congrFun (V_main_arg1 m c) (ix3 k i n)
  have e2 : (fun k : Fin 8 => (V m c (Pipeline.arrRef spec0 2) : Vec Ideal S8x480x96 .f32) (ix3 k i ⟨n.val / 128, by have := n.isLt; omega⟩)) = fun k => (m ((c : Thread nD τ).loc main_arg2) : Vec Ideal S8x480x96 .f32) (ix3 k i ⟨n.val / 128, by have := n.isLt; omega⟩) :=
    funext fun k => congrFun (V_main_arg2 m c) (ix3 k i _)
  exact received_congr e0 e1 e2

/-- The two programs' normed rows agree. -/
theorem Vrow_eq (i : Fin 480) : Vrow m c i = Cert.ReceiveReferenceIdeal.Recv.vrow (m ((c : Thread nD τ).loc main_arg0)) (m ((c : Thread nD τ).loc main_arg1)) (m ((c : Thread nD τ).loc main_arg2)) (m ((c : Thread nD τ).loc main_arg3)) i :=
  congrArg₂ Cert.Rows.normed (Hrow_eq m c i) (funext fun n => V_main_v0 m c n)

theorem ix_full (y : S480x12288.Idx) : y = ix2 (n0 := 480) (n1 := 12288) (y 0) (y 1) := by
  funext b
  match b with
  | ⟨0, _⟩ => rfl
  | ⟨1, _⟩ => rfl

/-- The kernel's residual is the reference's. -/
theorem res_eq : res m c = Cert.ReceiveReferenceIdeal.Value.G4 (m ((c : Thread nD τ).loc main_arg0)) (m ((c : Thread nD τ).loc main_arg1)) (m ((c : Thread nD τ).loc main_arg2)) (m ((c : Thread nD τ).loc main_arg3)) := by
  funext y
  refine Eq.trans ?_ ((Cert.ReceiveReferenceIdeal.Recv.G4_apply (m ((c : Thread nD τ).loc main_arg0)) (m ((c : Thread nD τ).loc main_arg1)) (m ((c : Thread nD τ).loc main_arg2)) (m ((c : Thread nD τ).loc main_arg3)) (y 0) (y 1)).symm.trans (congrArg (Cert.ReceiveReferenceIdeal.Value.G4 (F := Ideal) (m ((c : Thread nD τ).loc main_arg0)) (m ((c : Thread nD τ).loc main_arg1)) (m ((c : Thread nD τ).loc main_arg2)) (m ((c : Thread nD τ).loc main_arg3))) (ix_full y).symm))
  exact congrFun (Hrow_eq m c (y 0)) (y 1)

/-- The kernel's codes are the reference's. -/
theorem codes_eq : codes m c = Cert.ReceiveReferenceIdeal.Value.G5 (m ((c : Thread nD τ).loc main_arg0)) (m ((c : Thread nD τ).loc main_arg1)) (m ((c : Thread nD τ).loc main_arg2)) (m ((c : Thread nD τ).loc main_arg3)) := by
  funext y
  refine Eq.trans ?_ ((Cert.ReceiveReferenceIdeal.Recv.G5_apply (m ((c : Thread nD τ).loc main_arg0)) (m ((c : Thread nD τ).loc main_arg1)) (m ((c : Thread nD τ).loc main_arg2)) (m ((c : Thread nD τ).loc main_arg3)) (y 0) (y 1)).symm.trans (congrArg (Cert.ReceiveReferenceIdeal.Value.G5 (F := Ideal) (m ((c : Thread nD τ).loc main_arg0)) (m ((c : Thread nD τ).loc main_arg1)) (m ((c : Thread nD τ).loc main_arg2)) (m ((c : Thread nD τ).loc main_arg3))) (ix_full y).symm))
  exact congrArg (fun f : Fin 12288 → EReal => Cert.Rows.code (f (y 1)) (Cert.Rows.rowScale (Cert.Rows.rowMax f))) (Vrow_eq m c (y 0))

/-- The kernel's scales are the reference's. -/
theorem scales_eq : scales m c = Cert.ReceiveReferenceIdeal.Value.G6 (m ((c : Thread nD τ).loc main_arg0)) (m ((c : Thread nD τ).loc main_arg1)) (m ((c : Thread nD τ).loc main_arg2)) (m ((c : Thread nD τ).loc main_arg3)) := by
  funext y
  have hy : y = ix2 (n0 := 480) (n1 := 1) (y 0) 0 := by
    funext b
    match b with
    | ⟨0, _⟩ => rfl
    | ⟨1, _⟩ => exact Fin.ext (by have : (y 1).val < 1 := (y 1).isLt; show (y 1).val = 0; omega)
  refine Eq.trans ?_ ((Cert.ReceiveReferenceIdeal.Recv.G6_apply (m ((c : Thread nD τ).loc main_arg0)) (m ((c : Thread nD τ).loc main_arg1)) (m ((c : Thread nD τ).loc main_arg2)) (m ((c : Thread nD τ).loc main_arg3)) (y 0)).symm.trans (congrArg (Cert.ReceiveReferenceIdeal.Value.G6 (F := Ideal) (m ((c : Thread nD τ).loc main_arg0)) (m ((c : Thread nD τ).loc main_arg1)) (m ((c : Thread nD τ).loc main_arg2)) (m ((c : Thread nD τ).loc main_arg3))) hy.symm))
  exact congrArg (fun f : Fin 12288 → EReal => Cert.Rows.rowScale (Cert.Rows.rowMax f)) (Vrow_eq m c (y 0))

end Cert.ReceiveIdeal.Recv
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownReferenceIdeal.Value
public import proofs.«01_k».proof.Proof.Gen.Receive
public import proofs.«01_k».proof.Proof.Gen.Receive.Skeleton
public import proofs.«01_k».proof.Proof.Gen.Receive.Launch
public import proofs.«01_k».proof.Proof.Gen.Receive.Points
public import proofs.«01_k».proof.Proof.Gen.Receive.Frame
public import proofs.«01_k».proof.Proof.Gen.ReceiveIdeal
public import proofs.«01_k».proof.Proof.Gen.ReceiveIdeal.Skeleton
public import proofs.«01_k».proof.Proof.Gen.ReceiveIdeal.Launch
public import proofs.«01_k».proof.Proof.Gen.ReceiveIdeal.Points
public import proofs.«01_k».proof.Proof.Gen.ReceiveIdeal.Frame
public import proofs.«01_k».proof.Proof.Gen.ReceiveReferenceIdeal
public import proofs.«01_k».proof.Proof.Gen.ReceiveReferenceIdeal.Skeleton
public import proofs.«01_k».proof.Proof.Gen.ReceiveReferenceIdeal.Launch
public import proofs.«01_k».proof.Proof.Gen.ReceiveReferenceIdeal.Points
public import proofs.«01_k».proof.Proof.Gen.ReceiveReferenceIdeal.Frame
public import proofs.«01_k».proof.Proof.Gen.ReceiveReferenceIdeal.Value
public import proofs.«01_k».proof.Proof.GateUpBits.Launch
public import proofs.«01_k».proof.Proof.GateUp.Equal
public import proofs.«01_k».proof.Proof.DownBits.Region
public import proofs.«01_k».proof.Proof.Down.Equal
public import proofs.«01_k».proof.Proof.Recv.Equal
public import Idealize.ShloMosaic.Adequacy
public import Idealize.ShloMosaic.Init

@[expose] public section

noncomputable section

namespace Cert.Proof

open Idealize.ShloMosaic Idealize.SL.Sem

/-- The kernel and the reference end with the same codes and the same scales. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.GateUp.codes (Cert.KernelIdeal.Gen.V m) c, fun c => Cert.KernelIdeal.GateUp.scales (Cert.KernelIdeal.Gen.V m) c, ?_, ?_⟩
  · refine (θ_run _ _ _).mono (fun r h c => ?_) (Cert.KernelIdeal.GateUp.run m g)
    obtain ⟨h6, h7, hr⟩ := h c
    exact ⟨h6.trans (Cert.KernelIdeal.GateUp.final6 _ c), h7.trans (Cert.KernelIdeal.GateUp.final7 _ c), hr⟩
  · refine (θ_run _ _ _).mono (fun r h c => ?_) (Cert.ReferenceIdeal.Value.run m' g')
    obtain ⟨h6, h7, hr⟩ := h c
    obtain ⟨e0, e1, e2, e3, e4, e5⟩ := hargs c
    refine ⟨h6.trans ?_, h7.trans ?_, hr⟩
    · show _ = Cert.KernelIdeal.GateUp.codes (Cert.KernelIdeal.Gen.V m) c
      rw [Cert.KernelIdeal.GateUp.codes_eq, ← e0, ← e1, ← e2, ← e3, ← e4, ← e5]
    · show _ = Cert.KernelIdeal.GateUp.scales (Cert.KernelIdeal.Gen.V m) c
      rw [Cert.KernelIdeal.GateUp.scales_eq, ← e0, ← e1, ← e2, ← e3, ← e4, ← e5]

/-- The down projection's kernel and reference end with the same codes and the same scales. -/
theorem algebraic_down : Cert.algebraic_DownIdeal_DownReferenceIdeal (hDownIdeal := Cert.DownIdeal.Gen.facts) (hDownReferenceIdeal := Cert.DownReferenceIdeal.Gen.facts) := by
  intro m g m' g' _ hargs
  refine ⟨fun c => Cert.DownIdeal.Down.codes m c, fun c => Cert.DownIdeal.Down.scales m c, ?_, ?_⟩
  · refine (θ_run _ _ _).mono (fun r h c => ?_) (Cert.DownIdeal.Down.run m g)
    obtain ⟨⟨after, hL, h4, h5⟩, hr⟩ := h c
    exact ⟨h4.trans (Cert.DownIdeal.Down.final4 m c after hL), h5.trans (Cert.DownIdeal.Down.final5 m c after hL), hr⟩
  · refine (θ_run _ _ _).mono (fun r h c => ?_) (Cert.DownReferenceIdeal.Value.run m' g')
    obtain ⟨h4, h5, hr⟩ := h c
    obtain ⟨e0, e1, e2, e3⟩ := hargs c
    refine ⟨h4.trans ?_, h5.trans ?_, hr⟩
    · show _ = Cert.DownIdeal.Down.codes m c
      rw [Cert.DownIdeal.Down.codes_eq, ← e0, ← e1, ← e2, ← e3]
    · show _ = Cert.DownIdeal.Down.scales m c
      rw [Cert.DownIdeal.Down.scales_eq, ← e0, ← e1, ← e2, ← e3]

/-- The receiving call's kernel and reference end with the same residual, the same codes and the same scales. -/
theorem algebraic_receive : Cert.algebraic_ReceiveIdeal_ReceiveReferenceIdeal (hReceiveIdeal := Cert.ReceiveIdeal.Gen.facts) (hReceiveReferenceIdeal := Cert.ReceiveReferenceIdeal.Gen.facts) := by
  intro m g m' g' _ hargs
  refine ⟨fun c => Cert.ReceiveIdeal.Recv.res m c, fun c => Cert.ReceiveIdeal.Recv.codes m c, fun c => Cert.ReceiveIdeal.Recv.scales m c, ?_, ?_⟩
  · refine (θ_run _ _ _).mono (fun r h c => ?_) (Cert.ReceiveIdeal.Recv.run m g)
    obtain ⟨h4, h5, h6, hr⟩ := h c
    exact ⟨h4.trans (Cert.ReceiveIdeal.Recv.final4 m c), h5.trans (Cert.ReceiveIdeal.Recv.final5 m c), h6.trans (Cert.ReceiveIdeal.Recv.final6 m c), hr⟩
  · refine (θ_run _ _ _).mono (fun r h c => ?_) (Cert.ReceiveReferenceIdeal.Value.run m' g')
    obtain ⟨h4, h5, h6, hr⟩ := h c
    obtain ⟨e0, e1, e2, e3⟩ := hargs c
    refine ⟨h4.trans ?_, h5.trans ?_, h6.trans ?_, hr⟩
    · show _ = Cert.ReceiveIdeal.Recv.res m c
      rw [Cert.ReceiveIdeal.Recv.res_eq, ← e0, ← e1, ← e2, ← e3]
    · show _ = Cert.ReceiveIdeal.Recv.codes m c
      rw [Cert.ReceiveIdeal.Recv.codes_eq, ← e0, ← e1, ← e2, ← e3]
    · show _ = Cert.ReceiveIdeal.Recv.scales m c
      rw [Cert.ReceiveIdeal.Recv.scales_eq, ← e0, ← e1, ← e2, ← e3]

theorem claim : Cert.Claim :=
  ⟨Cert.Kernel.Gen.facts, Cert.KernelIdeal.Gen.facts, Cert.ReferenceIdeal.Gen.facts,
    Cert.Down.Gen.facts, Cert.DownIdeal.Gen.facts, Cert.DownReferenceIdeal.Gen.facts,
    Cert.Receive.Gen.facts, Cert.ReceiveIdeal.Gen.facts, Cert.ReceiveReferenceIdeal.Gen.facts,
    fun m ρ _ => Cert.Kernel.GateUp.frame m ρ,
    fun m ρ _ => Cert.KernelIdeal.GateUp.frame m ρ,
    fun m ρ _ => Cert.ReferenceIdeal.Gen.frame m ρ,
    fun m ρ _ => Cert.Down.Down.frame m ρ,
    fun m ρ _ => Cert.DownIdeal.Down.frame m ρ,
    fun m ρ _ => Cert.DownReferenceIdeal.Gen.frame m ρ,
    fun m ρ _ => Cert.Receive.Gen.frame m ρ,
    fun m ρ _ => Cert.ReceiveIdeal.Gen.frame m ρ,
    fun m ρ _ => Cert.ReceiveReferenceIdeal.Gen.frame m ρ,
    trivial, algebraic, trivial, algebraic_down, trivial, algebraic_receive⟩

end Cert.Proof

end
